-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0))).1 = (fun _ => 1#1)
    ∧ (Cert.Pre_finite_queries_and_keys.fn (F := Ideal) (m ((c.tc : Thread Cert.KernelIdeal.nD Cert.KernelIdeal.τ).loc Cert.KernelIdeal.main_arg0))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0))).1 = (fun _ => 1#1)
    ∧ (Cert.Pre_finite_queries_and_keys.fn (F := Ideal) (m ((c.tc : Thread Cert.ReferenceIdeal.nD Cert.ReferenceIdeal.τ).loc Cert.ReferenceIdeal.main_arg0))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_queries_keys_sinks_below_infinity [hPre_finite_queries_keys_sinks_below_infinity : Cert.Pre_finite_queries_keys_sinks_below_infinity.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_queries_keys_sinks_below_infinity.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))).1 = (fun _ => 1#1)
    ∧ (Cert.Pre_finite_queries_keys_sinks_below_infinity.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))).2.1 = (fun _ => 1#1)
    ∧ (Cert.Pre_finite_queries_keys_sinks_below_infinity.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_queries_keys_sinks_below_infinity [hPre_finite_queries_keys_sinks_below_infinity : Cert.Pre_finite_queries_keys_sinks_below_infinity.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_queries_keys_sinks_below_infinity.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))).1 = (fun _ => 1#1)
    ∧ (Cert.Pre_finite_queries_keys_sinks_below_infinity.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))).2.1 = (fun _ => 1#1)
    ∧ (Cert.Pre_finite_queries_keys_sinks_below_infinity.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Kernel8Ideal_pre_finite_queries_keys_sinks_below_infinity [hKernel8Ideal : Cert.Kernel8Ideal.Facts] [hPre_finite_queries_keys_sinks_below_infinity : Cert.Pre_finite_queries_keys_sinks_below_infinity.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_queries_keys_sinks_below_infinity m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Reference8Ideal_pre_finite_queries_keys_sinks_below_infinity [hReference8Ideal : Cert.Reference8Ideal.Facts] [hPre_finite_queries_keys_sinks_below_infinity : Cert.Pre_finite_queries_keys_sinks_below_infinity.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_queries_keys_sinks_below_infinity m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v14_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v14_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_v55) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal_pre_finite_queries_keys_sinks_below_infinity [hKernel8Ideal : Cert.Kernel8Ideal.Facts] [hReference8Ideal : Cert.Reference8Ideal.Facts] [hPre_finite_queries_keys_sinks_below_infinity : Cert.Pre_finite_queries_keys_sinks_below_infinity.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_queries_keys_sinks_below_infinity m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v35)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v35) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v111) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_queries_and_keys : Cert.Pre_finite_queries_and_keys.Facts) (hPre_finite_queries_keys_sinks_below_infinity : Cert.Pre_finite_queries_keys_sinks_below_infinity.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_queries_keys_sinks_below_infinity (hKernel8Ideal := hKernel8Ideal) (hPre_finite_queries_keys_sinks_below_infinity := hPre_finite_queries_keys_sinks_below_infinity)
    ∧ quiescent_Reference8Ideal (hReference8Ideal := hReference8Ideal)
    ∧ quiescent_Reference8Ideal_pre_finite_queries_keys_sinks_below_infinity (hReference8Ideal := hReference8Ideal) (hPre_finite_queries_keys_sinks_below_infinity := hPre_finite_queries_keys_sinks_below_infinity)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_queries_keys_sinks_below_infinity (hKernel8Ideal := hKernel8Ideal) (hReference8Ideal := hReference8Ideal) (hPre_finite_queries_keys_sinks_below_infinity := hPre_finite_queries_keys_sinks_below_infinity)
-- ==== Pre_finite_queries_and_keys.lean ====
abbrev S8x4096x9216 : Shape := ⟨3, ![8, 4096, 9216]⟩
abbrev S8x4096x1024 : Shape := ⟨3, ![8, 4096, 1024]⟩
abbrev S_ : Shape := ⟨0, ![]⟩

class Facts : Prop where
  slices_S8x4096x9216_S8x4096x1024_0_0_0 : S8x4096x9216.Slices ![0, 0, 0] S8x4096x1024
  bcast_S_S8x4096x1024 : S_.BroadcastsInDim S8x4096x1024 (![] : Fin 0 → Fin S8x4096x1024.rank)
  slices_S8x4096x9216_S8x4096x1024_0_0_3072 : S8x4096x9216.Slices ![0, 0, 3072] S8x4096x1024

variable [Facts]

def fn {F : FTy → Type} [FloatOps F] (main_arg0 : FVec F S8x4096x9216 .f32) : IVec S8x4096x1024 1 × IVec S8x4096x1024 1 :=
  let main_v0 : FVec F S8x4096x1024 .f32 := (extractStridedSlice S8x4096x1024 ![0, 0, 0] · slices_S8x4096x9216_S8x4096x1024_0_0_0) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_v4 : FVec F S8x4096x1024 .f32 := (extractStridedSlice S8x4096x1024 ![0, 0, 3072] · slices_S8x4096x9216_S8x4096x1024_0_0_3072) main_arg0
  let main_v5 : FVec F S8x4096x1024 .f32 := Host.absf main_v4
  let main_cst_0 : FVec F S_ .f32 := constant S_ .f32 0x7F800000#32
  let main_v6 : FVec F S8x4096x1024 .f32 := broadcastInDim S8x4096x1024 ![] bcast_S_S8x4096x1024 main_cst_0
  let main_v7 : IVec S8x4096x1024 1 := cmpf .olt main_v5 main_v6
  (main_v3, main_v7)
-- ==== Pre_finite_queries_keys_sinks_below_infinity.lean ====
abbrev S8x4096x6656 : Shape := ⟨3, ![8, 4096, 6656]⟩
abbrev S16 : Shape := ⟨1, ![16]⟩
abbrev S8x4096x1024 : Shape := ⟨3, ![8, 4096, 1024]⟩
abbrev S_ : Shape := ⟨0, ![]⟩
abbrev S8x4096x128 : Shape := ⟨3, ![8, 4096, 128]⟩

class Facts : Prop where
  slices_S8x4096x6656_S8x4096x1024_0_0_5120 : S8x4096x6656.Slices ![0, 0, 5120] S8x4096x1024
  bcast_S_S8x4096x1024 : S_.BroadcastsInDim S8x4096x1024 (![] : Fin 0 → Fin S8x4096x1024.rank)
  slices_S8x4096x6656_S8x4096x128_0_0_6144 : S8x4096x6656.Slices ![0, 0, 6144] S8x4096x128
  bcast_S_S8x4096x128 : S_.BroadcastsInDim S8x4096x128 (![] : Fin 0 → Fin S8x4096x128.rank)
  bcast_S_S16 : S_.BroadcastsInDim S16 (![] : Fin 0 → Fin S16.rank)

variable [Facts]

def fn {F : FTy → Type} [FloatOps F] (main_arg0 : FVec F S8x4096x6656 .f32) (main_arg1 : FVec F S16 .f32) : IVec S8x4096x1024 1 × IVec S8x4096x128 1 × IVec S16 1 :=
  let main_v0 : FVec F S8x4096x1024 .f32 := (extractStridedSlice S8x4096x1024 ![0, 0, 5120] · slices_S8x4096x6656_S8x4096x1024_0_0_5120) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_v4 : FVec F S8x4096x128 .f32 := (extractStridedSlice S8x4096x128 ![0, 0, 6144] · slices_S8x4096x6656_S8x4096x128_0_0_6144) main_arg0
  let main_v5 : FVec F S8x4096x128 .f32 := Host.absf main_v4
  let main_cst_0 : FVec F S_ .f32 := constant S_ .f32 0x7F800000#32
  let main_v6 : FVec F S8x4096x128 .f32 := broadcastInDim S8x4096x128 ![] bcast_S_S8x4096x128 main_cst_0
  let main_v7 : IVec S8x4096x128 1 := cmpf .olt main_v5 main_v6
  let main_cst_1 : FVec F S_ .f32 := constant S_ .f32 0x7F800000#32
  let main_v8 : FVec F S16 .f32 := broadcastInDim S16 ![] bcast_S_S16 main_cst_1
  let main_v9 : IVec S16 1 := cmpf .olt main_arg1 main_v8
  (main_v3, main_v7, main_v9)
-- ==== Kernel.lean ====
abbrev S8x4096x9216 : Shape := ⟨3, ![8, 4096, 9216]⟩
abbrev S2x16x128x256 : Shape := ⟨4, ![2, 16, 128, 256]⟩
abbrev S_ : Shape := ⟨0, ![]⟩
abbrev S16 : Shape := ⟨1, ![16]⟩
abbrev S1x16x1x1 : Shape := ⟨4, ![1, 16, 1, 1]⟩
abbrev S8x4096x1024 : Shape := ⟨3, ![8, 4096, 1024]⟩
abbrev S1x128x1024 : Shape := ⟨3, ![1, 128, 1024]⟩
abbrev S128x128 : Shape := ⟨2, ![128, 128]⟩
abbrev S256x128 : Shape := ⟨2, ![256, 128]⟩
abbrev S1x128x128 : Shape := ⟨3, ![1, 128, 128]⟩
abbrev S256x256 : Shape := ⟨2, ![256, 256]⟩
abbrev S128x256 : Shape := ⟨2, ![128, 256]⟩
abbrev S1x1x128x256 : Shape := ⟨4, ![1, 1, 128, 256]⟩
abbrev S128 : Shape := ⟨1, ![128]⟩
abbrev S128x1 : Shape := ⟨2, ![128, 1]⟩
abbrev S128x512 : Shape := ⟨2, ![128, 512]⟩
abbrev S512x128 : Shape := ⟨2, ![512, 128]⟩

abbrev nBuf : Space → Nat
  | .hbm => 51
  | .vmem => 15
  | .smem => 0
  | _ => 0

abbrev bufTy : (tb : Table) → Fin (tcTables nBuf tb) → BufTy
  | .hbm, ⟨0, _⟩ => ⟨S8x4096x9216, .f32⟩
  | .hbm, ⟨1, _⟩ => ⟨S2x16x128x256, .i32⟩
  | .hbm, ⟨2, _⟩ => ⟨S_, .i32⟩
  | .hbm, ⟨3, _⟩ => ⟨S2x16x128x256, .i32⟩
  | .hbm, ⟨4, _⟩ => ⟨S2x16x128x256, .i32⟩
  | .hbm, ⟨5, _⟩ => ⟨S2x16x128x256, .i32⟩
  | .hbm, ⟨6, _⟩ => ⟨S2x16x128x256, .i32⟩
  | .hbm, ⟨7, _⟩ => ⟨S_, .i32⟩
  | .hbm, ⟨8, _⟩ => ⟨S2x16x128x256, .i32⟩
  | .hbm, ⟨9, _⟩ => ⟨S2x16x128x256, .i1⟩
  | .hbm, ⟨10, _⟩ => ⟨S_, .i32⟩
  | .hbm, ⟨11, _⟩ => ⟨S2x16x128x256, .i32⟩
  | .hbm, ⟨12, _⟩ => ⟨S2x16x128x256, .i1⟩
  | .hbm, ⟨13, _⟩ => ⟨S2x16x128x256, .i1⟩
  | .hbm, ⟨14, _⟩ => ⟨S2x16x128x256, .i32⟩
  | .hbm, ⟨15, _⟩ => ⟨S_, .i32⟩
  | .hbm, ⟨16, _⟩ => ⟨S2x16x128x256, .i32⟩
  | .hbm, ⟨17, _⟩ => ⟨S2x16x128x256, .i1⟩
  | .hbm, ⟨18, _⟩ => ⟨S2x16x128x256, .i32⟩
  | .hbm, ⟨19, _⟩ => ⟨S_, .i32⟩
  | .hbm, ⟨20, _⟩ => ⟨S2x16x128x256, .i32⟩
  | .hbm, ⟨21, _⟩ => ⟨S2x16x128x256, .i1⟩
  | .hbm, ⟨22, _⟩ => ⟨S2x16x128x256, .i1⟩
  | .hbm, ⟨23, _⟩ => ⟨S2x16x128x256, .i1⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S1x16x1x1, .f32⟩
  | .hbm, ⟨38, _⟩ => ⟨S1x16x1x1, .f32⟩
  | .hbm, ⟨39, _⟩ => ⟨S_, .i32⟩
  | .hbm, ⟨40, _⟩ => ⟨S2x16x128x256, .i32⟩
  | .hbm, ⟨41, _⟩ => ⟨S2x16x128x256, .i32⟩
  | .hbm, ⟨42, _⟩ => ⟨S2x16x128x256, .f32⟩
  | .hbm, ⟨43, _⟩ => ⟨S2x16x128x256, .f32⟩
  | .hbm, ⟨44, _⟩ => ⟨S2x16x128x256, .f32⟩
  | .hbm, ⟨45, _⟩ => ⟨S_, .f32⟩
  | .hbm, ⟨46, _⟩ => ⟨S_, .f32⟩
  | .hbm, ⟨47, _⟩ => ⟨S2x16x128x256, .f32⟩
  | .hbm, ⟨48, _⟩ => ⟨S2x16x128x256, .f32⟩
  | .hbm, ⟨49, _⟩ => ⟨S8x4096x1024, .f32⟩
  | .hbm, ⟨50, _⟩ => ⟨S8x4096x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S2x16x128x256, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | _, _ => ⟨S8x4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_call0_v0 : Ref sig .tc := ⟨.hbm, 46, rfl⟩
abbrev main_call0_v1 : Ref sig .tc := ⟨.hbm, 47, rfl⟩
abbrev main_v34 : Ref sig .tc := ⟨.hbm, 48, rfl⟩
abbrev main_v35_0 : Ref sig .tc := ⟨.hbm, 49, rfl⟩
abbrev main_v35_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![8, 32, 1], ![false, false, false]⟩

def k0_off1 (i : grid0.Coords) (c0_i32_18 : BitVec 32) (c0_i32_19 : BitVec 32) : Fin 4 → Nat :=
  let arg1 : BitVec 32 := BitVec.ofNat 32 (i 1).val
  let c0_i32 : BitVec 32 := 0#32
  let v0 : BitVec 1 := Scalar.cmpi .eq arg1 c0_i32
  let v1 : BitVec 32 := Scalar.extui v0
  let v34 : Index := Scalar.indexCast v1
  let arg2 : BitVec 32 := BitVec.ofNat 32 (i 2).val
  let c16_i32 : BitVec 32 := 16#32
  let v2 : BitVec 32 := Scalar.muli arg2 c16_i32
  let v31 : BitVec 32 := Scalar.addi v2 c0_i32_18
  let v32 : BitVec 32 := Scalar.addi v31 c0_i32_19
  let v35 : Index := Scalar.indexCast v32
  let c0_20 : Index := 0#32
  let c0_21 : Index := 0#32
  ![v34.toNat, v35.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg2
  let c0_i32 : BitVec 32 := 0#32
  ![arg0.toNat, arg1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg2
  let c0_i32 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let v2 : BitVec 32 := Scalar.addi c3_i32 arg2
  let c0_i32_0 : BitVec 32 := 0#32
  ![arg0.toNat, v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c6_i32 : BitVec 32 := 6#32
  let v2 : BitVec 32 := Scalar.addi c6_i32 arg2
  let c0_i32_0 : BitVec 32 := 0#32
  ![arg0.toNat, v1.toNat, v2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S2x16x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S8x4096x9216 : Shape := ⟨3, ![8, 4096, 9216]⟩
abbrev S8x4096x3072 : Shape := ⟨3, ![8, 4096, 3072]⟩
abbrev S8x4096x3x16x1x64 : Shape := ⟨6, ![8, 4096, 3, 16, 1, 64]⟩
abbrev S8x4096x3x16x64 : Shape := ⟨5, ![8, 4096, 3, 16, 64]⟩
abbrev S16 : Shape := ⟨1, ![16]⟩
abbrev S_ : Shape := ⟨0, ![]⟩
abbrev S8x4096x1x16x1x64 : Shape := ⟨6, ![8, 4096, 1, 16, 1, 64]⟩
abbrev S8x4096x16x1x64 : Shape := ⟨5, ![8, 4096, 16, 1, 64]⟩
abbrev S8x4096x1x16x64 : Shape := ⟨5, ![8, 4096, 1, 16, 64]⟩
abbrev S8x4096x16x64 : Shape := ⟨4, ![8, 4096, 16, 64]⟩
abbrev S8x1x4096x16x1x64 : Shape := ⟨6, ![8, 1, 4096, 16, 1, 64]⟩
abbrev S8x32x128x16x1x64 : Shape := ⟨6, ![8, 32, 128, 16, 1, 64]⟩
abbrev S8x1x4096x16x64 : Shape := ⟨5, ![8, 1, 4096, 16, 64]⟩
abbrev S8x32x128x16x64 : Shape := ⟨5, ![8, 32, 128, 16, 64]⟩
abbrev S8x31x128x16x64 : Shape := ⟨5, ![8, 31, 128, 16, 64]⟩
abbrev S8x32x256x16x64 : Shape := ⟨5, ![8, 32, 256, 16, 64]⟩
abbrev S8x32x16x256x128x1 : Shape := ⟨6, ![8, 32, 16, 256, 128, 1]⟩
abbrev S8x32x128x16x1x256 : Shape := ⟨6, ![8, 32, 128, 16, 1, 256]⟩
abbrev S256 : Shape := ⟨1, ![256]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S1x128x256 : Shape := ⟨3, ![1, 128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S32x128x256 : Shape := ⟨3, ![32, 128, 256]⟩
abbrev S16x1 : Shape := ⟨2, ![16, 1]⟩
abbrev S1x16x1x1 : Shape := ⟨4, ![1, 16, 1, 1]⟩
abbrev S128x1x1x256 : Shape := ⟨4, ![128, 1, 1, 256]⟩
abbrev S128x16x1x256 : Shape := ⟨4, ![128, 16, 1, 256]⟩
abbrev S1x32x128x1x1x256 : Shape := ⟨6, ![1, 32, 128, 1, 1, 256]⟩
abbrev S1x1x128x16x1x256 : Shape := ⟨6, ![1, 1, 128, 16, 1, 256]⟩
abbrev S8x32x128x16x1 : Shape := ⟨5, ![8, 32, 128, 16, 1]⟩
abbrev S8x32x128x16x1x1 : Shape := ⟨6, ![8, 32, 128, 16, 1, 1]⟩
abbrev S8x32x16x64x128x1 : Shape := ⟨6, ![8, 32, 16, 64, 128, 1]⟩
abbrev S8x1x4096x16x1 : Shape := ⟨5, ![8, 1, 4096, 16, 1]⟩
abbrev S8x4096x1x16x1 : Shape := ⟨5, ![8, 4096, 1, 16, 1]⟩
abbrev S8x4096x16x1 : Shape := ⟨4, ![8, 4096, 16, 1]⟩
abbrev S8x4096x16x1x1 : Shape := ⟨5, ![8, 4096, 16, 1, 1]⟩
abbrev S8x4096x1024 : Shape := ⟨3, ![8, 4096, 1024]⟩

abbrev nBuf : Space → Nat
  | .hbm => 140
  | .vmem => 0
  | .smem => 0
  | _ => 0

abbrev hbmTy0_0 (i : Nat) : BufTy := match i % 128 with
  | 0 => ⟨S8x4096x9216, .f32⟩
  | 1 => ⟨S8x4096x3072, .f32⟩
  | 2 => ⟨S8x4096x3x16x1x64, .f32⟩
  | 3 => ⟨S8x4096x3072, .f32⟩
  | 4 => ⟨S8x4096x3x16x64, .f32⟩
  | 5 => ⟨S8x4096x3072, .f32⟩
  | 6 => ⟨S8x4096x3x16x64, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S8x4096x1x16x1x64, .f32⟩
  | 21 => ⟨S8x4096x16x1x64, .f32⟩
  | 22 => ⟨S8x4096x1x16x64, .f32⟩
  | 23 => ⟨S8x4096x16x64, .f32⟩
  | 24 => ⟨S8x4096x1x16x64, .f32⟩
  | 25 => ⟨S8x4096x16x64, .f32⟩
  | 26 => ⟨S_, .i32⟩
  | 27 => ⟨S_, .f32⟩
  | 28 => ⟨S8x4096x16x1x64, .f32⟩
  | 29 => ⟨S8x4096x1x16x1x64, .f32⟩
  | 30 => ⟨S8x1x4096x16x1x64, .f32⟩
  | 31 => ⟨S8x4096x16x1x64, .f32⟩
  | 32 => ⟨S8x32x128x16x1x64, .f32⟩
  | 33 => ⟨S_, .i32⟩
  | 34 => ⟨S_, .f32⟩
  | 35 => ⟨S8x4096x16x64, .f32⟩
  | 36 => ⟨S8x4096x1x16x64, .f32⟩
  | 37 => ⟨S8x1x4096x16x64, .f32⟩
  | 38 => ⟨S8x4096x16x64, .f32⟩
  | 39 => ⟨S8x32x128x16x64, .f32⟩
  | 40 => ⟨S8x31x128x16x64, .f32⟩
  | 41 => ⟨S_, .i32⟩
  | 42 => ⟨S_, .f32⟩
  | 43 => ⟨S8x32x128x16x64, .f32⟩
  | 44 => ⟨S8x32x256x16x64, .f32⟩
  | 45 => ⟨S_, .i32⟩
  | 46 => ⟨S_, .f32⟩
  | 47 => ⟨S8x4096x16x64, .f32⟩
  | 48 => ⟨S8x4096x1x16x64, .f32⟩
  | 49 => ⟨S8x1x4096x16x64, .f32⟩
  | 50 => ⟨S8x4096x16x64, .f32⟩
  | 51 => ⟨S8x32x128x16x64, .f32⟩
  | 52 => ⟨S8x31x128x16x64, .f32⟩
  | 53 => ⟨S_, .i32⟩
  | 54 => ⟨S_, .f32⟩
  | 55 => ⟨S8x32x128x16x64, .f32⟩
  | 56 => ⟨S8x32x256x16x64, .f32⟩
  | 57 => ⟨S8x32x16x256x128x1, .f32⟩
  | 58 => ⟨S8x32x128x16x1x256, .f32⟩
  | 59 => ⟨S_, .f32⟩
  | 60 => ⟨S8x32x128x16x1x256, .f32⟩
  | 61 => ⟨S8x32x128x16x1x256, .f32⟩
  | 62 => ⟨S256, .i32⟩
  | 63 => ⟨S128, .i32⟩
  | 64 => ⟨S128x1, .i32⟩
  | 65 => ⟨S_, .i32⟩
  | 66 => ⟨S128x1, .i32⟩
  | 67 => ⟨S128x1, .i32⟩
  | 68 => ⟨S1x256, .i32⟩
  | 69 => ⟨S128x256, .i32⟩
  | 70 => ⟨S128x256, .i32⟩
  | 71 => ⟨S128x256, .i32⟩
  | 72 => ⟨S_, .i32⟩
  | 73 => ⟨S128x256, .i32⟩
  | 74 => ⟨S128x256, .i1⟩
  | 75 => ⟨S_, .i32⟩
  | 76 => ⟨S128x256, .i32⟩
  | 77 => ⟨S128x256, .i1⟩
  | 78 => ⟨S128x256, .i1⟩
  | 79 => ⟨S1x128x256, .i1⟩
  | 80 => ⟨S32, .i32⟩
  | 81 => ⟨S_, .i32⟩
  | 82 => ⟨S32, .i32⟩
  | 83 => ⟨S32, .i1⟩
  | 84 => ⟨S32x1x1, .i1⟩
  | 85 => ⟨S_, .i32⟩
  | 86 => ⟨S256, .i32⟩
  | 87 => ⟨S256, .i1⟩
  | 88 => ⟨S1x1x256, .i1⟩
  | 89 => ⟨S32x1x256, .i1⟩
  | 90 => ⟨S32x1x256, .i1⟩
  | 91 => ⟨S32x1x256, .i1⟩
  | 92 => ⟨S32x128x256, .i1⟩
  | 93 => ⟨S32x128x256, .i1⟩
  | 94 => ⟨S32x128x256, .i1⟩
  | 95 => ⟨S16x1, .f32⟩
  | 96 => ⟨S1x16x1x1, .f32⟩
  | 97 => ⟨S_, .i32⟩
  | 98 => ⟨S128x256, .i32⟩
  | 99 => ⟨S128x256, .i32⟩
  | 100 => ⟨S128x256, .f32⟩
  | 101 => ⟨S128x1x1x256, .f32⟩
  | 102 => ⟨S128x16x1x256, .f32⟩
  | 103 => ⟨S128x16x1x256, .f32⟩
  | 104 => ⟨S128x16x1x256, .f32⟩
  | 105 => ⟨S128x16x1x256, .f32⟩
  | 106 => ⟨S1x32x128x1x1x256, .i1⟩
  | 107 => ⟨S1x1x128x16x1x256, .f32⟩
  | 108 => ⟨S8x32x128x16x1x256, .f32⟩
  | 109 => ⟨S8x32x128x16x1x256, .f32⟩
  | 110 => ⟨S_, .f32⟩
  | 111 => ⟨S_, .f32⟩
  | 112 => ⟨S8x32x128x16x1x256, .i1⟩
  | 113 => ⟨S8x32x128x16x1x256, .f32⟩
  | 114 => ⟨S8x32x128x16x1x256, .f32⟩
  | 115 => ⟨S_, .f32⟩
  | 116 => ⟨S8x32x128x16x1, .f32⟩
  | 117 => ⟨S8x32x128x16x1x1, .f32⟩
  | 118 => ⟨S8x32x128x16x1x256, .f32⟩
  | 119 => ⟨S8x32x128x16x1x256, .f32⟩
  | 120 => ⟨S8x32x128x16x1x256, .f32⟩
  | 121 => ⟨S_, .f32⟩
  | 122 => ⟨S8x32x128x16x1, .f32⟩
  | 123 => ⟨S8x32x128x16x1x1, .f32⟩
  | 124 => ⟨S8x32x128x16x1x256, .f32⟩
  | 125 => ⟨S8x32x128x16x1x256, .f32⟩
  | 126 => ⟨S8x32x128x16x1, .f32⟩
  | 127 => ⟨S8x32x128x16x1, .f32⟩
  | _ => ⟨S8x4096x9216, .f32⟩

abbrev hbmTy0_1 (i : Nat) : BufTy := match i % 128 with
  | 0 => ⟨S8x32x16x64x128x1, .f32⟩
  | 1 => ⟨S8x32x128x16x1x64, .f32⟩
  | 2 => ⟨S8x1x4096x16x1x64, .f32⟩
  | 3 => ⟨S8x4096x1x16x1x64, .f32⟩
  | 4 => ⟨S8x4096x16x1x64, .f32⟩
  | 5 => ⟨S8x1x4096x16x1, .f32⟩
  | 6 => ⟨S8x4096x1x16x1, .f32⟩
  | 7 => ⟨S8x4096x16x1, .f32⟩
  | 8 => ⟨S8x4096x16x1x1, .f32⟩
  | 9 => ⟨S8x4096x16x1x64, .f32⟩
  | 10 => ⟨S8x4096x1024, .f32⟩
  | 11 => ⟨S8x4096x1024, .f32⟩
  | _ => ⟨S8x4096x9216, .f32⟩

abbrev hbmTy (i : Nat) : BufTy := match i / 128 with
  | 0 => hbmTy0_0 i
  | 1 => hbmTy0_1 i
  | _ => ⟨S8x4096x9216, .f32⟩

abbrev bufTy : (tb : Table) → Fin (tcTables nBuf tb) → BufTy
  | .hbm, ⟨i, _⟩ => hbmTy i
  | _, _ => ⟨S8x4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_call0_v0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_3 : Ref sig .tc := ⟨.hbm, 33, rfl⟩
abbrev main_call1_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_4 : Ref sig .tc := ⟨.hbm, 41, rfl⟩
abbrev main_call2_v0 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_call3_v0 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_call4_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_9 : Ref sig .tc := ⟨.hbm, 72, rfl⟩
abbrev main_v55 : Ref sig .tc := ⟨.hbm, 73, rfl⟩
abbrev main_v56 : Ref sig .tc := ⟨.hbm, 74, rfl⟩
abbrev main_c_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_13 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_14 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_v88 : Ref sig .tc := ⟨.hbm, 114, rfl⟩
abbrev main_cst_15 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_16 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S32768x1024, .f32⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x1, .f32⟩
  | .hbm, ⟨39, _⟩ => ⟨S8x4096x1024, .f32⟩
  | .hbm, ⟨40, _⟩ => ⟨S8x4096x1024, .f32⟩
  | .hbm, ⟨41, _⟩ => ⟨S1x1x1024, .f32⟩
  | .hbm, ⟨42, _⟩ => ⟨S8x4096x1024, .f32⟩
  | .hbm, ⟨43, _⟩ => ⟨S8x4096x1024, .f32⟩
  | .hbm, ⟨44, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S32768x1024, .f32⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x1024, .f32⟩
  | .hbm, ⟨27, _⟩ => ⟨S8x4096x1024, .f32⟩
  | .hbm, ⟨28, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S1024x9216 : Shape := ⟨2, ![1024, 9216]⟩
abbrev S32768x1024 : Shape := ⟨2, ![32768, 1024]⟩
abbrev S1x1024 : Shape := ⟨2, ![1, 1024]⟩
abbrev S32768x9216 : Shape := ⟨2, ![32768, 9216]⟩
abbrev S256x1024 : Shape := ⟨2, ![256, 1024]⟩
abbrev S256x9216 : Shape := ⟨2, ![256, 9216]⟩
abbrev S256 : Shape := ⟨1, ![256]⟩
abbrev S256x1 : Shape := ⟨2, ![256, 1]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x9216, .f32⟩
  | .hbm, ⟨3, _⟩ => ⟨S1024x9216, .bf16⟩
  | .hbm, ⟨4, _⟩ => ⟨S32768x1024, .f32⟩
  | .hbm, ⟨5, _⟩ => ⟨S1x1024, .f32⟩
  | .hbm, ⟨6, _⟩ => ⟨S32768x9216, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x9216, .bf16⟩
  | .local _ .vmem, ⟨4, _⟩ => ⟨S256x9216, .f32⟩
  | .local _ .vmem, ⟨5, _⟩ => ⟨S256x9216, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x9216 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x9216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x4096x1024 : Shape := ⟨3, ![8, 4096, 1024]⟩
abbrev S1024 : Shape := ⟨1, ![1024]⟩
abbrev S1024x9216 : Shape := ⟨2, ![1024, 9216]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x9216 : Shape := ⟨3, ![8, 4096, 9216]⟩
abbrev S32768x9216 : Shape := ⟨2, ![32768, 9216]⟩

abbrev nBuf : Space → Nat
  | .hbm => 21
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x9216, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x9216, .f32⟩
  | .hbm, ⟨20, _⟩ => ⟨S32768x9216, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S8x4096x1024 : Shape := ⟨3, ![8, 4096, 1024]⟩
abbrev S1024 : Shape := ⟨1, ![1024]⟩
abbrev S1024x6432 : Shape := ⟨2, ![1024, 6432]⟩
abbrev S4x3072 : Shape := ⟨2, ![4, 3072]⟩
abbrev S3072 : Shape := ⟨1, ![3072]⟩
abbrev S1024x2048 : Shape := ⟨2, ![1024, 2048]⟩
abbrev S1024x512 : Shape := ⟨2, ![1024, 512]⟩
abbrev S1024x1024 : Shape := ⟨2, ![1024, 1024]⟩
abbrev S1024x128 : Shape := ⟨2, ![1024, 128]⟩
abbrev S1024x32 : Shape := ⟨2, ![1024, 32]⟩
abbrev S_ : Shape := ⟨0, ![]⟩
abbrev S1024x224 : Shape := ⟨2, ![1024, 224]⟩
abbrev S1024x6656 : Shape := ⟨2, ![1024, 6656]⟩
abbrev S32768x1024 : Shape := ⟨2, ![32768, 1024]⟩
abbrev S1x1024 : Shape := ⟨2, ![1, 1024]⟩
abbrev S1x3072 : Shape := ⟨2, ![1, 3072]⟩
abbrev S32768x6656 : Shape := ⟨2, ![32768, 6656]⟩
abbrev S8x8x3072 : Shape := ⟨3, ![8, 8, 3072]⟩
abbrev S512x1024 : Shape := ⟨2, ![512, 1024]⟩
abbrev S512x6656 : Shape := ⟨2, ![512, 6656]⟩
abbrev S1x8x3072 : Shape := ⟨3, ![1, 8, 3072]⟩
abbrev S8x3072 : Shape := ⟨2, ![8, 3072]⟩
abbrev S2x520x512 : Shape := ⟨3, ![2, 520, 512]⟩
abbrev S512 : Shape := ⟨1, ![512]⟩
abbrev S512x1 : Shape := ⟨2, ![512, 1]⟩
abbrev S512x512 : Shape := ⟨2, ![512, 512]⟩
abbrev S8x512 : Shape := ⟨2, ![8, 512]⟩
abbrev S1x520x512 : Shape := ⟨3, ![1, 520, 512]⟩
abbrev S520x512 : Shape := ⟨2, ![520, 512]⟩
abbrev S1x512 : Shape := ⟨2, ![1, 512]⟩

abbrev nBuf : Space → Nat
  | .hbm => 22
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6432, .f32⟩
  | .hbm, ⟨3, _⟩ => ⟨S4x3072, .f32⟩
  | .hbm, ⟨4, _⟩ => ⟨S3072, .f32⟩
  | .hbm, ⟨5, _⟩ => ⟨S1024x2048, .f32⟩
  | .hbm, ⟨6, _⟩ => ⟨S1024x2048, .f32⟩
  | .hbm, ⟨7, _⟩ => ⟨S1024x512, .f32⟩
  | .hbm, ⟨8, _⟩ => ⟨S1024x512, .f32⟩
  | .hbm, ⟨9, _⟩ => ⟨S1024x1024, .f32⟩
  | .hbm, ⟨10, _⟩ => ⟨S1024x128, .f32⟩
  | .hbm, ⟨11, _⟩ => ⟨S1024x128, .f32⟩
  | .hbm, ⟨12, _⟩ => ⟨S1024x32, .f32⟩
  | .hbm, ⟨13, _⟩ => ⟨S_, .f32⟩
  | .hbm, ⟨14, _⟩ => ⟨S1024x224, .f32⟩
  | .hbm, ⟨15, _⟩ => ⟨S1024x6656, .f32⟩
  | .hbm, ⟨16, _⟩ => ⟨S1024x6656, .bf16⟩
  | .hbm, ⟨17, _⟩ => ⟨S32768x1024, .f32⟩
  | .hbm, ⟨18, _⟩ => ⟨S1x1024, .f32⟩
  | .hbm, ⟨19, _⟩ => ⟨S1x3072, .f32⟩
  | .hbm, ⟨20, _⟩ => ⟨S32768x6656, .f32⟩
  | .hbm, ⟨21, _⟩ => ⟨S8x8x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6656, .bf16⟩
  | .local _ .vmem, ⟨4, _⟩ => ⟨S4x3072, .f32⟩
  | .local _ .vmem, ⟨5, _⟩ => ⟨S1x3072, .f32⟩
  | .local _ .vmem, ⟨6, _⟩ => ⟨S512x6656, .f32⟩
  | .local _ .vmem, ⟨7, _⟩ => ⟨S512x6656, .f32⟩
  | .local _ .vmem, ⟨8, _⟩ => ⟨S1x8x3072, .f32⟩
  | .local _ .vmem, ⟨9, _⟩ => ⟨S1x8x3072, .f32⟩
  | .local _ .vmem, ⟨10, _⟩ => ⟨S8x3072, .f32⟩
  | .local _ .vmem, ⟨11, _⟩ => ⟨S2x520x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x6656 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8x4096x1024 : Shape := ⟨3, ![8, 4096, 1024]⟩
abbrev S1024 : Shape := ⟨1, ![1024]⟩
abbrev S1024x6432 : Shape := ⟨2, ![1024, 6432]⟩
abbrev S4x3072 : Shape := ⟨2, ![4, 3072]⟩
abbrev S3072 : Shape := ⟨1, ![3072]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6432 : Shape := ⟨3, ![8, 4096, 6432]⟩
abbrev S8x4096x2048 : Shape := ⟨3, ![8, 4096, 2048]⟩
abbrev S8x4096x3072 : Shape := ⟨3, ![8, 4096, 3072]⟩
abbrev S8x4096x32 : Shape := ⟨3, ![8, 4096, 32]⟩
abbrev S8x3x3072 : Shape := ⟨3, ![8, 3, 3072]⟩
abbrev S8x4099x3072 : Shape := ⟨3, ![8, 4099, 3072]⟩
abbrev S1x3072 : Shape := ⟨2, ![1, 3072]⟩
abbrev S1x1x3072 : Shape := ⟨3, ![1, 1, 3072]⟩
abbrev S8x4096x224 : Shape := ⟨3, ![8, 4096, 224]⟩
abbrev S8x4096x1280 : Shape := ⟨3, ![8, 4096, 1280]⟩
abbrev S8x4096x6656 : Shape := ⟨3, ![8, 4096, 6656]⟩
abbrev S32768x6656 : Shape := ⟨2, ![32768, 6656]⟩
abbrev S8x8x3072 : Shape := ⟨3, ![8, 8, 3072]⟩

abbrev nBuf : Space → Nat
  | .hbm => 82
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6432, .f32⟩
  | .hbm, ⟨3, _⟩ => ⟨S4x3072, .f32⟩
  | .hbm, ⟨4, _⟩ => ⟨S3072, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x6432, .f32⟩
  | .hbm, ⟨22, _⟩ => ⟨S8x4096x2048, .f32⟩
  | .hbm, ⟨23, _⟩ => ⟨S8x4096x3072, .f32⟩
  | .hbm, ⟨24, _⟩ => ⟨S8x4096x32, .f32⟩
  | .hbm, ⟨25, _⟩ => ⟨S_, .f32⟩
  | .hbm, ⟨26, _⟩ => ⟨S8x3x3072, .f32⟩
  | .hbm, ⟨27, _⟩ => ⟨S8x4099x3072, .f32⟩
  | .hbm, ⟨28, _⟩ => ⟨S8x4096x3072, .f32⟩
  | .hbm, ⟨29, _⟩ => ⟨S1x3072, .f32⟩
  | .hbm, ⟨30, _⟩ => ⟨S3072, .f32⟩
  | .hbm, ⟨31, _⟩ => ⟨S1x1x3072, .f32⟩
  | .hbm, ⟨32, _⟩ => ⟨S8x4096x3072, .f32⟩
  | .hbm, ⟨33, _⟩ => ⟨S8x4096x3072, .f32⟩
  | .hbm, ⟨34, _⟩ => ⟨S1x1x3072, .f32⟩
  | .hbm, ⟨35, _⟩ => ⟨S8x4096x3072, .f32⟩
  | .hbm, ⟨36, _⟩ => ⟨S8x4096x3072, .f32⟩
  | .hbm, ⟨37, _⟩ => ⟨S8x4096x3072, .f32⟩
  | .hbm, ⟨38, _⟩ => ⟨S1x3072, .f32⟩
  | .hbm, ⟨39, _⟩ => ⟨S3072, .f32⟩
  | .hbm, ⟨40, _⟩ => ⟨S1x1x3072, .f32⟩
  | .hbm, ⟨41, _⟩ => ⟨S8x4096x3072, .f32⟩
  | .hbm, ⟨42, _⟩ => ⟨S8x4096x3072, .f32⟩
  | .hbm, ⟨43, _⟩ => ⟨S8x4096x3072, .f32⟩
  | .hbm, ⟨44, _⟩ => ⟨S8x4096x3072, .f32⟩
  | .hbm, ⟨45, _⟩ => ⟨S1x3072, .f32⟩
  | .hbm, ⟨46, _⟩ => ⟨S3072, .f32⟩
  | .hbm, ⟨47, _⟩ => ⟨S1x1x3072, .f32⟩
  | .hbm, ⟨48, _⟩ => ⟨S8x4096x3072, .f32⟩
  | .hbm, ⟨49, _⟩ => ⟨S8x4096x3072, .f32⟩
  | .hbm, ⟨50, _⟩ => ⟨S8x4096x3072, .f32⟩
  | .hbm, ⟨51, _⟩ => ⟨S8x4096x3072, .f32⟩
  | .hbm, ⟨52, _⟩ => ⟨S1x3072, .f32⟩
  | .hbm, ⟨53, _⟩ => ⟨S3072, .f32⟩
  | .hbm, ⟨54, _⟩ => ⟨S1x1x3072, .f32⟩
  | .hbm, ⟨55, _⟩ => ⟨S8x4096x3072, .f32⟩
  | .hbm, ⟨56, _⟩ => ⟨S8x4096x3072, .f32⟩
  | .hbm, ⟨57, _⟩ => ⟨S8x4096x3072, .f32⟩
  | .hbm, ⟨58, _⟩ => ⟨S_, .f32⟩
  | .hbm, ⟨59, _⟩ => ⟨S8x4096x224, .f32⟩
  | .hbm, ⟨60, _⟩ => ⟨S8x4096x2048, .f32⟩
  | .hbm, ⟨61, _⟩ => ⟨S8x4096x2048, .f32⟩
  | .hbm, ⟨62, _⟩ => ⟨S_, .f32⟩
  | .hbm, ⟨63, _⟩ => ⟨S8x4096x2048, .f32⟩
  | .hbm, ⟨64, _⟩ => ⟨S8x4096x2048, .f32⟩
  | .hbm, ⟨65, _⟩ => ⟨S_, .f32⟩
  | .hbm, ⟨66, _⟩ => ⟨S8x4096x2048, .f32⟩
  | .hbm, ⟨67, _⟩ => ⟨S8x4096x2048, .f32⟩
  | .hbm, ⟨68, _⟩ => ⟨S8x4096x2048, .f32⟩
  | .hbm, ⟨69, _⟩ => ⟨S8x4096x3072, .f32⟩
  | .hbm, ⟨70, _⟩ => ⟨S8x4096x3072, .f32⟩
  | .hbm, ⟨71, _⟩ => ⟨S_, .f32⟩
  | .hbm, ⟨72, _⟩ => ⟨S8x4096x3072, .f32⟩
  | .hbm, ⟨73, _⟩ => ⟨S8x4096x3072, .f32⟩
  | .hbm, ⟨74, _⟩ => ⟨S_, .f32⟩
  | .hbm, ⟨75, _⟩ => ⟨S8x4096x3072, .f32⟩
  | .hbm, ⟨76, _⟩ => ⟨S8x4096x3072, .f32⟩
  | .hbm, ⟨77, _⟩ => ⟨S8x4096x3072, .f32⟩
  | .hbm, ⟨78, _⟩ => ⟨S8x4096x1280, .f32⟩
  | .hbm, ⟨79, _⟩ => ⟨S8x4096x6656, .f32⟩
  | .hbm, ⟨80, _⟩ => ⟨S32768x6656, .f32⟩
  | .hbm, ⟨81, _⟩ => ⟨S8x8x3072, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_3 : Ref sig .tc := ⟨.hbm, 58, rfl⟩
abbrev main_v49 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v50 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== Kernel6.lean ====
abbrev S8x4096x1024 : Shape := ⟨3, ![8, 4096, 1024]⟩
abbrev S8x4096x2048 : Shape := ⟨3, ![8, 4096, 2048]⟩
abbrev S3072x1024 : Shape := ⟨2, ![3072, 1024]⟩
abbrev S1024x1024 : Shape := ⟨2, ![1024, 1024]⟩
abbrev S2048x1024 : Shape := ⟨2, ![2048, 1024]⟩
abbrev S32768x1024 : Shape := ⟨2, ![32768, 1024]⟩
abbrev S32768x2048 : Shape := ⟨2, ![32768, 2048]⟩
abbrev S1024x2048 : Shape := ⟨2, ![1024, 2048]⟩

abbrev nBuf : Space → Nat
  | .hbm => 12
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x2048, .f32⟩
  | .hbm, ⟨3, _⟩ => ⟨S3072x1024, .f32⟩
  | .hbm, ⟨4, _⟩ => ⟨S1024x1024, .f32⟩
  | .hbm, ⟨5, _⟩ => ⟨S1024x1024, .bf16⟩
  | .hbm, ⟨6, _⟩ => ⟨S2048x1024, .f32⟩
  | .hbm, ⟨7, _⟩ => ⟨S2048x1024, .bf16⟩
  | .hbm, ⟨8, _⟩ => ⟨S32768x1024, .f32⟩
  | .hbm, ⟨9, _⟩ => ⟨S32768x1024, .f32⟩
  | .hbm, ⟨10, _⟩ => ⟨S32768x2048, .f32⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x2048, .f32⟩
  | .local _ .vmem, ⟨5, _⟩ => ⟨S1024x2048, .f32⟩
  | .local _ .vmem, ⟨6, _⟩ => ⟨S1024x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8x4096x1024 : Shape := ⟨3, ![8, 4096, 1024]⟩
abbrev S8x4096x2048 : Shape := ⟨3, ![8, 4096, 2048]⟩
abbrev S3072x1024 : Shape := ⟨2, ![3072, 1024]⟩
abbrev S8x4096x3072 : Shape := ⟨3, ![8, 4096, 3072]⟩
abbrev S32768x1024 : Shape := ⟨2, ![32768, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x2048, .f32⟩
  | .hbm, ⟨3, _⟩ => ⟨S3072x1024, .f32⟩
  | .hbm, ⟨4, _⟩ => ⟨S8x4096x3072, .f32⟩
  | .hbm, ⟨5, _⟩ => ⟨S8x4096x1024, .f32⟩
  | .hbm, ⟨6, _⟩ => ⟨S8x4096x1024, .f32⟩
  | .hbm, ⟨7, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S8x4096x1024 : Shape := ⟨3, ![8, 4096, 1024]⟩
abbrev S1024x1024 : Shape := ⟨2, ![1024, 1024]⟩
abbrev S32768x1024 : Shape := ⟨2, ![32768, 1024]⟩
abbrev S512x1024 : Shape := ⟨2, ![512, 1024]⟩

abbrev nBuf : Space → Nat
  | .hbm => 17
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S1024x1024, .f32⟩
  | .hbm, ⟨8, _⟩ => ⟨S1024x1024, .bf16⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8x4096x1024 : Shape := ⟨3, ![8, 4096, 1024]⟩
abbrev S1024x1024 : Shape := ⟨2, ![1024, 1024]⟩
abbrev S1x8x4096x1024 : Shape := ⟨4, ![1, 8, 4096, 1024]⟩
abbrev S3x8x4096x1024 : Shape := ⟨4, ![3, 8, 4096, 1024]⟩
abbrev S_ : Shape := ⟨0, ![]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S1024x1024, .f32⟩
  | .hbm, ⟨8, _⟩ => ⟨S1x8x4096x1024, .f32⟩
  | .hbm, ⟨9, _⟩ => ⟨S1x8x4096x1024, .f32⟩
  | .hbm, ⟨10, _⟩ => ⟨S1x8x4096x1024, .f32⟩
  | .hbm, ⟨11, _⟩ => ⟨S3x8x4096x1024, .f32⟩
  | .hbm, ⟨12, _⟩ => ⟨S_, .f32⟩
  | .hbm, ⟨13, _⟩ => ⟨S8x4096x1024, .f32⟩
  | .hbm, ⟨14, _⟩ => ⟨S_, .f32⟩
  | .hbm, ⟨15, _⟩ => ⟨S8x4096x1024, .f32⟩
  | .hbm, ⟨16, _⟩ => ⟨S8x4096x1024, .f32⟩
  | .hbm, ⟨17, _⟩ => ⟨S1x8x4096x1024, .f32⟩
  | .hbm, ⟨18, _⟩ => ⟨S3x8x4096x1024, .f32⟩
  | .hbm, ⟨19, _⟩ => ⟨S3x8x4096x1024, .f32⟩
  | .hbm, ⟨20, _⟩ => ⟨S3x8x4096x1024, .f32⟩
  | .hbm, ⟨21, _⟩ => ⟨S_, .f32⟩
  | .hbm, ⟨22, _⟩ => ⟨S8x4096x1024, .f32⟩
  | .hbm, ⟨23, _⟩ => ⟨S1x8x4096x1024, .f32⟩
  | .hbm, ⟨24, _⟩ => ⟨S3x8x4096x1024, .f32⟩
  | .hbm, ⟨25, _⟩ => ⟨S3x8x4096x1024, .f32⟩
  | .hbm, ⟨26, _⟩ => ⟨S1x8x4096x1024, .f32⟩
  | .hbm, ⟨27, _⟩ => ⟨S1x8x4096x1024, .f32⟩
  | .hbm, ⟨28, _⟩ => ⟨S1x8x4096x1024, .f32⟩
  | .hbm, ⟨29, _⟩ => ⟨S3x8x4096x1024, .f32⟩
  | .hbm, ⟨30, _⟩ => ⟨S3x8x4096x1024, .f32⟩
  | .hbm, ⟨31, _⟩ => ⟨S_, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Kernel8.lean ====
abbrev S8x4096x6656 : Shape := ⟨3, ![8, 4096, 6656]⟩
abbrev S16 : Shape := ⟨1, ![16]⟩
abbrev S2x16x128x256 : Shape := ⟨4, ![2, 16, 128, 256]⟩
abbrev S_ : Shape := ⟨0, ![]⟩
abbrev S1x16x1x1 : Shape := ⟨4, ![1, 16, 1, 1]⟩
abbrev S8x4096x1024 : Shape := ⟨3, ![8, 4096, 1024]⟩
abbrev S1x128x1024 : Shape := ⟨3, ![1, 128, 1024]⟩
abbrev S1x128x128 : Shape := ⟨3, ![1, 128, 128]⟩
abbrev S128x128 : Shape := ⟨2, ![128, 128]⟩
abbrev S256x128 : Shape := ⟨2, ![256, 128]⟩
abbrev S256x256 : Shape := ⟨2, ![256, 256]⟩
abbrev S128x256 : Shape := ⟨2, ![128, 256]⟩
abbrev S1x1x128x256 : Shape := ⟨4, ![1, 1, 128, 256]⟩
abbrev S128 : Shape := ⟨1, ![128]⟩
abbrev S128x1 : Shape := ⟨2, ![128, 1]⟩
abbrev S1 : Shape := ⟨1, ![1]⟩
abbrev S128x512 : Shape := ⟨2, ![128, 512]⟩
abbrev S512x128 : Shape := ⟨2, ![512, 128]⟩

abbrev nBuf : Space → Nat
  | .hbm => 51
  | .vmem => 13
  | .smem => 1
  | _ => 0

abbrev bufTy : (tb : Table) → Fin (tcTables nBuf tb) → BufTy
  | .hbm, ⟨0, _⟩ => ⟨S8x4096x6656, .f32⟩
  | .hbm, ⟨1, _⟩ => ⟨S16, .f32⟩
  | .hbm, ⟨2, _⟩ => ⟨S2x16x128x256, .i32⟩
  | .hbm, ⟨3, _⟩ => ⟨S_, .i32⟩
  | .hbm, ⟨4, _⟩ => ⟨S2x16x128x256, .i32⟩
  | .hbm, ⟨5, _⟩ => ⟨S2x16x128x256, .i32⟩
  | .hbm, ⟨6, _⟩ => ⟨S2x16x128x256, .i32⟩
  | .hbm, ⟨7, _⟩ => ⟨S2x16x128x256, .i32⟩
  | .hbm, ⟨8, _⟩ => ⟨S_, .i32⟩
  | .hbm, ⟨9, _⟩ => ⟨S2x16x128x256, .i32⟩
  | .hbm, ⟨10, _⟩ => ⟨S2x16x128x256, .i1⟩
  | .hbm, ⟨11, _⟩ => ⟨S_, .i32⟩
  | .hbm, ⟨12, _⟩ => ⟨S2x16x128x256, .i32⟩
  | .hbm, ⟨13, _⟩ => ⟨S2x16x128x256, .i1⟩
  | .hbm, ⟨14, _⟩ => ⟨S2x16x128x256, .i1⟩
  | .hbm, ⟨15, _⟩ => ⟨S2x16x128x256, .i32⟩
  | .hbm, ⟨16, _⟩ => ⟨S_, .i32⟩
  | .hbm, ⟨17, _⟩ => ⟨S2x16x128x256, .i32⟩
  | .hbm, ⟨18, _⟩ => ⟨S2x16x128x256, .i1⟩
  | .hbm, ⟨19, _⟩ => ⟨S2x16x128x256, .i32⟩
  | .hbm, ⟨20, _⟩ => ⟨S_, .i32⟩
  | .hbm, ⟨21, _⟩ => ⟨S2x16x128x256, .i32⟩
  | .hbm, ⟨22, _⟩ => ⟨S2x16x128x256, .i1⟩
  | .hbm, ⟨23, _⟩ => ⟨S2x16x128x256, .i1⟩
  | .hbm, ⟨24, _⟩ => ⟨S2x16x128x256, .i1⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S1x16x1x1, .f32⟩
  | .hbm, ⟨39, _⟩ => ⟨S1x16x1x1, .f32⟩
  | .hbm, ⟨40, _⟩ => ⟨S_, .i32⟩
  | .hbm, ⟨41, _⟩ => ⟨S2x16x128x256, .i32⟩
  | .hbm, ⟨42, _⟩ => ⟨S2x16x128x256, .i32⟩
  | .hbm, ⟨43, _⟩ => ⟨S2x16x128x256, .f32⟩
  | .hbm, ⟨44, _⟩ => ⟨S2x16x128x256, .f32⟩
  | .hbm, ⟨45, _⟩ => ⟨S2x16x128x256, .f32⟩
  | .hbm, ⟨46, _⟩ => ⟨S_, .f32⟩
  | .hbm, ⟨47, _⟩ => ⟨S_, .f32⟩
  | .hbm, ⟨48, _⟩ => ⟨S2x16x128x256, .f32⟩
  | .hbm, ⟨49, _⟩ => ⟨S2x16x128x256, .f32⟩
  | .hbm, ⟨50, _⟩ => ⟨S8x4096x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S2x16x128x256, .f32⟩
  | .local _ .vmem, ⟨11, _⟩ => ⟨S1x128x1024, .f32⟩
  | .local _ .vmem, ⟨12, _⟩ => ⟨S1x128x1024, .f32⟩
  | .local _ .smem, ⟨0, _⟩ => ⟨S16, .f32⟩
  | _, _ => ⟨S8x4096x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_call0_v0 : Ref sig .tc := ⟨.hbm, 47, rfl⟩
abbrev main_call0_v1 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 32, 1], ![false, false, false]⟩

def k0_off1 (i : grid0.Coords) (c0_i32_20 : BitVec 32) (c0_i32_21 : BitVec 32) : Fin 4 → Nat :=
  let arg1 : BitVec 32 := BitVec.ofNat 32 (i 1).val
  let c0_i32 : BitVec 32 := 0#32
  let v0 : BitVec 1 := Scalar.cmpi .eq arg1 c0_i32
  let v1 : BitVec 32 := Scalar.extui v0
  let v40 : Index := Scalar.indexCast v1
  let arg2 : BitVec 32 := BitVec.ofNat 32 (i 2).val
  let c16_i32 : BitVec 32 := 16#32
  let v2 : BitVec 32 := Scalar.muli arg2 c16_i32
  let v37 : BitVec 32 := Scalar.addi v2 c0_i32_20
  let v38 : BitVec 32 := Scalar.addi v37 c0_i32_21
  let v41 : Index := Scalar.indexCast v38
  let c0_22 : Index := 0#32
  let c0_23 : Index := 0#32
  ![v40.toNat, v41.toNat, 0, 0]
def k0_off2 (i : grid0.Coords) (c0_i32_20 : BitVec 32) (c0_i32_21 : BitVec 32) : Fin 1 → Nat :=
  let arg2 : BitVec 32 := BitVec.ofNat 32 (i 2).val
  let c16_i32 : BitVec 32 := 16#32
  let v2 : BitVec 32 := Scalar.muli arg2 c16_i32
  let v37 : BitVec 32 := Scalar.addi v2 c0_i32_20
  let v38 : BitVec 32 := Scalar.addi v37 c0_i32_21
  let v47 : Index := Scalar.indexCast v38
  ![v47.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg2
  let c0_i32 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg2
  let c0_i32 : BitVec 32 := 0#32
  ![arg0.toNat, arg1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c49_i32 : BitVec 32 := 49#32
  let v0 : BitVec 32 := Scalar.addi c49_i32 arg2
  let c0_i32 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c48_i32 : BitVec 32 := 48#32
  let v2 : BitVec 32 := Scalar.addi c48_i32 arg2
  let c0_i32_0 : BitVec 32 := 0#32
  ![arg0.toNat, v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c49_i32 : BitVec 32 := 49#32
  let v2 : BitVec 32 := Scalar.addi c49_i32 arg2
  let c0_i32_0 : BitVec 32 := 0#32
  ![arg0.toNat, v1.toNat, v2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S2x16x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .smem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference8Ideal.lean ====
abbrev S8x4096x6656 : Shape := ⟨3, ![8, 4096, 6656]⟩
abbrev S16 : Shape := ⟨1, ![16]⟩
abbrev S8x4096x1024 : Shape := ⟨3, ![8, 4096, 1024]⟩
abbrev S8x4096x2x8x64 : Shape := ⟨5, ![8, 4096, 2, 8, 64]⟩
abbrev S8x4096x128 : Shape := ⟨3, ![8, 4096, 128]⟩
abbrev S8x4096x2x64 : Shape := ⟨4, ![8, 4096, 2, 64]⟩
abbrev S_ : Shape := ⟨0, ![]⟩
abbrev S2x8 : Shape := ⟨2, ![2, 8]⟩
abbrev S8x4096x1x2x8x64 : Shape := ⟨6, ![8, 4096, 1, 2, 8, 64]⟩
abbrev S8x1x4096x2x8x64 : Shape := ⟨6, ![8, 1, 4096, 2, 8, 64]⟩
abbrev S8x32x128x2x8x64 : Shape := ⟨6, ![8, 32, 128, 2, 8, 64]⟩
abbrev S8x4096x1x2x64 : Shape := ⟨5, ![8, 4096, 1, 2, 64]⟩
abbrev S8x1x4096x2x64 : Shape := ⟨5, ![8, 1, 4096, 2, 64]⟩
abbrev S8x32x128x2x64 : Shape := ⟨5, ![8, 32, 128, 2, 64]⟩
abbrev S8x31x128x2x64 : Shape := ⟨5, ![8, 31, 128, 2, 64]⟩
abbrev S8x32x256x2x64 : Shape := ⟨5, ![8, 32, 256, 2, 64]⟩
abbrev S8x32x2x256x128x8 : Shape := ⟨6, ![8, 32, 2, 256, 128, 8]⟩
abbrev S8x32x128x2x8x256 : Shape := ⟨6, ![8, 32, 128, 2, 8, 256]⟩
abbrev S256 : Shape := ⟨1, ![256]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S1x128x256 : Shape := ⟨3, ![1, 128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S32x128x256 : Shape := ⟨3, ![32, 128, 256]⟩
abbrev S1x2x8x1 : Shape := ⟨4, ![1, 2, 8, 1]⟩
abbrev S128x1x1x256 : Shape := ⟨4, ![128, 1, 1, 256]⟩
abbrev S128x2x8x256 : Shape := ⟨4, ![128, 2, 8, 256]⟩
abbrev S1x32x128x1x1x256 : Shape := ⟨6, ![1, 32, 128, 1, 1, 256]⟩
abbrev S1x1x128x2x8x256 : Shape := ⟨6, ![1, 1, 128, 2, 8, 256]⟩
abbrev S8x32x128x2x8 : Shape := ⟨5, ![8, 32, 128, 2, 8]⟩
abbrev S1x1x1x2x8 : Shape := ⟨5, ![1, 1, 1, 2, 8]⟩
abbrev S8x32x128x2x8x1 : Shape := ⟨6, ![8, 32, 128, 2, 8, 1]⟩
abbrev S8x32x2x64x128x8 : Shape := ⟨6, ![8, 32, 2, 64, 128, 8]⟩
abbrev S8x1x4096x2x8 : Shape := ⟨5, ![8, 1, 4096, 2, 8]⟩
abbrev S8x4096x1x2x8 : Shape := ⟨5, ![8, 4096, 1, 2, 8]⟩
abbrev S8x4096x2x8 : Shape := ⟨4, ![8, 4096, 2, 8]⟩

abbrev nBuf : Space → Nat
  | .hbm => 141
  | .vmem => 0
  | .smem => 0
  | _ => 0

abbrev hbmTy0_0 (i : Nat) : BufTy := match i % 128 with
  | 0 => ⟨S8x4096x6656, .f32⟩
  | 1 => ⟨S16, .f32⟩
  | 2 => ⟨S8x4096x1024, .f32⟩
  | 3 => ⟨S8x4096x2x8x64, .f32⟩
  | 4 => ⟨S8x4096x128, .f32⟩
  | 5 => ⟨S8x4096x2x64, .f32⟩
  | 6 => ⟨S8x4096x128, .f32⟩
  | 7 => ⟨S8x4096x2x64, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S2x8, .f32⟩
  | 22 => ⟨S_, .i32⟩
  | 23 => ⟨S_, .f32⟩
  | 24 => ⟨S8x4096x2x8x64, .f32⟩
  | 25 => ⟨S8x4096x1x2x8x64, .f32⟩
  | 26 => ⟨S8x1x4096x2x8x64, .f32⟩
  | 27 => ⟨S8x4096x2x8x64, .f32⟩
  | 28 => ⟨S8x32x128x2x8x64, .f32⟩
  | 29 => ⟨S_, .i32⟩
  | 30 => ⟨S_, .f32⟩
  | 31 => ⟨S8x4096x2x64, .f32⟩
  | 32 => ⟨S8x4096x1x2x64, .f32⟩
  | 33 => ⟨S8x1x4096x2x64, .f32⟩
  | 34 => ⟨S8x4096x2x64, .f32⟩
  | 35 => ⟨S8x32x128x2x64, .f32⟩
  | 36 => ⟨S8x31x128x2x64, .f32⟩
  | 37 => ⟨S_, .i32⟩
  | 38 => ⟨S_, .f32⟩
  | 39 => ⟨S8x32x128x2x64, .f32⟩
  | 40 => ⟨S8x32x256x2x64, .f32⟩
  | 41 => ⟨S_, .i32⟩
  | 42 => ⟨S_, .f32⟩
  | 43 => ⟨S8x4096x2x64, .f32⟩
  | 44 => ⟨S8x4096x1x2x64, .f32⟩
  | 45 => ⟨S8x1x4096x2x64, .f32⟩
  | 46 => ⟨S8x4096x2x64, .f32⟩
  | 47 => ⟨S8x32x128x2x64, .f32⟩
  | 48 => ⟨S8x31x128x2x64, .f32⟩
  | 49 => ⟨S_, .i32⟩
  | 50 => ⟨S_, .f32⟩
  | 51 => ⟨S8x32x128x2x64, .f32⟩
  | 52 => ⟨S8x32x256x2x64, .f32⟩
  | 53 => ⟨S8x32x2x256x128x8, .f32⟩
  | 54 => ⟨S8x32x128x2x8x256, .f32⟩
  | 55 => ⟨S_, .f32⟩
  | 56 => ⟨S8x32x128x2x8x256, .f32⟩
  | 57 => ⟨S8x32x128x2x8x256, .f32⟩
  | 58 => ⟨S256, .i32⟩
  | 59 => ⟨S128, .i32⟩
  | 60 => ⟨S128x1, .i32⟩
  | 61 => ⟨S_, .i32⟩
  | 62 => ⟨S128x1, .i32⟩
  | 63 => ⟨S128x1, .i32⟩
  | 64 => ⟨S1x256, .i32⟩
  | 65 => ⟨S128x256, .i32⟩
  | 66 => ⟨S128x256, .i32⟩
  | 67 => ⟨S128x256, .i32⟩
  | 68 => ⟨S_, .i32⟩
  | 69 => ⟨S128x256, .i32⟩
  | 70 => ⟨S128x256, .i1⟩
  | 71 => ⟨S_, .i32⟩
  | 72 => ⟨S128x256, .i32⟩
  | 73 => ⟨S128x256, .i1⟩
  | 74 => ⟨S128x256, .i1⟩
  | 75 => ⟨S1x128x256, .i1⟩
  | 76 => ⟨S32, .i32⟩
  | 77 => ⟨S_, .i32⟩
  | 78 => ⟨S32, .i32⟩
  | 79 => ⟨S32, .i1⟩
  | 80 => ⟨S32x1x1, .i1⟩
  | 81 => ⟨S_, .i32⟩
  | 82 => ⟨S256, .i32⟩
  | 83 => ⟨S256, .i1⟩
  | 84 => ⟨S1x1x256, .i1⟩
  | 85 => ⟨S32x1x256, .i1⟩
  | 86 => ⟨S32x1x256, .i1⟩
  | 87 => ⟨S32x1x256, .i1⟩
  | 88 => ⟨S32x128x256, .i1⟩
  | 89 => ⟨S32x128x256, .i1⟩
  | 90 => ⟨S32x128x256, .i1⟩
  | 91 => ⟨S2x8, .f32⟩
  | 92 => ⟨S1x2x8x1, .f32⟩
  | 93 => ⟨S_, .i32⟩
  | 94 => ⟨S128x256, .i32⟩
  | 95 => ⟨S128x256, .i32⟩
  | 96 => ⟨S128x256, .f32⟩
  | 97 => ⟨S128x1x1x256, .f32⟩
  | 98 => ⟨S128x2x8x256, .f32⟩
  | 99 => ⟨S128x2x8x256, .f32⟩
  | 100 => ⟨S128x2x8x256, .f32⟩
  | 101 => ⟨S128x2x8x256, .f32⟩
  | 102 => ⟨S1x32x128x1x1x256, .i1⟩
  | 103 => ⟨S1x1x128x2x8x256, .f32⟩
  | 104 => ⟨S8x32x128x2x8x256, .f32⟩
  | 105 => ⟨S8x32x128x2x8x256, .f32⟩
  | 106 => ⟨S_, .f32⟩
  | 107 => ⟨S_, .f32⟩
  | 108 => ⟨S8x32x128x2x8x256, .i1⟩
  | 109 => ⟨S8x32x128x2x8x256, .f32⟩
  | 110 => ⟨S8x32x128x2x8x256, .f32⟩
  | 111 => ⟨S_, .f32⟩
  | 112 => ⟨S8x32x128x2x8, .f32⟩
  | 113 => ⟨S1x1x1x2x8, .f32⟩
  | 114 => ⟨S8x32x128x2x8, .f32⟩
  | 115 => ⟨S8x32x128x2x8, .f32⟩
  | 116 => ⟨S8x32x128x2x8x1, .f32⟩
  | 117 => ⟨S8x32x128x2x8x256, .f32⟩
  | 118 => ⟨S8x32x128x2x8x256, .f32⟩
  | 119 => ⟨S8x32x128x2x8x256, .f32⟩
  | 120 => ⟨S_, .f32⟩
  | 121 => ⟨S8x32x128x2x8, .f32⟩
  | 122 => ⟨S1x1x1x2x8, .f32⟩
  | 123 => ⟨S8x32x128x2x8, .f32⟩
  | 124 => ⟨S8x32x128x2x8, .f32⟩
  | 125 => ⟨S8x32x128x2x8, .f32⟩
  | 126 => ⟨S8x32x128x2x8, .f32⟩
  | 127 => ⟨S8x32x128x2x8x1, .f32⟩
  | _ => ⟨S8x4096x6656, .f32⟩

abbrev hbmTy0_1 (i : Nat) : BufTy := match i % 128 with
  | 0 => ⟨S8x32x128x2x8x256, .f32⟩
  | 1 => ⟨S8x32x128x2x8x256, .f32⟩
  | 2 => ⟨S8x32x128x2x8, .f32⟩
  | 3 => ⟨S8x32x128x2x8, .f32⟩
  | 4 => ⟨S8x32x2x64x128x8, .f32⟩
  | 5 => ⟨S8x32x128x2x8x64, .f32⟩
  | 6 => ⟨S8x1x4096x2x8x64, .f32⟩
  | 7 => ⟨S8x4096x1x2x8x64, .f32⟩
  | 8 => ⟨S8x4096x2x8x64, .f32⟩
  | 9 => ⟨S8x1x4096x2x8, .f32⟩
  | 10 => ⟨S8x4096x1x2x8, .f32⟩
  | 11 => ⟨S8x4096x2x8, .f32⟩
  | 12 => ⟨S8x4096x1024, .f32⟩
  | _ => ⟨S8x4096x6656, .f32⟩

abbrev hbmTy (i : Nat) : BufTy := match i / 128 with
  | 0 => hbmTy0_0 i
  | 1 => hbmTy0_1 i
  | _ => ⟨S8x4096x6656, .f32⟩

abbrev bufTy : (tb : Table) → Fin (tcTables nBuf tb) → BufTy
  | .hbm, ⟨i, _⟩ => hbmTy i
  | _, _ => ⟨S8x4096x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_call1_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_call2_v0 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_call3_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_call4_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_c_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_13 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_14 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v83 : Ref sig .tc := ⟨.hbm, 110, rfl⟩
abbrev main_cst_15 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_16 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩

abbrev nD : Nat := 1
abbrev τ : Topo := Topo.v7x

variable {F : FTy → Type} [FloatOps F]
-- ==== Proof.AttentionPairs.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Attention

open Cert.KernelIdeal Cert.KernelIdeal.Gen Idealize.ShloMosaic Idealize.ShloMosaic.TcCoe Idealize.SL.Sem

variable (q kp k vp v : Vec Ideal S1x128x128 .f32) (b0 b1 : Vec Ideal S1x1x128x256 .f32)

/-- The output a step stores for one pair of heads, of the pair's query rows, the previous and the current key and value
    rows and the two heads' bias rows: the first pair's own term. -/
def outPair : FVec Ideal S1x128x128 .f32 :=
  k0_pay19 k0_pay1 (k0_pay9 (k0_pay4 q kp k) b0) (k0_pay15 (k0_pay4 q kp k) b1) (k0_pay17 (k0_pay4 q kp k) b0 b1) (k0_pay18 k0_pay2 (k0_pay3 vp v))

/-- The log-sum-exp a step stores for one pair of heads. -/
def lsePair : FVec Ideal S1x128x128 .f32 :=
  k0_pay20 k0_pay1 (k0_pay10 (k0_pay4 q kp k) b0) (k0_pay16 (k0_pay4 q kp k) b1)

/-- The second pair stores the same function of its own operands. -/
theorem out1 : k0_pay39 k0_pay1 k0_pay2 (k0_pay23 vp v) (k0_pay30 k0_pay1 (k0_pay21 q) (k0_pay22 kp k) (k0_pay24 k0_pay1 q) b0) (k0_pay31 k0_pay1 (k0_pay21 q) (k0_pay22 kp k) (k0_pay24 k0_pay1 q) b0) (k0_pay37 k0_pay1 (k0_pay21 q) (k0_pay22 kp k) (k0_pay24 k0_pay1 q) b1) (k0_pay38 k0_pay1 (k0_pay21 q) (k0_pay22 kp k) (k0_pay24 k0_pay1 q) b1) = outPair q kp k vp v b0 b1 := rfl

/-- The second pair's log-sum-exp likewise. -/
theorem lse1 : k0_pay40 k0_pay1 (k0_pay32 k0_pay1 (k0_pay21 q) (k0_pay22 kp k) (k0_pay24 k0_pay1 q) b0) (k0_pay34 k0_pay1 (k0_pay21 q) (k0_pay22 kp k) (k0_pay24 k0_pay1 q) b1) (k0_pay36 k0_pay1 (k0_pay21 q) (k0_pay22 kp k) (k0_pay24 k0_pay1 q) b1) = lsePair q kp k b0 b1 := rfl

/-- The third pair stores the same function of its own operands. -/
theorem out2 : k0_pay57 k0_pay1 k0_pay2 (k0_pay43 vp v) (k0_pay49 k0_pay1 (k0_pay41 q) (k0_pay42 kp k) b0) (k0_pay50 k0_pay1 (k0_pay41 q) (k0_pay42 kp k) b0) (k0_pay52 k0_pay1 (k0_pay41 q) (k0_pay42 kp k) b1) (k0_pay53 k0_pay1 (k0_pay41 q) (k0_pay42 kp k) b1) = outPair q kp k vp v b0 b1 := rfl

/-- The third pair's log-sum-exp likewise. -/
theorem lse2 : k0_pay58 k0_pay1 (k0_pay51 k0_pay1 (k0_pay41 q) (k0_pay42 kp k) b0) (k0_pay52 k0_pay1 (k0_pay41 q) (k0_pay42 kp k) b1) (k0_pay53 k0_pay1 (k0_pay41 q) (k0_pay42 kp k) b1) = lsePair q kp k b0 b1 := rfl

/-- The fourth pair stores the same function of its own operands. -/
theorem out3 : k0_pay73 k0_pay1 k0_pay2 (k0_pay60 vp v) (k0_pay61 k0_pay1 (k0_pay59 q) kp k) (k0_pay66 k0_pay1 (k0_pay59 q) kp k b0) (k0_pay67 k0_pay1 (k0_pay59 q) kp k b0) b1 = outPair q kp k vp v b0 b1 := rfl

/-- The fourth pair's log-sum-exp likewise. -/
theorem lse3 : k0_pay74 k0_pay1 (k0_pay61 k0_pay1 (k0_pay59 q) kp k) (k0_pay68 k0_pay1 (k0_pay59 q) kp k b0) b1 = lsePair q kp k b0 b1 := rfl

/-- The fifth pair stores the same function of its own operands. -/
theorem out4 : k0_pay86 k0_pay1 k0_pay2 (k0_pay75 vp v) (k0_pay76 k0_pay1 q kp k) (k0_pay79 k0_pay1 q kp k b0) b1 = outPair q kp k vp v b0 b1 := rfl

/-- The fifth pair's log-sum-exp likewise. -/
theorem lse4 : k0_pay88 k0_pay1 (k0_pay85 (k0_pay76 k0_pay1 q kp k) b1) (k0_pay87 (k0_pay78 k0_pay1 q kp k b0) (k0_pay79 k0_pay1 q kp k b0)) = lsePair q kp k b0 b1 := rfl

/-- The sixth pair stores the same function of its own operands. -/
theorem out5 : k0_pay105 k0_pay1 (k0_pay102 k0_pay2 (k0_pay89 vp v) (k0_pay90 k0_pay1 q kp k) (k0_pay91 k0_pay1 q kp k) b0 b1) (k0_pay103 (k0_pay91 k0_pay1 q kp k) b0) (k0_pay104 (k0_pay90 k0_pay1 q kp k) b1) = outPair q kp k vp v b0 b1 := rfl

/-- The sixth pair's log-sum-exp likewise. -/
theorem lse5 : k0_pay106 k0_pay1 (k0_pay96 (k0_pay91 k0_pay1 q kp k) b0) (k0_pay101 (k0_pay90 k0_pay1 q kp k) b1) = lsePair q kp k b0 b1 := rfl

/-- The seventh pair stores the same function of its own operands. -/
theorem out6 : k0_pay125 k0_pay1 k0_pay2 (k0_pay108 vp v) (k0_pay115 (k0_pay107 kp k) (k0_pay109 k0_pay1 q) b0) (k0_pay121 (k0_pay107 kp k) (k0_pay109 k0_pay1 q) b1) (k0_pay123 (k0_pay107 kp k) (k0_pay109 k0_pay1 q) b0 b1) k0_pay124 = outPair q kp k vp v b0 b1 := rfl

/-- The seventh pair's log-sum-exp likewise. -/
theorem lse6 : k0_pay126 k0_pay1 (k0_pay116 (k0_pay107 kp k) (k0_pay109 k0_pay1 q) b0) (k0_pay122 (k0_pay107 kp k) (k0_pay109 k0_pay1 q) b1) = lsePair q kp k b0 b1 := rfl

/-- The eighth pair stores the same function of its own operands. -/
theorem out7 : k0_pay143 k0_pay1 k0_pay2 (k0_pay130 (k0_pay129 vp) v) (k0_pay136 k0_pay1 (k0_pay127 q) (k0_pay128 kp k) b0) (k0_pay137 k0_pay1 (k0_pay127 q) (k0_pay128 kp k) b0) (k0_pay141 k0_pay1 (k0_pay127 q) (k0_pay128 kp k) b1) = outPair q kp k vp v b0 b1 := rfl

/-- The eighth pair's log-sum-exp likewise. -/
theorem lse7 : k0_pay144 k0_pay1 (k0_pay138 k0_pay1 (k0_pay127 q) (k0_pay128 kp k) b0) (k0_pay140 k0_pay1 (k0_pay127 q) (k0_pay128 kp k) b1) (k0_pay141 k0_pay1 (k0_pay127 q) (k0_pay128 kp k) b1) = lsePair q kp k b0 b1 := rfl

end Cert.Attention

end
-- ==== Proof.Softmax.lean ====
module

public import Idealize.ShloMosaic.Lib.Pointwise
public import Idealize.ShloMosaic.Lib.IdealHost

@[expose] public section

noncomputable section

namespace Cert.Softmax

open Idealize.ShloMosaic

variable {n : ℕ}

/-- The largest score of a row. -/
def rowMax (s : Fin n → EReal) : EReal := Finset.univ.fold max ⊥ s

/-- The sum of a row's exponentials, the largest score subtracted. -/
def total (s : Fin n → EReal) : EReal := ∑ x, Ideal.exp (s x - rowMax s)

/-- A row's values averaged with the softmax of its scores. -/
def attend (s v : Fin n → EReal) : EReal := ∑ x, v x * Ideal.div (Ideal.exp (s x - rowMax s)) (total s)

/-- A row's log-sum-exp. -/
def lse (s : Fin n → EReal) : EReal := rowMax s + Ideal.log (total s)

/-- A finite factor that is not negative distributes over a sum of extended reals. -/
theorem mul_sum {ι : Type} (t : Finset ι) (c : EReal) (h0 : 0 ≤ c) (ht : c ≠ ⊤) (f : ι → EReal) :
    c * ∑ x ∈ t, f x = ∑ x ∈ t, c * f x := by
  classical
  induction t using Finset.induction_on with
  | empty => simp
  | insert a t ha ih => rw [Finset.sum_insert ha, Finset.sum_insert ha, EReal.left_distrib_of_nonneg_of_ne_top h0 ht, ih]

/-- The exponential is never negative. -/
theorem exp_nonneg (x : EReal) : 0 ≤ Ideal.exp x := by
  induction x with
  | bot => exact le_refl _
  | top => exact le_top
  | coe r => exact EReal.coe_nonneg.2 (Real.exp_pos r).le

/-- The exponential of anything but `⊤` is not `⊤`. -/
theorem exp_ne_top {x : EReal} (h : x ≠ ⊤) : Ideal.exp x ≠ ⊤ := by
  induction x with
  | bot => exact EReal.zero_ne_top
  | top => exact absurd rfl h
  | coe r => exact EReal.coe_ne_top _

/-- The exponential of anything but `⊥` is positive. -/
theorem exp_pos {x : EReal} (h : x ≠ ⊥) : 0 < Ideal.exp x := by
  induction x with
  | bot => exact absurd rfl h
  | top => exact EReal.zero_lt_top
  | coe r => exact EReal.coe_pos.2 (Real.exp_pos r)

/-- A sum of terms none of which is `⊤` is not `⊤`. -/
theorem sum_ne_top {ι : Type} (t : Finset ι) (f : ι → EReal) (h : ∀ x ∈ t, f x ≠ ⊤) : ∑ x ∈ t, f x ≠ ⊤ := by
  classical
  induction t using Finset.induction_on with
  | empty => simp
  | insert a t ha ih =>
    rw [Finset.sum_insert ha]
    exact EReal.add_ne_top (h a (Finset.mem_insert_self a t)) (ih fun x hx => h x (Finset.mem_insert_of_mem hx))

/-- A sum of terms none of which is `⊥` is not `⊥`. -/
theorem sum_ne_bot {ι : Type} (t : Finset ι) (f : ι → EReal) (h : ∀ x ∈ t, f x ≠ ⊥) : ∑ x ∈ t, f x ≠ ⊥ := by
  classical
  induction t using Finset.induction_on with
  | empty => simp
  | insert a t ha ih =>
    rw [Finset.sum_insert ha]
    exact (EReal.add_ne_bot_iff).2 ⟨h a (Finset.mem_insert_self a t), ih fun x hx => h x (Finset.mem_insert_of_mem hx)⟩

/-- The largest of scores that are not `⊤` is not `⊤`. -/
theorem rowMax_ne_top (s : Fin n → EReal) (h : ∀ x, s x ≠ ⊤) : rowMax s ≠ ⊤ :=
  ne_of_lt (Finset.fold_max_lt _ |>.2 ⟨bot_lt_top, fun x _ => lt_top_iff_ne_top.2 (h x)⟩)

/-- The largest of scores one of which is not `⊥` is not `⊥`. -/
theorem rowMax_ne_bot (s : Fin n → EReal) (x : Fin n) (h : s x ≠ ⊥) : rowMax s ≠ ⊥ :=
  ne_of_gt (lt_of_lt_of_le (bot_lt_iff_ne_bot.2 h) ((Finset.le_fold_max _).2 (.inr ⟨x, Finset.mem_univ x, le_refl _⟩)))

/-- A score that is not `⊤` less a row's largest that is not `⊥` is not `⊤`. -/
theorem sub_ne_top {a b : EReal} (ha : a ≠ ⊤) (hb : b ≠ ⊥) : a - b ≠ ⊤ := by
  rw [sub_eq_add_neg]
  exact EReal.add_ne_top ha (fun h => hb (EReal.neg_eq_top_iff.1 h))

/-- A score that is not `⊥` less a row's largest that is not `⊤` is not `⊥`. -/
theorem sub_ne_bot {a b : EReal} (ha : a ≠ ⊥) (hb : b ≠ ⊤) : a - b ≠ ⊥ := by
  rw [sub_eq_add_neg]
  exact (EReal.add_ne_bot_iff).2 ⟨ha, fun h => hb (EReal.neg_eq_bot_iff.1 h)⟩

/-- The sum of the exponentials of a row with no score `⊤` and one that is not `⊥` is positive and finite. -/
theorem total_pos (s : Fin n → EReal) (h : ∀ x, s x ≠ ⊤) (x : Fin n) (hx : s x ≠ ⊥) : 0 < total s ∧ total s ≠ ⊤ := by
  refine ⟨lt_of_lt_of_le (exp_pos (sub_ne_bot hx (rowMax_ne_top s h))) ?_,
    sum_ne_top _ _ fun y _ => exp_ne_top (sub_ne_top (h y) (rowMax_ne_bot s x hx))⟩
  exact Finset.single_le_sum (f := fun x => Ideal.exp (s x - rowMax s)) (fun y _ => exp_nonneg _) (Finset.mem_univ x)

/-- Weighting first and dividing the sum afterwards is weighting with the quotients, for a divisor that is positive and finite. -/
theorem average_eq (e v : Fin n → EReal) (D : EReal) (hp : 0 < D) (ht : D ≠ ⊤) :
    (∑ y, e y * v y) * Ideal.div 1 D = ∑ y, v y * Ideal.div (e y) D := by
  have hd : Ideal.div 1 D = D⁻¹ := by unfold Ideal.div; rw [if_neg hp.ne', one_mul]
  have h0 : 0 ≤ Ideal.div 1 D := by rw [hd]; exact EReal.inv_nonneg_of_nonneg hp.le
  have h1 : Ideal.div 1 D ≠ ⊤ := by
    rw [hd, ← EReal.coe_toReal ht (ne_of_gt (EReal.bot_lt_zero.trans hp)), ← EReal.coe_inv]
    exact EReal.coe_ne_top _
  rw [mul_comm, mul_sum _ _ h0 h1]
  refine Finset.sum_congr rfl fun y _ => ?_
  rw [← Ideal.mul_one_div (x := e y) hp.ne']
  ac_rfl

/-- Averaging first and dividing by the sum of the exponentials afterwards is averaging with the softmax weights, for a row
    with no score `⊤` and one that is not `⊥`. -/
theorem attend_eq (s v : Fin n → EReal) (h : ∀ x, s x ≠ ⊤) (x : Fin n) (hx : s x ≠ ⊥) :
    (∑ y, Ideal.exp (s y - rowMax s) * v y) * Ideal.div 1 (total s) = attend s v :=
  average_eq _ v _ (total_pos s h x hx).1 (total_pos s h x hx).2

/-- Values whose scores are `⊥` do not matter to the average. -/
theorem attend_congr (s v w : Fin n → EReal) (h : ∀ x, s x ≠ ⊤) (x : Fin n) (hx : s x ≠ ⊥) (e : ∀ y, s y ≠ ⊥ → v y = w y) :
    attend s v = attend s w := by
  obtain ⟨hp, ht⟩ := total_pos s h x hx
  unfold attend
  refine Finset.sum_congr rfl fun y _ => ?_
  by_cases hy : s y = ⊥
  · have h0 : Ideal.exp (s y - rowMax s) = 0 := by rw [hy, sub_eq_add_neg, EReal.bot_add]; rfl
    rw [h0]
    unfold Ideal.div
    rw [if_neg hp.ne', zero_mul, mul_zero, mul_zero]
  · rw [e y hy]

/-! ### With a sink: one more score that takes part in the weights and has no value -/

/-- The larger of a row's largest score and its sink. -/
def sinkMax (σ : EReal) (s : Fin n → EReal) : EReal := max (rowMax s) σ

/-- The sum of a row's exponentials and its sink's, the larger of the two subtracted. -/
def sinkTotal (σ : EReal) (s : Fin n → EReal) : EReal := (∑ x, Ideal.exp (s x - sinkMax σ s)) + Ideal.exp (σ - sinkMax σ s)

/-- A row's values averaged with the weights of its scores beside a sink. -/
def sinkAttend (σ : EReal) (s v : Fin n → EReal) : EReal :=
  ∑ x, v x * Ideal.div (Ideal.exp (s x - sinkMax σ s)) (sinkTotal σ s)

/-- The larger of the two is not `⊤` when no score and not the sink is. -/
theorem sinkMax_ne_top (σ : EReal) (s : Fin n → EReal) (hσ : σ ≠ ⊤) (h : ∀ x, s x ≠ ⊤) : sinkMax σ s ≠ ⊤ :=
  ne_of_lt (max_lt (lt_top_iff_ne_top.2 (rowMax_ne_top s h)) (lt_top_iff_ne_top.2 hσ))

/-- The larger of the two is not `⊥` when a score is not. -/
theorem sinkMax_ne_bot (σ : EReal) (s : Fin n → EReal) (x : Fin n) (hx : s x ≠ ⊥) : sinkMax σ s ≠ ⊥ :=
  ne_of_gt (lt_of_lt_of_le (bot_lt_iff_ne_bot.2 (rowMax_ne_bot s x hx)) (le_max_left _ _))

/-- The sum of the exponentials beside a sink is positive and finite, for a sink that is not `⊤` and a row with no score `⊤`
    and one that is not `⊥`. -/
theorem sinkTotal_pos (σ : EReal) (s : Fin n → EReal) (hσ : σ ≠ ⊤) (h : ∀ x, s x ≠ ⊤) (x : Fin n) (hx : s x ≠ ⊥) :
    0 < sinkTotal σ s ∧ sinkTotal σ s ≠ ⊤ := by
  have hb := sinkMax_ne_bot σ s x hx
  constructor
  · refine lt_of_lt_of_le (exp_pos (sub_ne_bot hx (sinkMax_ne_top σ s hσ h))) ?_
    exact (Finset.single_le_sum (f := fun x => Ideal.exp (s x - sinkMax σ s)) (fun y _ => exp_nonneg _) (Finset.mem_univ x)).trans
      (le_add_of_nonneg_right (exp_nonneg _))
  · exact EReal.add_ne_top (sum_ne_top _ _ fun y _ => exp_ne_top (sub_ne_top (h y) hb)) (exp_ne_top (sub_ne_top hσ hb))

/-- Averaging first and dividing afterwards is averaging with the weights beside a sink. -/
theorem sinkAttend_eq (σ : EReal) (s v : Fin n → EReal) (hσ : σ ≠ ⊤) (h : ∀ x, s x ≠ ⊤) (x : Fin n) (hx : s x ≠ ⊥) :
    (∑ y, Ideal.exp (s y - sinkMax σ s) * v y) * Ideal.div 1 (sinkTotal σ s) = sinkAttend σ s v :=
  average_eq _ v _ (sinkTotal_pos σ s hσ h x hx).1 (sinkTotal_pos σ s hσ h x hx).2

/-- Values whose scores are `⊥` do not matter to the average beside a sink. -/
theorem sinkAttend_congr (σ : EReal) (s v w : Fin n → EReal) (hσ : σ ≠ ⊤) (h : ∀ x, s x ≠ ⊤) (x : Fin n) (hx : s x ≠ ⊥)
    (e : ∀ y, s y ≠ ⊥ → v y = w y) : sinkAttend σ s v = sinkAttend σ s w := by
  obtain ⟨hp, ht⟩ := sinkTotal_pos σ s hσ h x hx
  unfold sinkAttend
  refine Finset.sum_congr rfl fun y _ => ?_
  by_cases hy : s y = ⊥
  · have h0 : Ideal.exp (s y - sinkMax σ s) = 0 := by rw [hy, sub_eq_add_neg, EReal.bot_add]; rfl
    rw [h0]
    unfold Ideal.div
    rw [if_neg hp.ne', zero_mul, mul_zero, mul_zero]
  · rw [e y hy]

end Cert.Softmax

end
-- ==== Proof.AttentionPairValues.lean ====
module

public import proofs.«01_k».proof.Proof.AttentionPairs
public import proofs.«01_k».proof.Proof.Softmax

@[expose] public section

set_option maxRecDepth 16384

noncomputable section

namespace Cert.Attention

open Cert.KernelIdeal Cert.KernelIdeal.Gen Idealize.ShloMosaic Idealize.ShloMosaic.TcCoe Idealize.SL.Sem

variable (X : FVec Ideal S256x256 .f32) (q kp k vp v : Vec Ideal S1x128x128 .f32) (b0 b1 : Vec Ideal S1x1x128x256 .f32)

/-- The even head's score row: the product's upper half and the bias. -/
def evenRow (r : Fin 128) : Fin 256 → EReal := fun x => X (ix2 ⟨r, by omega⟩ x) + b0 (ix4 0 0 r x)

/-- The odd head's score row: the product's lower half and the bias. -/
def oddRow (r : Fin 128) : Fin 256 → EReal := fun x => X (ix2 ⟨128 + r, by omega⟩ x) + b1 (ix4 0 0 r x)

/-- The word of `-∞`. -/
theorem ofBits_bot : Ideal.ofBits FTy.f32 0xFF800000#32 = (⊥ : EReal) := by simp [Ideal.ofBits, Ideal.ieee]

/-- The even head's scores at an index. -/
theorem pay5_at (r : Fin 128) (x : Fin 256) : k0_pay5 X b0 (ix2 r x) = evenRow X b0 r x := by
  pointwise [k0_pay5, evenRow]

/-- The odd head's scores at an index. -/
theorem pay11_at (r : Fin 128) (x : Fin 256) : k0_pay11 X b1 (ix2 r x) = oddRow X b1 r x := by
  pointwise [k0_pay11, oddRow]

/-- The even head's largest score. -/
theorem pay6_at (r : Fin 128) : k0_pay6 X b0 (ix2 r 0) = Cert.Softmax.rowMax (evenRow X b0 r) := by
  pointwise [k0_pay6]
  simp only [pay5_at, ofBits_bot, Cert.Softmax.rowMax]

/-- The odd head's largest score. -/
theorem pay12_at (r : Fin 128) : k0_pay12 X b1 (ix2 r 0) = Cert.Softmax.rowMax (oddRow X b1 r) := by
  pointwise [k0_pay12]
  simp only [pay11_at, ofBits_bot, Cert.Softmax.rowMax]

/-- The even head's exponentials. -/
theorem pay7_at (r : Fin 128) (x : Fin 256) : k0_pay7 X b0 (ix2 r x) =
    Ideal.exp (evenRow X b0 r x - Cert.Softmax.rowMax (evenRow X b0 r)) := by
  pointwise [k0_pay7]
  simp only [pay5_at, pay6_at]

/-- The odd head's exponentials. -/
theorem pay13_at (r : Fin 128) (x : Fin 256) : k0_pay13 X b1 (ix2 r x) =
    Ideal.exp (oddRow X b1 r x - Cert.Softmax.rowMax (oddRow X b1 r)) := by
  pointwise [k0_pay13]
  simp only [pay11_at, pay12_at]

/-- The even head's sum of exponentials. -/
theorem pay8_at (r : Fin 128) : k0_pay8 X b0 (ix2 r 0) = Cert.Softmax.total (evenRow X b0 r) := by
  pointwise [k0_pay8]
  simp only [pay7_at, Cert.Softmax.total]

/-- The odd head's sum of exponentials. -/
theorem pay14_at (r : Fin 128) : k0_pay14 X b1 (ix2 r 0) = Cert.Softmax.total (oddRow X b1 r) := by
  pointwise [k0_pay14]
  simp only [pay13_at, Cert.Softmax.total]

/-- The previous block's rows, then the block's own. -/
theorem pay3_at (x : Fin 256) (l : Fin 128) : k0_pay3 vp v (ix2 x l) =
    if h : x.val < 128 then vp (ix3 0 ⟨x, h⟩ l) else v (ix3 0 ⟨x - 128, by omega⟩ l) := by
  pointwise [k0_pay3]

/-! ### The heads' lanes -/

/-- The lanes below 64 are the even head's. -/
theorem lane_word : ∀ l : Fin 128, IntOp.cmpi CmpIPredicate.slt (BitVec.ofNat 32 ↑l) 64#32 = if l.val < 64 then 1#1 else 0#1 := by
  decide +kernel

/-- A choice by the lane is the even head's below lane 64 and the odd head's from there on. -/
theorem select_lane (l : Fin 128) (a b : EReal) :
    Scalar.select (IntOp.cmpi CmpIPredicate.slt (BitVec.ofNat 32 ↑l) 64#32) a b = if l.val < 64 then a else b := by
  rw [lane_word]
  by_cases h : l.val < 64
  · simp [h, Scalar.select]
  · simp [h, Scalar.select]

/-- A sum masked to the even head's lanes is the sum over its 64 lanes. -/
theorem sum_even (f : Fin 128 → EReal) :
    ∑ l : Fin 128, (if l.val < 64 then f l else 0) = ∑ d : Fin 64, f ⟨64 * (0 : Fin 2).val + d, by omega⟩ := by
  have e := Fin.sum_univ_add (a := 64) (b := 64) (fun l : Fin (64 + 64) => if l.val < 64 then f l else 0)
  refine e.trans ?_
  simp
  exact Finset.sum_congr rfl fun x _ => congrArg f (Fin.ext (by simp))

/-- A sum masked to the odd head's lanes is the sum over its 64 lanes. -/
theorem sum_odd (f : Fin 128 → EReal) :
    ∑ l : Fin 128, (if l.val < 64 then 0 else f l) = ∑ d : Fin 64, f ⟨64 * (1 : Fin 2).val + d, by omega⟩ := by
  have e := Fin.sum_univ_add (a := 64) (b := 64) (fun l : Fin (64 + 64) => if l.val < 64 then 0 else f l)
  refine e.trans ?_
  simp
  exact Finset.sum_congr rfl fun x _ => congrArg f (Fin.ext (by simp [Nat.add_comm]))

/-- One head's score row: `t = 0` is the pair's even head, `t = 1` its odd one. -/
def headRow (b : Vec Ideal S1x1x128x256 .f32) (t : Fin 2) (r : Fin 128) : Fin 256 → EReal := fun x =>
  (∑ d : Fin 64, q (ix3 0 r ⟨64 * t + d, by omega⟩) * Ideal.ofBits FTy.f32 1040187392#32 *
    k0_pay3 kp k (ix2 x ⟨64 * t + d, by omega⟩)) + b (ix4 0 0 r x)

/-- The lanes below 64. -/
theorem pay1_at (r l : Fin 128) : k0_pay1 (ix2 r l) = IntOp.cmpi CmpIPredicate.slt (BitVec.ofNat 32 ↑l) 64#32 := by
  pointwise [k0_pay1]

/-- The product's upper half at an index: the queries masked to the even head's lanes. -/
theorem pay4_even (r : Fin 128) (x : Fin 256) : k0_pay4 q kp k (ix2 ⟨r, by omega⟩ x) =
    ∑ l : Fin 128, Scalar.select (k0_pay1 (ix2 r l)) (q (ix3 0 r l) * Ideal.ofBits FTy.f32 1040187392#32 *
      if h : x.val < 128 then kp (ix3 0 ⟨x, h⟩ l) else k (ix3 0 ⟨x - 128, by omega⟩ l)) 0 := by
  pointwise [k0_pay4]

/-- The product's lower half at an index: the queries masked to the odd head's lanes. -/
theorem pay4_odd (r : Fin 128) (x : Fin 256) : k0_pay4 q kp k (ix2 ⟨128 + r, by omega⟩ x) =
    ∑ l : Fin 128, Scalar.select (k0_pay1 (ix2 r l)) 0 (q (ix3 0 r l) * Ideal.ofBits FTy.f32 1040187392#32 *
      if h : x.val < 128 then kp (ix3 0 ⟨x, h⟩ l) else k (ix3 0 ⟨x - 128, by omega⟩ l)) := by
  pointwise [k0_pay4]

/-- The even head's row, its product over the head's own lanes. -/
theorem evenRow_eq (r : Fin 128) : evenRow (k0_pay4 q kp k) b0 r = headRow q kp k b0 0 r := by
  funext x
  unfold evenRow headRow
  congr 1
  rw [← sum_even (fun l => q (ix3 0 r l) * Ideal.ofBits FTy.f32 1040187392#32 * k0_pay3 kp k (ix2 x l))]
  simp only [pay4_even, pay1_at, select_lane, pay3_at]

/-- The odd head's row, its product over the head's own lanes. -/
theorem oddRow_eq (r : Fin 128) : oddRow (k0_pay4 q kp k) b1 r = headRow q kp k b1 1 r := by
  funext x
  unfold oddRow headRow
  congr 1
  rw [← sum_odd (fun l => q (ix3 0 r l) * Ideal.ofBits FTy.f32 1040187392#32 * k0_pay3 kp k (ix2 x l))]
  simp only [pay4_odd, pay1_at, select_lane, pay3_at]

/-- The pair's log-sum-exp at a lane of its even head. -/
theorem lse_even (r : Fin 128) (l : Fin 128) (h : l.val < 64) :
    lsePair q kp k b0 b1 (ix3 0 r l) = Cert.Softmax.lse (headRow q kp k b0 0 r) := by
  pointwise [lsePair, k0_pay20, k0_pay10, k0_pay16, k0_pay1]
  simp only [pay6_at, pay8_at, pay12_at, pay14_at, select_lane, if_pos h, evenRow_eq, Cert.Softmax.lse]

/-- The pair's log-sum-exp at a lane of its odd head. -/
theorem lse_odd (r : Fin 128) (l : Fin 128) (h : ¬l.val < 64) :
    lsePair q kp k b0 b1 (ix3 0 r l) = Cert.Softmax.lse (headRow q kp k b1 1 r) := by
  pointwise [lsePair, k0_pay20, k0_pay10, k0_pay16, k0_pay1]
  simp only [pay6_at, pay8_at, pay12_at, pay14_at, select_lane, if_neg h, oddRow_eq, Cert.Softmax.lse]

/-- The pair's output at a lane of its even head. -/
theorem out_even (r : Fin 128) (l : Fin 128) (h : l.val < 64) : outPair q kp k vp v b0 b1 (ix3 0 r l) =
    (∑ x, Ideal.exp (headRow q kp k b0 0 r x - Cert.Softmax.rowMax (headRow q kp k b0 0 r)) * k0_pay3 vp v (ix2 x l)) *
      Ideal.div 1 (Cert.Softmax.total (headRow q kp k b0 0 r)) := by
  pointwise [outPair, k0_pay19, k0_pay9, k0_pay15, k0_pay1, k0_pay17, k0_pay18, k0_pay2]
  simp only [pay7_at, pay8_at, pay13_at, pay14_at, select_lane, if_pos h, evenRow_eq, Finset.sum_const_zero, add_zero]

/-- The pair's output at a lane of its odd head. -/
theorem out_odd (r : Fin 128) (l : Fin 128) (h : ¬l.val < 64) : outPair q kp k vp v b0 b1 (ix3 0 r l) =
    (∑ x, Ideal.exp (headRow q kp k b1 1 r x - Cert.Softmax.rowMax (headRow q kp k b1 1 r)) * k0_pay3 vp v (ix2 x l)) *
      Ideal.div 1 (Cert.Softmax.total (headRow q kp k b1 1 r)) := by
  pointwise [outPair, k0_pay19, k0_pay9, k0_pay15, k0_pay1, k0_pay17, k0_pay18, k0_pay2]
  simp only [pay7_at, pay8_at, pay13_at, pay14_at, select_lane, if_neg h, oddRow_eq, Finset.sum_const_zero, zero_add]

end Cert.Attention

end
-- ==== Proof.AttentionReference.lean ====
module

public import proofs.«01_k».proof.Proof.Gen.ReferenceIdeal.Run
public import proofs.«01_k».proof.Proof.Softmax
public import Idealize.ShloMosaic.Lib.Pointwise

@[expose] public section

set_option maxRecDepth 16384

noncomputable section

namespace Cert.AttentionReference

open Cert.ReferenceIdeal Cert.ReferenceIdeal.Gen Idealize.ShloMosaic Idealize.ShloMosaic.TcCoe Idealize.SL.Sem

/-- The heads' ALiBi slopes. -/
def slopes : FVec Ideal S16 .f32 :=
  Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))

/-- The queries in blocks of 128 rows. -/
def qBlocks (A : FVec Ideal S8x4096x9216 .f32) : FVec Ideal S8x32x128x16x1x64 .f32 :=
  shapeCast _ (shapeCast _ (transpose S8x1x4096x16x1x64 [0, 2, 1, 3, 4, 5] (shapeCast _ (pad S8x4096x16x1x64 ![0, 0, 0, 0, 0] ![0, 0, 0, 0, 0] ![0, 0, 0, 0, 0] (shapeCast _ (extractStridedSlice S8x4096x1x16x1x64 ![0, 0, 0, 0, 0, 0] (shapeCast _ (extractStridedSlice S8x4096x3072 ![0, 0, 0] (A) slices_S8x4096x9216_S8x4096x3072_0_0_0) shapeCasts_S8x4096x3072_S8x4096x3x16x1x64) slices_S8x4096x3x16x1x64_S8x4096x1x16x1x64_0_0_0_0_0_0) shapeCasts_S8x4096x1x16x1x64_S8x4096x16x1x64) (sitofp .f32 (constantI S_ 32 0#32)) pads_S8x4096x16x1x64_S8x4096x16x1x64_000_000_000_000_000 h_S_) shapeCasts_S8x4096x16x1x64_S8x4096x1x16x1x64) transposes_S8x4096x1x16x1x64_S8x1x4096x16x1x64_0_2_1_3_4_5) shapeCasts_S8x1x4096x16x1x64_S8x4096x16x1x64) shapeCasts_S8x4096x16x1x64_S8x32x128x16x1x64

/-- The keys in blocks of 128 rows. -/
def kPlain (A : FVec Ideal S8x4096x9216 .f32) : FVec Ideal S8x32x128x16x64 .f32 :=
  shapeCast _ (shapeCast _ (transpose S8x1x4096x16x64 [0, 2, 1, 3, 4] (shapeCast _ (pad S8x4096x16x64 ![0, 0, 0, 0] ![0, 0, 0, 0] ![0, 0, 0, 0] (shapeCast _ (extractStridedSlice S8x4096x1x16x64 ![0, 0, 0, 0, 0] (shapeCast _ (extractStridedSlice S8x4096x3072 ![0, 0, 3072] (A) slices_S8x4096x9216_S8x4096x3072_0_0_3072) shapeCasts_S8x4096x3072_S8x4096x3x16x64) slices_S8x4096x3x16x64_S8x4096x1x16x64_0_0_0_0_0) shapeCasts_S8x4096x1x16x64_S8x4096x16x64) (sitofp .f32 (constantI S_ 32 0#32)) pads_S8x4096x16x64_S8x4096x16x64_000_000_000_000 h_S_) shapeCasts_S8x4096x16x64_S8x4096x1x16x64) transposes_S8x4096x1x16x64_S8x1x4096x16x64_0_2_1_3_4) shapeCasts_S8x1x4096x16x64_S8x4096x16x64) shapeCasts_S8x4096x16x64_S8x32x128x16x64

/-- The values in blocks of 128 rows. -/
def vPlain (A : FVec Ideal S8x4096x9216 .f32) : FVec Ideal S8x32x128x16x64 .f32 :=
  shapeCast _ (shapeCast _ (transpose S8x1x4096x16x64 [0, 2, 1, 3, 4] (shapeCast _ (pad S8x4096x16x64 ![0, 0, 0, 0] ![0, 0, 0, 0] ![0, 0, 0, 0] (shapeCast _ (extractStridedSlice S8x4096x1x16x64 ![0, 0, 0, 0, 0] (shapeCast _ (extractStridedSlice S8x4096x3072 ![0, 0, 6144] (A) slices_S8x4096x9216_S8x4096x3072_0_0_6144) shapeCasts_S8x4096x3072_S8x4096x3x16x64) slices_S8x4096x3x16x64_S8x4096x1x16x64_0_0_0_0_0) shapeCasts_S8x4096x1x16x64_S8x4096x16x64) (sitofp .f32 (constantI S_ 32 0#32)) pads_S8x4096x16x64_S8x4096x16x64_000_000_000_000 h_S_) shapeCasts_S8x4096x16x64_S8x4096x1x16x64) transposes_S8x4096x1x16x64_S8x1x4096x16x64_0_2_1_3_4) shapeCasts_S8x1x4096x16x64_S8x4096x16x64) shapeCasts_S8x4096x16x64_S8x32x128x16x64

/-- Each block's keys after the block before it (zeros before the first). -/
def kBlocks (A : FVec Ideal S8x4096x9216 .f32) : FVec Ideal S8x32x256x16x64 .f32 :=
  concatenate S8x32x256x16x64 2 [⟨S8x32x128x16x64, (pad S8x32x128x16x64 ![0, 1, 0, 0, 0] ![0, 0, 0, 0, 0] ![0, 0, 0, 0, 0] (extractStridedSlice S8x31x128x16x64 ![0, 0, 0, 0, 0] (kPlain A) slices_S8x32x128x16x64_S8x31x128x16x64_0_0_0_0_0) (sitofp .f32 (constantI S_ 32 0#32)) pads_S8x31x128x16x64_S8x32x128x16x64_000_100_000_000_000 h_S_)⟩, ⟨S8x32x128x16x64, (kPlain A)⟩] concatenates_S8x32x128x16x64_S8x32x128x16x64_S8x32x256x16x64_d2

/-- Each block's values after the block before it (zeros before the first). -/
def vBlocks (A : FVec Ideal S8x4096x9216 .f32) : FVec Ideal S8x32x256x16x64 .f32 :=
  concatenate S8x32x256x16x64 2 [⟨S8x32x128x16x64, (pad S8x32x128x16x64 ![0, 1, 0, 0, 0] ![0, 0, 0, 0, 0] ![0, 0, 0, 0, 0] (extractStridedSlice S8x31x128x16x64 ![0, 0, 0, 0, 0] (vPlain A) slices_S8x32x128x16x64_S8x31x128x16x64_0_0_0_0_0) (sitofp .f32 (constantI S_ 32 0#32)) pads_S8x31x128x16x64_S8x32x128x16x64_000_100_000_000_000 h_S_)⟩, ⟨S8x32x128x16x64, (vPlain A)⟩] concatenates_S8x32x128x16x64_S8x32x128x16x64_S8x32x256x16x64_d2

/-- How far back key column `k` lies from query row `r`. -/
def dist : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- Which keys a row may look at: at most 128 back, and none before the first block. -/
def valid : IVec S32x128x256 1 :=
  andi (broadcastInDim S32x128x256 ![0, 1, 2] bcast_S1x128x256_S32x128x256_0_1_2 (broadcastInDim S1x128x256 ![1, 2] bcast_S128x256_S1x128x256_1_2 (andi (cmpi .sge (dist) (broadcastInDim S128x256 ![] bcast_S_S128x256 (constantI S_ 32 0#32))) (cmpi .sle (dist) (broadcastInDim S128x256 ![] bcast_S_S128x256 (constantI S_ 32 128#32)))))) (broadcastInDim S32x128x256 ![0, 1, 2] bcast_S32x1x256_S32x128x256_0_1_2 (ori (broadcastInDim S32x1x256 ![0, 1, 2] bcast_S32x1x1_S32x1x256_0_1_2 (broadcastInDim S32x1x1 ![0] bcast_S32_S32x1x1_0 (cmpi .sgt (iotaInDim S32 32 0) (broadcastInDim S32 ![] bcast_S_S32 (constantI S_ 32 0#32))))) (broadcastInDim S32x1x256 ![0, 1, 2] bcast_S1x1x256_S32x1x256_0_1_2 (broadcastInDim S1x1x256 ![2] bcast_S256_S1x1x256_2 (cmpi .sge (iotaInDim S256 32 0) (broadcastInDim S256 ![] bcast_S_S256 (constantI S_ 32 128#32)))))))

/-- The ALiBi bias. -/
def bias : FVec Ideal S128x16x1x256 .f32 :=
  Host.negf (mulf (broadcastInDim S128x16x1x256 ![0, 1, 2, 3] bcast_S1x16x1x1_S128x16x1x256_0_1_2_3 (broadcastInDim S1x16x1x1 ![1, 2] bcast_S16x1_S1x16x1x1_1_2 (shapeCast _ (slopes) shapeCasts_S16_S16x1))) (broadcastInDim S128x16x1x256 ![0, 1, 2, 3] bcast_S128x1x1x256_S128x16x1x256_0_1_2_3 (broadcastInDim S128x1x1x256 ![0, 3] bcast_S128x256_S128x1x1x256_0_3 (sitofp .f32 (muli (dist) (broadcastInDim S128x256 ![] bcast_S_S128x256 (constantI S_ 32 1#32)))))))

/-- The masked scores. -/
def scores (A : FVec Ideal S8x4096x9216 .f32) : FVec Ideal S8x32x128x16x1x256 .f32 :=
  select (broadcastInDim S8x32x128x16x1x256 ![0, 1, 2, 3, 4, 5] bcast_S1x32x128x1x1x256_S8x32x128x16x1x256_0_1_2_3_4_5 (broadcastInDim S1x32x128x1x1x256 ![1, 2, 5] bcast_S32x128x256_S1x32x128x1x1x256_1_2_5 (valid))) (addf (mulf (transpose S8x32x128x16x1x256 [0, 1, 4, 2, 5, 3] (Host.dotGeneral dot_S8x32x256x16x64_S8x32x128x16x1x64_S8x32x16x256x128x1_4_5_2_24_013_013 none (kBlocks A) (qBlocks A)) transposes_S8x32x16x256x128x1_S8x32x128x16x1x256_0_1_4_2_5_3) (broadcastInDim S8x32x128x16x1x256 ![] bcast_S_S8x32x128x16x1x256 (constant S_ .f32 0x3E000000#32))) (broadcastInDim S8x32x128x16x1x256 ![0, 1, 2, 3, 4, 5] bcast_S1x1x128x16x1x256_S8x32x128x16x1x256_0_1_2_3_4_5 (broadcastInDim S1x1x128x16x1x256 ![2, 3, 4, 5] bcast_S128x16x1x256_S1x1x128x16x1x256_2_3_4_5 (bias)))) (broadcastInDim S8x32x128x16x1x256 ![] bcast_S_S8x32x128x16x1x256 ((constant S_ .f32 0xFF800000#32)))

/-- Each row's largest score. -/
def largest (A : FVec Ideal S8x4096x9216 .f32) : FVec Ideal S8x32x128x16x1 .f32 :=
  Host.reduce FloatOps.maximumf (scores A) (constant S_ .f32 0xFF800000#32) reducesTo_S8x32x128x16x1x256_S8x32x128x16x1_d5 h_S_

/-- The exponentials of the scores less the largest. -/
def expo (A : FVec Ideal S8x4096x9216 .f32) : FVec Ideal S8x32x128x16x1x256 .f32 :=
  Host.exp (subf (scores A) (broadcastInDim S8x32x128x16x1x256 ![0, 1, 2, 3, 4, 5] bcast_S8x32x128x16x1x1_S8x32x128x16x1x256_0_1_2_3_4_5 (broadcastInDim S8x32x128x16x1x1 ![0, 1, 2, 3, 4] bcast_S8x32x128x16x1_S8x32x128x16x1x1_0_1_2_3_4 (largest A))))

/-- Each row's sum of exponentials. -/
def den (A : FVec Ideal S8x4096x9216 .f32) : FVec Ideal S8x32x128x16x1 .f32 :=
  Host.reduceAdd (expo A) (constant S_ .f32 0x00000000#32) reducesTo_S8x32x128x16x1x256_S8x32x128x16x1_d5 h_S_

/-- The softmax weights. -/
def prob (A : FVec Ideal S8x4096x9216 .f32) : FVec Ideal S8x32x128x16x1x256 .f32 :=
  Host.divf (expo A) (broadcastInDim S8x32x128x16x1x256 ![0, 1, 2, 3, 4, 5] bcast_S8x32x128x16x1x1_S8x32x128x16x1x256_0_1_2_3_4_5 (broadcastInDim S8x32x128x16x1x1 ![0, 1, 2, 3, 4] bcast_S8x32x128x16x1_S8x32x128x16x1x1_0_1_2_3_4 (den A)))

/-- Each row's log-sum-exp. -/
def rowLse (A : FVec Ideal S8x4096x9216 .f32) : FVec Ideal S8x32x128x16x1 .f32 :=
  addf (largest A) (Host.log (den A))

/-- The reference's attention output, a function of the projected rows. -/
def refOut (A : FVec Ideal S8x4096x9216 .f32) : FVec Ideal S8x4096x1024 .f32 :=
  shapeCast _ (shapeCast _ (transpose S8x4096x1x16x1x64 [0, 2, 1, 3, 4, 5] (shapeCast _ (transpose S8x32x128x16x1x64 [0, 1, 4, 2, 5, 3] (Host.dotGeneral dot_S8x32x256x16x64_S8x32x128x16x1x256_S8x32x16x64x128x1_2_5_4_24_013_013 none (vBlocks A) (prob A)) transposes_S8x32x16x64x128x1_S8x32x128x16x1x64_0_1_4_2_5_3) shapeCasts_S8x32x128x16x1x64_S8x1x4096x16x1x64) transposes_S8x1x4096x16x1x64_S8x4096x1x16x1x64_0_2_1_3_4_5) shapeCasts_S8x4096x1x16x1x64_S8x4096x16x1x64) shapeCasts_S8x4096x16x1x64_S8x4096x1024

/-- One number per row and head, spread over the head's lanes. -/
def spread (X : FVec Ideal S8x32x128x16x1 .f32) : FVec Ideal S8x4096x1024 .f32 :=
  shapeCast S8x4096x1024 (broadcastInDim S8x4096x16x1x64 ![0, 1, 2, 3, 4] bcast_S8x4096x16x1x1_S8x4096x16x1x64_0_1_2_3_4 (broadcastInDim S8x4096x16x1x1 ![0, 1, 2, 3] bcast_S8x4096x16x1_S8x4096x16x1x1_0_1_2_3 (shapeCast _ (transpose S8x4096x1x16x1 [0, 2, 1, 3, 4] (shapeCast _ X shapeCasts_S8x32x128x16x1_S8x1x4096x16x1) transposes_S8x1x4096x16x1_S8x4096x1x16x1_0_2_1_3_4) shapeCasts_S8x4096x1x16x1_S8x4096x16x1))) shapeCasts_S8x4096x16x1x64_S8x4096x1024

/-- The reference's log-sum-exp, spread over the head's lanes. -/
def refLse (A : FVec Ideal S8x4096x9216 .f32) : FVec Ideal S8x4096x1024 .f32 :=
  spread (rowLse A)

/-- The reference's first result is `refOut` of its argument. -/
theorem out_eq (m : (ℓ : Loc nD τ sig) → Buf (Elt Ideal) ℓ) (c : Dev nD) :
    Cert.ReferenceIdeal.Value.res_main_v110 m c = refOut (m ((c.tc : Thread nD τ).loc main_arg0)) := rfl

/-- The reference's second result is `refLse` of its argument. -/
theorem lse_eq (m : (ℓ : Loc nD τ sig) → Buf (Elt Ideal) ℓ) (c : Dev nD) :
    Cert.ReferenceIdeal.Value.res_main_v111 m c = refLse (m ((c.tc : Thread nD τ).loc main_arg0)) := rfl

/-! ### Each stage at an index -/

/-- The offset as a word. -/
theorem dist_at (r : Fin 128) (x : Fin 256) : dist (ix2 r x) =
    IntOp.subi (IntOp.addi (BitVec.ofNat 32 ↑r) 128#32) (BitVec.ofNat 32 ↑x) := by
  pointwise [dist]

/-- Which keys a row may look at, as words. -/
theorem valid_at (u : Fin 32) (r : Fin 128) (x : Fin 256) : valid (ix3 u r x) =
    IntOp.andi (IntOp.andi (IntOp.cmpi CmpIPredicate.sge (dist (ix2 r x)) 0#32)
        (IntOp.cmpi CmpIPredicate.sle (dist (ix2 r x)) 128#32))
      (IntOp.ori (IntOp.cmpi CmpIPredicate.sgt (BitVec.ofNat 32 ↑u) 0#32)
        (IntOp.cmpi CmpIPredicate.sge (BitVec.ofNat 32 ↑x) 128#32)) := by
  pointwise [valid]

/-- The bias is minus the head's slope times the offset. -/
theorem bias_at (r : Fin 128) (h : Fin 16) (x : Fin 256) : bias (ix4 r h 0 x) =
    -(slopes (ix1 h) * FloatOps.sitofp (F := Ideal) FTy.f32 (IntOp.muli (dist (ix2 r x)) 1#32)) := by
  pointwise [bias]

variable (A : FVec Ideal S8x4096x9216 .f32)

/-- A query of block `u`. -/
theorem qBlocks_at (b : Fin 8) (u : Fin 32) (r : Fin 128) (h : Fin 16) (d : Fin 64) :
    qBlocks A (ix6 b u r h 0 d) = A (ix3 b ⟨↑u * 128 + ↑r, by omega⟩ ⟨↑h * 64 + ↑d, by omega⟩) := by
  pointwise [qBlocks]
  rw [dif_pos (by omega)]

/-- The zero word is the number zero. -/
theorem zero_word : FloatOps.sitofp (F := Ideal) FTy.f32 0#32 = 0 := by simp [FloatOps.sitofp]

/-- Equal rows read equal entries. -/
theorem same_row (b : Fin 8) (n n' : Nat) (hn : n < 4096) (hn' : n' < 4096) (l : Fin 9216) (h : n = n') :
    A (ix3 b ⟨n, hn⟩ l) = A (ix3 b ⟨n', hn'⟩ l) := by
  subst h; rfl

/-- A key of block `u`'s window: the block before it, then the block itself. -/
theorem kBlocks_at (b : Fin 8) (u : Fin 32) (x : Fin 256) (h : Fin 16) (d : Fin 64) :
    kBlocks A (ix5 b u x h d) =
      if hx : 128 ≤ u.val * 128 + x.val then
        A (ix3 b ⟨u.val * 128 + x.val - 128, by omega⟩ ⟨3072 + (↑h * 64 + ↑d), by omega⟩) else 0 := by
  by_cases h1 : x.val < 128
  · by_cases h2 : 128 ≤ u.val * 128 + x.val
    · have h3 : (1 ≤ u.val ∧ u.val - 1 < 31) ∧ x.val < 128 := by omega
      have h4 : (u.val - 1) * 128 + x.val < 4096 := by omega
      rw [dif_pos h2]
      pointwise [kBlocks, kPlain]
      refine (dif_pos h1).trans ((dif_pos h3).trans ((dif_pos h4).trans ?_))
      apply same_row
      omega
    · have h3 : ¬((1 ≤ u.val ∧ u.val - 1 < 31) ∧ x.val < 128) := by omega
      rw [dif_neg h2]
      pointwise [kBlocks, kPlain]
      exact (dif_pos h1).trans ((dif_neg h3).trans zero_word)
  · have h2 : 128 ≤ u.val * 128 + x.val := by omega
    have h3 : u.val * 128 + (x.val - 128) < 4096 := by omega
    rw [dif_pos h2]
    pointwise [kBlocks, kPlain]
    refine (dif_neg h1).trans ((dif_pos h3).trans ?_)
    apply same_row
    omega

/-- A value of block `u`'s window: the block before it, then the block itself. -/
theorem vBlocks_at (b : Fin 8) (u : Fin 32) (x : Fin 256) (h : Fin 16) (d : Fin 64) :
    vBlocks A (ix5 b u x h d) =
      if hx : 128 ≤ u.val * 128 + x.val then
        A (ix3 b ⟨u.val * 128 + x.val - 128, by omega⟩ ⟨6144 + (↑h * 64 + ↑d), by omega⟩) else 0 := by
  by_cases h1 : x.val < 128
  · by_cases h2 : 128 ≤ u.val * 128 + x.val
    · have h3 : (1 ≤ u.val ∧ u.val - 1 < 31) ∧ x.val < 128 := by omega
      have h4 : (u.val - 1) * 128 + x.val < 4096 := by omega
      rw [dif_pos h2]
      pointwise [vBlocks, vPlain]
      refine (dif_pos h1).trans ((dif_pos h3).trans ((dif_pos h4).trans ?_))
      apply same_row
      omega
    · have h3 : ¬((1 ≤ u.val ∧ u.val - 1 < 31) ∧ x.val < 128) := by omega
      rw [dif_neg h2]
      pointwise [vBlocks, vPlain]
      exact (dif_pos h1).trans ((dif_neg h3).trans zero_word)
  · have h2 : 128 ≤ u.val * 128 + x.val := by omega
    have h3 : u.val * 128 + (x.val - 128) < 4096 := by omega
    rw [dif_pos h2]
    pointwise [vBlocks, vPlain]
    refine (dif_neg h1).trans ((dif_pos h3).trans ?_)
    apply same_row
    omega

/-- A masked score. -/
theorem scores_at (b : Fin 8) (u : Fin 32) (r : Fin 128) (h : Fin 16) (x : Fin 256) :
    scores A (ix6 b u r h 0 x) = Scalar.select (valid (ix3 u r x))
      ((∑ d : Fin 64, kBlocks A (ix5 b u x h d) * qBlocks A (ix6 b u r h 0 d)) * Ideal.ofBits FTy.f32 1040187392#32 +
        bias (ix4 r h 0 x))
      (Ideal.ofBits FTy.f32 4286578688#32) := by
  pointwise [scores]

/-- The score row of query `r` of block `u`. -/
def row (b : Fin 8) (u : Fin 32) (r : Fin 128) (h : Fin 16) : Fin 256 → EReal := fun x => scores A (ix6 b u r h 0 x)

/-- The scores reduced into row `(b, u, r, h)` are those of its 256 key columns. -/
theorem fiber (b : Fin 8) (u : Fin 32) (r : Fin 128) (h : Fin 16) (i : S8x32x128x16x1x256.Idx) :
    reducesTo_S8x32x128x16x1x256_S8x32x128x16x1_d5.drop i = ix5 b u r h 0 ↔
      ∃ k : Fin 256, (ix6 b u r h 0 k : S8x32x128x16x1x256.Idx) = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

/-- The largest score is the row's. -/
theorem largest_at (b : Fin 8) (u : Fin 32) (r : Fin 128) (h : Fin 16) :
    largest A (ix5 b u r h 0) = Cert.Softmax.rowMax (row A b u r h) := by
  unfold largest
  rw [Host.reduce_eq_fold, Finset.fold_filter_eq_fold_of_fiber _ _ (fun k : Fin 256 => (ix6 b u r h 0 k : S8x32x128x16x1x256.Idx))
    (fun _ _ e => congrFun e 5) (fiber b u r h)]
  have hb : (constant (F := Ideal) S_ FTy.f32 0xFF800000#32) (Shape.Idx.first h_S_) = (⊥ : EReal) := by
    simp [constant, Ideal.ofBits, Ideal.ieee]
  rw [hb]
  rfl

/-- An exponential at an index. -/
theorem expo_at (b : Fin 8) (u : Fin 32) (r : Fin 128) (h : Fin 16) (x : Fin 256) :
    expo A (ix6 b u r h 0 x) = Ideal.exp (row A b u r h x - Cert.Softmax.rowMax (row A b u r h)) := by
  rw [← largest_at]
  pointwise [expo, row]

/-- The sum of exponentials is the row's. -/
theorem den_at (b : Fin 8) (u : Fin 32) (r : Fin 128) (h : Fin 16) :
    den A (ix5 b u r h 0) = Cert.Softmax.total (row A b u r h) := by
  unfold den
  rw [Idealize.ShloMosaic.ValueIdx.hostReduceAdd_apply]
  unfold Ideal.hostReduceAdd
  rw [Finset.sum_filter_eq_sum_of_fiber _ (fun k : Fin 256 => (ix6 b u r h 0 k : S8x32x128x16x1x256.Idx))
    (fun _ _ e => congrFun e 5) (fiber b u r h)]
  have hb : (constant (F := Ideal) S_ FTy.f32 0x00000000#32) (Shape.Idx.first h_S_) = (0 : EReal) := by
    simp [constant, Ideal.ofBits, Ideal.ieee]
  rw [hb, zero_add]
  simp only [expo_at]
  rfl

/-- The reference's attention at an index is the softmax average of the head's values. -/
theorem out_at (b : Fin 8) (n : Fin 4096) (l : Fin 1024) : refOut A (ix3 b n l) =
    Cert.Softmax.attend (row A b ⟨n / 128, by omega⟩ ⟨n % 128, by omega⟩ ⟨l / 64, by omega⟩)
      (fun x => vBlocks A (ix5 b ⟨n / 128, by omega⟩ x ⟨l / 64, by omega⟩ ⟨l % 64, by omega⟩)) := by
  pointwise [refOut, prob]
  simp only [expo_at, den_at]
  rfl

/-- What a lane of the spread array reads. -/
theorem spread_at (X : FVec Ideal S8x32x128x16x1 .f32) (b : Fin 8) (n : Fin 4096) (l : Fin 1024) :
    spread X (ix3 b n l) = X (ix5 b ⟨n / 128, by omega⟩ ⟨n % 128, by omega⟩ ⟨l / 64, by omega⟩ 0) := by
  pointwise [spread]

/-- A sum with a logarithm at an index. -/
theorem sum_log_at (X Y : FVec Ideal S8x32x128x16x1 .f32) (j : S8x32x128x16x1.Idx) :
    addf X (Host.log Y) j = X j + Ideal.log (Y j) := rfl

/-- The reference's log-sum-exp at an index. -/
theorem lse_at (b : Fin 8) (n : Fin 4096) (l : Fin 1024) : refLse A (ix3 b n l) =
    Cert.Softmax.lse (row A b ⟨n / 128, by omega⟩ ⟨n % 128, by omega⟩ ⟨l / 64, by omega⟩) := by
  refine (spread_at (rowLse A) b n l).trans ?_
  refine (sum_log_at _ _ _).trans ?_
  exact congrArg₂ (fun a b : EReal => a + Ideal.log b) (largest_at A _ _ _ _) (den_at A _ _ _ _)

end Cert.AttentionReference

end
-- ==== Proof.AttentionPoint.lean ====
module

public import proofs.«01_k».proof.Proof.AttentionPairValues
public import proofs.«01_k».proof.Proof.AttentionReference

@[expose] public section

set_option maxRecDepth 16384

noncomputable section

namespace Cert.Attention

open Cert.KernelIdeal Cert.KernelIdeal.Gen Idealize.ShloMosaic Idealize.ShloMosaic.TcCoe Idealize.SL.Sem

/-! ### The bias table -/

/-- The kernel's table of offsets. -/
def tableDist : IVec S2x16x128x256 32 :=
  subi (addi (iotaInDim S2x16x128x256 32 2) (broadcastInDim S2x16x128x256 ![] bcast_S_S2x16x128x256 (constantI S_ 32 128#32)))
    (iotaInDim S2x16x128x256 32 3)

/-- The kernel's table of the keys a row may look at; index 1 of the first axis is the first block's. -/
def tableValid : IVec S2x16x128x256 1 :=
  andi (andi (cmpi .sge tableDist (broadcastInDim S2x16x128x256 ![] bcast_S_S2x16x128x256 (constantI S_ 32 0#32)))
      (cmpi .sle tableDist (broadcastInDim S2x16x128x256 ![] bcast_S_S2x16x128x256 (constantI S_ 32 128#32))))
    (ori (cmpi .eq (iotaInDim S2x16x128x256 32 0) (broadcastInDim S2x16x128x256 ![] bcast_S_S2x16x128x256 (constantI S_ 32 0#32)))
      (cmpi .sge (iotaInDim S2x16x128x256 32 3) (broadcastInDim S2x16x128x256 ![] bcast_S_S2x16x128x256 (constantI S_ 32 128#32))))

/-- The heads' ALiBi slopes as the kernel's host code computes them. -/
def tableSlopes : FVec Ideal S16 .f32 :=
  Host.powf (broadcastInDim S16 ![] bcast_S_S16 (constant S_ FTy.f32 1073741824#32))
    (Host.divf (mulf (broadcastInDim S16 ![] bcast_S_S16 (constant S_ FTy.f32 3238002688#32))
      (addf (sitofp FTy.f32 (iotaInDim S16 32 0)) (broadcastInDim S16 ![] bcast_S_S16 (constant S_ FTy.f32 1065353216#32))))
      (broadcastInDim S16 ![] bcast_S_S16 (constant S_ FTy.f32 1098907648#32)))

/-- The kernel's bias table: minus the slope times the offset where a key may be looked at, `-∞` elsewhere. -/
def biasTable : FVec Ideal S2x16x128x256 .f32 :=
  select tableValid
    (mulf (broadcastInDim S2x16x128x256 ![0, 1, 2, 3] bcast_S1x16x1x1_S2x16x128x256_0_1_2_3
        (Host.negf (broadcastInDim S1x16x1x1 ![1] bcast_S16_S1x16x1x1_1 tableSlopes)))
      (sitofp FTy.f32 (muli tableDist (broadcastInDim S2x16x128x256 ![] bcast_S_S2x16x128x256 (constantI S_ 32 1#32)))))
    (broadcastInDim S2x16x128x256 ![] bcast_S_S2x16x128x256 (constant S_ FTy.f32 0xFF800000#32))

/-- The two programs' slopes are the same. -/
theorem slopes_eq (h : Fin 16) : tableSlopes (ix1 h) = Cert.AttentionReference.slopes (ix1 h) := by
  pointwise [tableSlopes, Cert.AttentionReference.slopes]
  rw [add_comm (FloatOps.sitofp (F := Ideal) FTy.f32 (BitVec.ofNat 32 ↑h)) 1]

/-- A slope is a real number. -/
theorem slopes_real (h : Fin 16) : ∃ r : ℝ, Cert.AttentionReference.slopes (ix1 h) = (r : EReal) := by
  pointwise [Cert.AttentionReference.slopes]
  obtain ⟨b, hb⟩ : ∃ b : ℝ, Ideal.ofBits FTy.f32 1073741824#32 = (b : EReal) := ⟨_, rfl⟩
  obtain ⟨a, ha⟩ : ∃ b : ℝ, Ideal.ofBits FTy.f32 3238002688#32 = (b : EReal) := ⟨_, rfl⟩
  have hd : Ideal.ofBits FTy.f32 1098907648#32 = ((16 : ℝ) : EReal) := by
    simp [Ideal.ofBits, Ideal.ieee]
    rw [← EReal.coe_mul]
    norm_num
  obtain ⟨e, he⟩ : ∃ b : ℝ, FloatOps.sitofp (F := Ideal) FTy.f32 (BitVec.ofNat 32 ↑h) = (b : EReal) := ⟨_, rfl⟩
  rw [hb, ha, hd, he]
  unfold Ideal.div
  rw [if_neg (by norm_num), ← EReal.coe_inv, ← EReal.coe_one, ← EReal.coe_add, ← EReal.coe_mul, ← EReal.coe_mul, Ideal.pow_coe_coe]
  exact ⟨_, rfl⟩

/-- The table's offsets are the reference's. -/
theorem tableDist_at (f : Fin 2) (h : Fin 16) (r : Fin 128) (x : Fin 256) :
    tableDist (ix4 f h r x) = Cert.AttentionReference.dist (ix2 r x) := by
  pointwise [tableDist, Cert.AttentionReference.dist]

/-- Block `u` reads the table at `1` when it is its batch's first and at `0` otherwise, and there the table allows what the reference does. -/
theorem tableValid_at (u : Fin 32) (f : Fin 2) (hf : f.val = if u.val = 0 then 1 else 0) (h : Fin 16) (r : Fin 128) (x : Fin 256) :
    tableValid (ix4 f h r x) = Cert.AttentionReference.valid (ix3 u r x) := by
  pointwise [tableValid, Cert.AttentionReference.valid]
  rw [tableDist_at]
  have e : IntOp.cmpi .eq (BitVec.ofNat 32 ↑f) 0#32 = IntOp.cmpi .sgt (BitVec.ofNat 32 ↑u) 0#32 := by
    rw [hf]
    clear hf f h r x
    revert u
    decide +kernel
  rw [e]

/-- The table at an index: the reference's bias where the reference allows the key, `-∞` elsewhere. -/
theorem biasTable_at (u : Fin 32) (f : Fin 2) (hf : f.val = if u.val = 0 then 1 else 0) (h : Fin 16) (r : Fin 128) (x : Fin 256) :
    biasTable (ix4 f h r x) = Scalar.select (Cert.AttentionReference.valid (ix3 u r x)) (Cert.AttentionReference.bias (ix4 r h 0 x)) ⊥ := by
  rw [Cert.AttentionReference.bias_at, ← tableValid_at u f hf h r x, ← slopes_eq, ← EReal.neg_mul]
  pointwise [biasTable]
  rw [tableDist_at, ofBits_bot]

/-! ### Real numbers among the extended reals -/

/-- An extended real that is a real number. -/
def IsReal (x : EReal) : Prop := ∃ r : ℝ, x = (r : EReal)

/-- A product of real numbers is one. -/
theorem IsReal.mul {x y : EReal} : IsReal x → IsReal y → IsReal (x * y) := fun ⟨a, ha⟩ ⟨b, hb⟩ => ⟨a * b, by rw [ha, hb, EReal.coe_mul]⟩

/-- A sum of two real numbers is one. -/
theorem IsReal.add {x y : EReal} : IsReal x → IsReal y → IsReal (x + y) := fun ⟨a, ha⟩ ⟨b, hb⟩ => ⟨a + b, by rw [ha, hb, EReal.coe_add]⟩

/-- Minus a real number is one. -/
theorem IsReal.neg {x : EReal} : IsReal x → IsReal (-x) := fun ⟨a, ha⟩ => ⟨-a, by rw [ha, EReal.coe_neg]⟩

/-- A finite sum of real numbers is one. -/
theorem IsReal.sum {ι : Type} (t : Finset ι) (f : ι → EReal) (h : ∀ x, IsReal (f x)) : IsReal (∑ x ∈ t, f x) := by
  classical
  induction t using Finset.induction_on with
  | empty => exact ⟨0, by simp⟩
  | insert a t ha ih => rw [Finset.sum_insert ha]; exact (h a).add ih

/-- A real number is not `+∞`. -/
theorem IsReal.ne_top {x : EReal} : IsReal x → x ≠ ⊤ := fun ⟨a, ha⟩ => ha ▸ EReal.coe_ne_top a

/-- A real number is not `-∞`. -/
theorem IsReal.ne_bot {x : EReal} : IsReal x → x ≠ ⊥ := fun ⟨a, ha⟩ => ha ▸ EReal.coe_ne_bot a

/-! ### The rows of scores -/

open Cert.AttentionReference (kBlocks vBlocks qBlocks scores row valid bias refOut refLse)

/-- A key a row may look at lies in the row's own block or the one before it, never before the batch's first. -/
theorem valid_window (u : Fin 32) (r : Fin 128) (x : Fin 256) (h : valid (ix3 u r x) = 1) : u.val ≠ 0 ∨ 128 ≤ x.val := by
  by_contra hc
  have hu : u.val = 0 := by omega
  have hx : x.val < 128 := by omega
  have e1 : ∀ x : Fin 256, x.val < 128 → IntOp.cmpi CmpIPredicate.sge (BitVec.ofNat 32 ↑x) 128#32 = 0#1 := by decide +kernel
  have e2 : IntOp.cmpi CmpIPredicate.sgt (BitVec.ofNat 32 0) 0#32 = 0#1 := by decide
  have e3 : ∀ w : BitVec 1, ¬IntOp.andi w (IntOp.ori 0#1 0#1) = 1 := by decide
  rw [Cert.AttentionReference.valid_at, hu, e1 x hx, e2] at h
  exact e3 _ h

/-- A row may look at its own key. -/
theorem valid_self (u : Fin 32) (r : Fin 128) : valid (ix3 u r ⟨128 + r, by omega⟩) = 1 := by
  rw [Cert.AttentionReference.valid_at, Cert.AttentionReference.dist_at]
  have e1 : ∀ r : Fin 128, IntOp.andi
      (IntOp.cmpi CmpIPredicate.sge (IntOp.subi (IntOp.addi (BitVec.ofNat 32 ↑r) 128#32) (BitVec.ofNat 32 (128 + ↑r))) 0#32)
      (IntOp.cmpi CmpIPredicate.sle (IntOp.subi (IntOp.addi (BitVec.ofNat 32 ↑r) 128#32) (BitVec.ofNat 32 (128 + ↑r))) 128#32) = 1#1 := by
    decide +kernel
  have e2 : ∀ r : Fin 128, IntOp.cmpi CmpIPredicate.sge (BitVec.ofNat 32 (128 + ↑r)) 128#32 = 1#1 := by decide +kernel
  have e3 : ∀ w : BitVec 1, IntOp.andi 1#1 (IntOp.ori w 1#1) = 1 := by decide
  refine Eq.trans ?_ (e3 (IntOp.cmpi CmpIPredicate.sgt (BitVec.ofNat 32 ↑u) 0#32))
  exact congrArg₂ IntOp.andi (e1 r) (congrArg (IntOp.ori _) (e2 r))

/-- The scale of the scores, an eighth. -/
theorem scale_eq : Ideal.ofBits FTy.f32 1040187392#32 = (((1 / 8 : ℝ) : ℝ) : EReal) := by
  simp [Ideal.ofBits, Ideal.ieee]
  rw [← EReal.coe_mul]
  norm_num

variable (A : FVec Ideal S8x4096x9216 .f32) (B : Fin 8) (u : Fin 32) (f : Fin 2) (h : Fin 16) (t : Fin 2)
  (q kp k vp v : Vec Ideal S1x128x128 .f32) (b b0 b1 : Vec Ideal S1x1x128x256 .f32)

/-- The kernel's score row is the reference's. -/
theorem row_eq (hf : f.val = if u.val = 0 then 1 else 0)
    (hq : ∀ (r : Fin 128) (d : Fin 64), q (ix3 0 r ⟨64 * t + d, by omega⟩) = qBlocks A (ix6 B u r h 0 d))
    (hk : ∀ (x : Fin 256) (d : Fin 64), u.val ≠ 0 ∨ 128 ≤ x.val → k0_pay3 kp k (ix2 x ⟨64 * t + d, by omega⟩) = kBlocks A (ix5 B u x h d))
    (hb : ∀ (r : Fin 128) (x : Fin 256), b (ix4 0 0 r x) = biasTable (ix4 f h r x)) (r : Fin 128) :
    headRow q kp k b t r = row A B u r h := by
  funext x
  unfold headRow row
  rw [hb, biasTable_at u f hf, Cert.AttentionReference.scores_at]
  by_cases hv : valid (ix3 u r x) = 1
  · simp only [Scalar.select, if_pos hv]
    congr 1
    rw [mul_comm (∑ d : Fin 64, kBlocks A (ix5 B u x h d) * qBlocks A (ix6 B u r h 0 d)), Cert.Softmax.mul_sum _ _ (by rw [scale_eq]; exact EReal.coe_nonneg.2 (by norm_num)) (by rw [scale_eq]; exact EReal.coe_ne_top _)]
    refine Finset.sum_congr rfl fun d _ => ?_
    rw [hq, hk x d (valid_window u r x hv)]
    ac_rfl
  · simp only [Scalar.select, if_neg hv, ofBits_bot]
    exact EReal.add_bot _

/-- The queries' and the keys' columns hold real numbers. -/
def Finite : Prop :=
  (∀ (b : Fin 8) (n : Fin 4096) (l : Fin 9216), l.val < 1024 → IsReal (A (ix3 b n l))) ∧
  (∀ (b : Fin 8) (n : Fin 4096) (l : Fin 9216), 3072 ≤ l.val → l.val < 4096 → IsReal (A (ix3 b n l)))

/-- A score a row may look at is a real number. -/
theorem row_real (hA : Finite A) (r : Fin 128) (x : Fin 256) (hv : valid (ix3 u r x) = 1) : IsReal (row A B u r h x) := by
  unfold row
  rw [Cert.AttentionReference.scores_at]
  simp only [Scalar.select, if_pos hv]
  refine IsReal.add (IsReal.mul (IsReal.sum _ _ fun d => IsReal.mul ?_ ?_) ⟨_, scale_eq⟩) ?_
  · rw [Cert.AttentionReference.kBlocks_at]
    split
    · exact hA.2 _ _ _ (by simp only []; omega) (by simp only []; omega)
    · exact ⟨0, rfl⟩
  · rw [Cert.AttentionReference.qBlocks_at]
    exact hA.1 _ _ _ (by simp only []; omega)
  · rw [Cert.AttentionReference.bias_at]
    exact IsReal.neg (IsReal.mul (slopes_real h) ⟨_, rfl⟩)

/-- A score a row may not look at is `-∞`. -/
theorem row_bot (r : Fin 128) (x : Fin 256) (hv : ¬valid (ix3 u r x) = 1) : row A B u r h x = ⊥ := by
  unfold row
  rw [Cert.AttentionReference.scores_at]
  simp only [Scalar.select, if_neg hv, ofBits_bot]

/-- No score is `+∞`. -/
theorem row_ne_top (hA : Finite A) (r : Fin 128) (x : Fin 256) : row A B u r h x ≠ ⊤ := by
  by_cases hv : valid (ix3 u r x) = 1
  · exact (row_real A B u h hA r x hv).ne_top
  · rw [row_bot A B u h r x hv]
    exact bot_ne_top

/-- A row's own score is not `-∞`. -/
theorem row_self (hA : Finite A) (r : Fin 128) : row A B u r h ⟨128 + r, by omega⟩ ≠ ⊥ :=
  (row_real A B u h hA r _ (valid_self u r)).ne_bot

/-- The kernel's average of a head's values is the reference's. -/
theorem attend_point (hA : Finite A) (d : Fin 64)
    (hv : ∀ x : Fin 256, u.val ≠ 0 ∨ 128 ≤ x.val → k0_pay3 vp v (ix2 x ⟨64 * t + d, by omega⟩) = vBlocks A (ix5 B u x h d)) (r : Fin 128) :
    (∑ x, Ideal.exp (row A B u r h x - Cert.Softmax.rowMax (row A B u r h)) * k0_pay3 vp v (ix2 x ⟨64 * t + d, by omega⟩)) *
      Ideal.div 1 (Cert.Softmax.total (row A B u r h)) =
    Cert.Softmax.attend (row A B u r h) (fun x => vBlocks A (ix5 B u x h d)) := by
  have e := Cert.Softmax.attend_eq (row A B u r h) (fun x => k0_pay3 vp v (ix2 x ⟨64 * t + d, by omega⟩)) (row_ne_top A B u h hA r) _
    (row_self A B u h hA r)
  refine e.trans (Cert.Softmax.attend_congr _ _ _ (row_ne_top A B u h hA r) _ (row_self A B u h hA r) fun x hx => ?_)
  refine hv x (valid_window u r x ?_)
  by_contra hc
  exact hx (row_bot A B u h r x hc)

/-- The reference's output at a row and a lane, by block, head and lane within the head. -/
theorem refOut_at (r : Fin 128) (d : Fin 64) :
    refOut A (ix3 B ⟨u * 128 + r, by omega⟩ ⟨h * 64 + d, by omega⟩) =
      Cert.Softmax.attend (row A B u r h) (fun x => vBlocks A (ix5 B u x h d)) := by
  have e1 : (⟨(u * 128 + r) / 128, by omega⟩ : Fin 32) = u := Fin.ext (by simp only []; omega)
  have e2 : (⟨(u * 128 + r) % 128, by omega⟩ : Fin 128) = r := Fin.ext (by simp only []; omega)
  have e3 : (⟨(h * 64 + d) / 64, by omega⟩ : Fin 16) = h := Fin.ext (by simp only []; omega)
  have e4 : (⟨(h * 64 + d) % 64, by omega⟩ : Fin 64) = d := Fin.ext (by simp only []; omega)
  rw [Cert.AttentionReference.out_at]
  simp only [e1, e2, e3, e4]

/-- The reference's log-sum-exp likewise. -/
theorem refLse_at (r : Fin 128) (d : Fin 64) :
    refLse A (ix3 B ⟨u * 128 + r, by omega⟩ ⟨h * 64 + d, by omega⟩) = Cert.Softmax.lse (row A B u r h) := by
  have e1 : (⟨(u * 128 + r) / 128, by omega⟩ : Fin 32) = u := Fin.ext (by simp only []; omega)
  have e2 : (⟨(u * 128 + r) % 128, by omega⟩ : Fin 128) = r := Fin.ext (by simp only []; omega)
  have e3 : (⟨(h * 64 + d) / 64, by omega⟩ : Fin 16) = h := Fin.ext (by simp only []; omega)
  rw [Cert.AttentionReference.lse_at]
  simp only [e1, e2, e3]

/-! ### One pair of heads -/

section pair

/-- The first head of a pair. -/
abbrev evenHead (p : Fin 8) : Fin 16 := ⟨2 * p, by omega⟩

/-- The second head of a pair. -/
abbrev oddHead (p : Fin 8) : Fin 16 := ⟨2 * p + 1, by omega⟩

variable (p : Fin 8)

/-- `x` holds the lanes of pair `p` from column `col` on, of 128 rows from row `row` of batch `B` on. -/
def Reads (x : Vec Ideal S1x128x128 .f32) (row col : Nat) : Prop :=
  ∀ (r l : Fin 128) (i : S8x4096x9216.Idx), (i 0 : ℕ) = B → (i 1 : ℕ) = row + r → (i 2 : ℕ) = col + (128 * p + l) → x (ix3 0 r l) = A i

variable (hA : Finite A) (hf : f.val = if u.val = 0 then 1 else 0) (hq : Reads A B p q (u * 128) 0)
  (hk : Reads A B p k (u * 128) 3072) (hkp : Reads A B p kp ((u - 1) * 128) 3072)
  (hv : Reads A B p v (u * 128) 6144) (hvp : Reads A B p vp ((u - 1) * 128) 6144)
  (hb0 : ∀ (r : Fin 128) (x : Fin 256), b0 (ix4 0 0 r x) = biasTable (ix4 f (evenHead p) r x))
  (hb1 : ∀ (r : Fin 128) (x : Fin 256), b1 (ix4 0 0 r x) = biasTable (ix4 f (oddHead p) r x))

include hq in
/-- The pair's queries are the reference's. -/
theorem query_at (hh : h.val = 2 * p + t) (r : Fin 128) (d : Fin 64) :
    q (ix3 0 r ⟨64 * t + d, by omega⟩) = qBlocks A (ix6 B u r h 0 d) := by
  rw [Cert.AttentionReference.qBlocks_at]
  exact hq r _ _ rfl rfl (by show h.val * 64 + d = 0 + (128 * p + (64 * t + d)); omega)

include hk hkp in
/-- The pair's keys, the previous block's and the block's own, are the reference's where there is a previous block. -/
theorem key_at (hh : h.val = 2 * p + t) (x : Fin 256) (d : Fin 64) (hx : u.val ≠ 0 ∨ 128 ≤ x.val) :
    k0_pay3 kp k (ix2 x ⟨64 * t + d, by omega⟩) = kBlocks A (ix5 B u x h d) := by
  rw [pay3_at, Cert.AttentionReference.kBlocks_at, dif_pos (show 128 ≤ u.val * 128 + x.val by omega)]
  split
  · exact hkp _ _ _ rfl (by show u.val * 128 + x.val - 128 = (u.val - 1) * 128 + x.val; omega)
      (by show 3072 + (h.val * 64 + d) = 3072 + (128 * p + (64 * t + d)); omega)
  · exact hk _ _ _ rfl (by show u.val * 128 + x.val - 128 = u.val * 128 + (x.val - 128); omega)
      (by show 3072 + (h.val * 64 + d) = 3072 + (128 * p + (64 * t + d)); omega)

include hv hvp in
/-- The pair's values likewise. -/
theorem value_at (hh : h.val = 2 * p + t) (x : Fin 256) (d : Fin 64) (hx : u.val ≠ 0 ∨ 128 ≤ x.val) :
    k0_pay3 vp v (ix2 x ⟨64 * t + d, by omega⟩) = vBlocks A (ix5 B u x h d) := by
  rw [pay3_at, Cert.AttentionReference.vBlocks_at, dif_pos (show 128 ≤ u.val * 128 + x.val by omega)]
  split
  · exact hvp _ _ _ rfl (by show u.val * 128 + x.val - 128 = (u.val - 1) * 128 + x.val; omega)
      (by show 6144 + (h.val * 64 + d) = 6144 + (128 * p + (64 * t + d)); omega)
  · exact hv _ _ _ rfl (by show u.val * 128 + x.val - 128 = u.val * 128 + (x.val - 128); omega)
      (by show 6144 + (h.val * 64 + d) = 6144 + (128 * p + (64 * t + d)); omega)

include hf hq hk hkp hb0 in
/-- The even head's score row is the reference's row of head `2 p`. -/
theorem even_row (r : Fin 128) : headRow q kp k b0 0 r = row A B u r ⟨2 * p, by omega⟩ :=
  row_eq A B u f _ 0 q kp k b0 hf (query_at A B u f _ 0 q p hq rfl) (key_at A B u f _ 0 kp k p hk hkp rfl) hb0 r

include hf hq hk hkp hb1 in
/-- The odd head's score row is the reference's row of head `2 p + 1`. -/
theorem odd_row (r : Fin 128) : headRow q kp k b1 1 r = row A B u r ⟨2 * p + 1, by omega⟩ :=
  row_eq A B u f _ 1 q kp k b1 hf (query_at A B u f _ 1 q p hq rfl) (key_at A B u f _ 1 kp k p hk hkp rfl) hb1 r

include hA hf hq hk hkp hv hvp hb0 hb1 in
/-- What a step stores for pair `p` is the reference's output at the pair's lanes. -/
theorem pair_out (r l : Fin 128) (i : S8x4096x1024.Idx) (h0 : (i 0 : ℕ) = B) (h1 : (i 1 : ℕ) = u * 128 + r) (h2 : (i 2 : ℕ) = 128 * p + l) :
    outPair q kp k vp v b0 b1 (ix3 0 r l) = refOut A i := by
  by_cases hl : l.val < 64
  · have el : l = ⟨64 * (0 : Fin 2) + (⟨l, hl⟩ : Fin 64), by omega⟩ := Fin.ext (by simp)
    have ei : i = ix3 B ⟨u * 128 + r, by omega⟩ ⟨(⟨2 * p, by omega⟩ : Fin 16) * 64 + (⟨l, hl⟩ : Fin 64), by simp only []; omega⟩ := by
      funext a; apply Fin.ext
      match a with
      | ⟨0, _⟩ => exact h0
      | ⟨1, _⟩ => exact h1
      | ⟨2, _⟩ => exact h2.trans (by show 128 * p.val + l = 2 * p * 64 + l; omega)
    rw [out_even _ _ _ _ _ _ _ _ _ hl, even_row A B u f q kp k b0 p hf hq hk hkp hb0, ei, refOut_at]
    refine Eq.trans ?_ (attend_point A B u _ 0 vp v hA ⟨l, hl⟩ (fun x hx => value_at A B u f _ 0 vp v p hv hvp rfl x ⟨l, hl⟩ hx) r)
    rw [← el]
  · have el : l = ⟨64 * (1 : Fin 2) + (⟨l - 64, by omega⟩ : Fin 64), by simp only []; omega⟩ := Fin.ext (by simp; omega)
    have ei : i = ix3 B ⟨u * 128 + r, by omega⟩ ⟨(⟨2 * p + 1, by omega⟩ : Fin 16) * 64 + (⟨l - 64, by omega⟩ : Fin 64), by simp only []; omega⟩ := by
      funext a; apply Fin.ext
      match a with
      | ⟨0, _⟩ => exact h0
      | ⟨1, _⟩ => exact h1
      | ⟨2, _⟩ => exact h2.trans (by show 128 * p.val + l = (2 * p + 1) * 64 + (l - 64); omega)
    rw [out_odd _ _ _ _ _ _ _ _ _ hl, odd_row A B u f q kp k b1 p hf hq hk hkp hb1, ei, refOut_at]
    refine Eq.trans ?_ (attend_point A B u _ 1 vp v hA ⟨l - 64, by omega⟩ (fun x hx => value_at A B u f _ 1 vp v p hv hvp rfl x ⟨l - 64, by omega⟩ hx) r)
    rw [← el]

include hf hq hk hkp hb0 hb1 in
/-- What a step stores as pair `p`'s log-sum-exp is the reference's at the pair's lanes. -/
theorem pair_lse (r l : Fin 128) (i : S8x4096x1024.Idx) (h0 : (i 0 : ℕ) = B) (h1 : (i 1 : ℕ) = u * 128 + r) (h2 : (i 2 : ℕ) = 128 * p + l) :
    lsePair q kp k b0 b1 (ix3 0 r l) = refLse A i := by
  by_cases hl : l.val < 64
  · have ei : i = ix3 B ⟨u * 128 + r, by omega⟩ ⟨(⟨2 * p, by omega⟩ : Fin 16) * 64 + (⟨l, hl⟩ : Fin 64), by simp only []; omega⟩ := by
      funext a; apply Fin.ext
      match a with
      | ⟨0, _⟩ => exact h0
      | ⟨1, _⟩ => exact h1
      | ⟨2, _⟩ => exact h2.trans (by show 128 * p.val + l = 2 * p * 64 + l; omega)
    rw [lse_even _ _ _ _ _ _ _ hl, even_row A B u f q kp k b0 p hf hq hk hkp hb0, ei, refLse_at]
  · have ei : i = ix3 B ⟨u * 128 + r, by omega⟩ ⟨(⟨2 * p + 1, by omega⟩ : Fin 16) * 64 + (⟨l - 64, by omega⟩ : Fin 64), by simp only []; omega⟩ := by
      funext a; apply Fin.ext
      match a with
      | ⟨0, _⟩ => exact h0
      | ⟨1, _⟩ => exact h1
      | ⟨2, _⟩ => exact h2.trans (by show 128 * p.val + l = (2 * p + 1) * 64 + (l - 64); omega)
    rw [lse_odd _ _ _ _ _ _ _ hl, odd_row A B u f q kp k b1 p hf hq hk hkp hb1, ei, refLse_at]

end pair

end Cert.Attention

end
-- ==== Proof.Attention.lean ====
module

public import proofs.«01_k».proof.Proof.AttentionPoint
public import Idealize.ShloMosaic.Lib.Claim
public import Idealize.ShloMosaic.Lib.Pipeline.ValueKit

@[expose] public section

set_option maxRecDepth 16384

noncomputable section

namespace Cert.Attention

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The block of every window at every step: the step's batch and block of rows, the queries', keys' and values' columns,
and for the previous block the row block before, the first one standing in for its own predecessor. -/
theorem idx : ∀ t : Fin cfg0.N, win0_0.index t = ![t.val / 32, t.val % 32, 0] ∧ win0_1.index t = ![t.val / 32, t.val % 32, 3]
    ∧ win0_2.index t = ![t.val / 32, t.val % 32, 6] ∧ win0_3.index t = ![t.val / 32, t.val % 32 - 1, 3]
    ∧ win0_4.index t = ![t.val / 32, t.val % 32 - 1, 6] ∧ win0_5.index t = ![0, 0, 0, 0]
    ∧ win0_6.index t = ![t.val / 32, t.val % 32, 0] ∧ win0_7.index t = ![t.val / 32, t.val % 32, 0] :=
  (by decide +kernel : ∀ t : Fin grid0.N, _)

/-- The queries of a step are rows and columns of the projection. -/
theorem block0 (c : Dev nD) (t : Fin cfg0.N) (r : Fin 128) (l : Fin 1024) (i : S8x4096x9216.Idx)
    (h0 : (i 0 : ℕ) = t.val / 32) (h1 : (i 1 : ℕ) = t.val % 32 * 128 + r) (h2 : (i 2 : ℕ) = 0 + l) :
    iblk m c 0 t (ix3 0 r l) = m ((c : Thread nD τ).loc main_arg0) i := by
  blk_simp [iblk]
  entry_read
  pointwise
  blk_ext [idx t]

/-- The keys of a step are rows and columns of the projection. -/
theorem block1 (c : Dev nD) (t : Fin cfg0.N) (r : Fin 128) (l : Fin 1024) (i : S8x4096x9216.Idx)
    (h0 : (i 0 : ℕ) = t.val / 32) (h1 : (i 1 : ℕ) = t.val % 32 * 128 + r) (h2 : (i 2 : ℕ) = 3072 + l) :
    iblk m c 1 t (ix3 0 r l) = m ((c : Thread nD τ).loc main_arg0) i := by
  blk_simp [iblk]
  entry_read
  pointwise
  blk_ext [idx t]

/-- The values of a step are rows and columns of the projection. -/
theorem block2 (c : Dev nD) (t : Fin cfg0.N) (r : Fin 128) (l : Fin 1024) (i : S8x4096x9216.Idx)
    (h0 : (i 0 : ℕ) = t.val / 32) (h1 : (i 1 : ℕ) = t.val % 32 * 128 + r) (h2 : (i 2 : ℕ) = 6144 + l) :
    iblk m c 2 t (ix3 0 r l) = m ((c : Thread nD τ).loc main_arg0) i := by
  blk_simp [iblk]
  entry_read
  pointwise
  blk_ext [idx t]

/-- The previous block's keys of a step are rows and columns of the projection. -/
theorem block3 (c : Dev nD) (t : Fin cfg0.N) (r : Fin 128) (l : Fin 1024) (i : S8x4096x9216.Idx)
    (h0 : (i 0 : ℕ) = t.val / 32) (h1 : (i 1 : ℕ) = (t.val % 32 - 1) * 128 + r) (h2 : (i 2 : ℕ) = 3072 + l) :
    iblk m c 3 t (ix3 0 r l) = m ((c : Thread nD τ).loc main_arg0) i := by
  blk_simp [iblk]
  entry_read
  pointwise
  blk_ext [idx t]

/-- The previous block's values of a step are rows and columns of the projection. -/
theorem block4 (c : Dev nD) (t : Fin cfg0.N) (r : Fin 128) (l : Fin 1024) (i : S8x4096x9216.Idx)
    (h0 : (i 0 : ℕ) = t.val / 32) (h1 : (i 1 : ℕ) = (t.val % 32 - 1) * 128 + r) (h2 : (i 2 : ℕ) = 6144 + l) :
    iblk m c 4 t (ix3 0 r l) = m ((c : Thread nD τ).loc main_arg0) i := by
  blk_simp [iblk]
  entry_read
  pointwise
  blk_ext [idx t]

/-- The host's bias table. -/
theorem bias_entry (c : Dev nD) : V m c main_v34 = biasTable := by
  simp only [V, hostOps0, hostOps0_1, List.flatten_cons, List.flatten_nil, List.cons_append, List.nil_append, List.append_nil]
  simp only [StableHlo.TRef.unary, StableHlo.TRef.ternary]
  after_results_simp
  rfl

/-- Every step reads the whole bias table. -/
theorem block5 (c : Dev nD) (t : Fin cfg0.N) (f : Fin 2) (h : Fin 16) (r : Fin 128) (x : Fin 256) :
    iblk m c 5 t (ix4 f h r x) = biasTable (ix4 f h r x) := by
  have e : iblk m c 5 t (ix4 f h r x) = V m c main_v34 (ix4 f h r x) := by
    blk_simp [iblk]
    blk_ext [idx t]
  rw [e, bias_entry]

/-! ### A step's reads, pair by pair -/

/-- A step's batch. -/
def batch (t : Fin cfg0.N) : Fin 8 := ⟨t.val / 32, Nat.div_lt_of_lt_mul (lt_of_lt_of_eq t.isLt (by decide +kernel))⟩

/-- A step's block of rows. -/
def unit (t : Fin cfg0.N) : Fin 32 := ⟨t.val % 32, Nat.mod_lt _ (by decide)⟩

/-- The half of the bias table a step reads: the second for the first block of rows, which has no previous block. -/
def half (t : Fin cfg0.N) : Fin 2 := if t.val % 32 = 0 then 1 else 0

/-- That half, by the block of rows. -/
theorem half_val (t : Fin cfg0.N) : (half t).val = if (unit t).val = 0 then 1 else 0 := by
  unfold half unit
  split <;> rfl

/-- 128 lanes of a block of 1024 lanes, from lane `off` on. -/
theorem lanes (X : Vec Ideal S1x128x1024 .f32) (off : Nat) (inb) (r l : Fin 128) (hl : off + l < 1024) :
    View.ld X (Rect.unit ![0, 0, off] ![1, 128, 128] inb) (ix3 0 r l) = X (ix3 0 r ⟨off + l, hl⟩) :=
  congrArg X (funext fun a => Fin.ext (by
    match a with
    | ⟨0, _⟩ => rfl
    | ⟨1, _⟩ => show 0 + 1 * r.val = r.val; omega
    | ⟨2, _⟩ => show off + 1 * l.val = off + l.val; omega))

/-- The queries of one pair. -/
theorem reads0 (c : Dev nD) (t : Fin cfg0.N) (p : Fin 8) (off : Nat) (ho : off = 128 * p.val) (inb) :
    Reads (m ((c : Thread nD τ).loc main_arg0)) (batch t) p (View.ld (iblk m c 0 t) (Rect.unit ![0, 0, off] ![1, 128, 128] inb)) ((unit t).val * 128) 0 :=
  fun r l i h0 h1 h2 => (lanes _ off inb r l (by omega)).trans
    (block0 m c t r ⟨off + l, by omega⟩ i h0 h1 (by show (i 2).val = 0 + (off + l.val); omega))

/-- The keys of one pair. -/
theorem reads1 (c : Dev nD) (t : Fin cfg0.N) (p : Fin 8) (off : Nat) (ho : off = 128 * p.val) (inb) :
    Reads (m ((c : Thread nD τ).loc main_arg0)) (batch t) p (View.ld (iblk m c 1 t) (Rect.unit ![0, 0, off] ![1, 128, 128] inb)) ((unit t).val * 128) 3072 :=
  fun r l i h0 h1 h2 => (lanes _ off inb r l (by omega)).trans
    (block1 m c t r ⟨off + l, by omega⟩ i h0 h1 (by show (i 2).val = 3072 + (off + l.val); omega))

/-- The values of one pair. -/
theorem reads2 (c : Dev nD) (t : Fin cfg0.N) (p : Fin 8) (off : Nat) (ho : off = 128 * p.val) (inb) :
    Reads (m ((c : Thread nD τ).loc main_arg0)) (batch t) p (View.ld (iblk m c 2 t) (Rect.unit ![0, 0, off] ![1, 128, 128] inb)) ((unit t).val * 128) 6144 :=
  fun r l i h0 h1 h2 => (lanes _ off inb r l (by omega)).trans
    (block2 m c t r ⟨off + l, by omega⟩ i h0 h1 (by show (i 2).val = 6144 + (off + l.val); omega))

/-- The previous block's keys of one pair. -/
theorem reads3 (c : Dev nD) (t : Fin cfg0.N) (p : Fin 8) (off : Nat) (ho : off = 128 * p.val) (inb) :
    Reads (m ((c : Thread nD τ).loc main_arg0)) (batch t) p (View.ld (iblk m c 3 t) (Rect.unit ![0, 0, off] ![1, 128, 128] inb)) (((unit t).val - 1) * 128) 3072 :=
  fun r l i h0 h1 h2 => (lanes _ off inb r l (by omega)).trans
    (block3 m c t r ⟨off + l, by omega⟩ i h0 h1 (by show (i 2).val = 3072 + (off + l.val); omega))

/-- The previous block's values of one pair. -/
theorem reads4 (c : Dev nD) (t : Fin cfg0.N) (p : Fin 8) (off : Nat) (ho : off = 128 * p.val) (inb) :
    Reads (m ((c : Thread nD τ).loc main_arg0)) (batch t) p (View.ld (iblk m c 4 t) (Rect.unit ![0, 0, off] ![1, 128, 128] inb)) (((unit t).val - 1) * 128) 6144 :=
  fun r l i h0 h1 h2 => (lanes _ off inb r l (by omega)).trans
    (block4 m c t r ⟨off + l, by omega⟩ i h0 h1 (by show (i 2).val = 6144 + (off + l.val); omega))

/-- The row of the bias table a step reads for a head. -/
theorem bias_off : ∀ (t : Fin cfg0.N) (p : Fin 8) (e : Fin 2), k0_off1 (grid0.coords t) (BitVec.ofNat 32 (2 * p.val)) (BitVec.ofNat 32 e.val)
    = ![(if t.val % 32 = 0 then 1 else 0), 2 * p.val + e.val, 0, 0] :=
  (by decide +kernel : ∀ (t : Fin grid0.N) (p : Fin 8) (e : Fin 2), _)

/-- One head's bias rows. -/
theorem bias_rows (c : Dev nD) (t : Fin cfg0.N) (p : Fin 8) (e : Fin 2) (off : Fin 4 → Nat)
    (ho : off = ![(if t.val % 32 = 0 then 1 else 0), 2 * p.val + e.val, 0, 0]) (inb) (r : Fin 128) (x : Fin 256) :
    View.ld (iblk m c 5 t) (Rect.unit off ![1, 1, 128, 256] inb) (ix4 0 0 r x) = biasTable (ix4 (half t) ⟨2 * p + e, by omega⟩ r x) := by
  subst ho
  refine Eq.trans ?_ (block5 m c t (half t) ⟨2 * p + e, by omega⟩ r x)
  refine congrArg (iblk m c 5 t) (funext fun a => Fin.ext ?_)
  match a with
  | ⟨0, _⟩ =>
    show (if t.val % 32 = 0 then 1 else 0) + 1 * 0 = (half t).val
    rw [half_val]; rfl
  | ⟨1, _⟩ => show (2 * p.val + e.val) + 1 * 0 = 2 * p.val + e.val; omega
  | ⟨2, _⟩ => show 0 + 1 * r.val = r.val; omega
  | ⟨3, _⟩ => show 0 + 1 * x.val = x.val; omega

/-- What a step stores for one pair of heads, of its reads, is the reference's output. -/
theorem step_out (c : Dev nD) (hA : Finite (m ((c : Thread nD τ).loc main_arg0))) (t : Fin cfg0.N) (p : Fin 8)
    (off : Nat) (ho : off = 128 * p.val) (inb) (off0 off1 : Fin 4 → Nat)
    (ho0 : off0 = ![(if t.val % 32 = 0 then 1 else 0), 2 * p.val + (0 : Fin 2).val, 0, 0])
    (ho1 : off1 = ![(if t.val % 32 = 0 then 1 else 0), 2 * p.val + (1 : Fin 2).val, 0, 0]) (inb0 inb1) (r l : Fin 128)
    (i : S8x4096x1024.Idx) (h0 : (i 0 : ℕ) = t.val / 32) (h1 : (i 1 : ℕ) = t.val % 32 * 128 + r) (h2 : (i 2 : ℕ) = 128 * p + l) :
    outPair (View.ld (iblk m c 0 t) (Rect.unit ![0, 0, off] ![1, 128, 128] inb)) (View.ld (iblk m c 3 t) (Rect.unit ![0, 0, off] ![1, 128, 128] inb))
      (View.ld (iblk m c 1 t) (Rect.unit ![0, 0, off] ![1, 128, 128] inb)) (View.ld (iblk m c 4 t) (Rect.unit ![0, 0, off] ![1, 128, 128] inb))
      (View.ld (iblk m c 2 t) (Rect.unit ![0, 0, off] ![1, 128, 128] inb)) (View.ld (iblk m c 5 t) (Rect.unit off0 ![1, 1, 128, 256] inb0))
      (View.ld (iblk m c 5 t) (Rect.unit off1 ![1, 1, 128, 256] inb1)) (ix3 0 r l)
    = Cert.AttentionReference.refOut (m ((c : Thread nD τ).loc main_arg0)) i :=
  pair_out _ (batch t) (unit t) (half t) _ _ _ _ _ _ _ p hA (half_val t) (reads0 m c t p off ho inb) (reads1 m c t p off ho inb)
    (reads3 m c t p off ho inb) (reads2 m c t p off ho inb) (reads4 m c t p off ho inb) (bias_rows m c t p 0 off0 ho0 inb0)
    (bias_rows m c t p 1 off1 ho1 inb1) r l i h0 h1 h2

/-- What a step stores as one pair's log-sum-exp is the reference's. -/
theorem step_lse (c : Dev nD) (t : Fin cfg0.N) (p : Fin 8)
    (off : Nat) (ho : off = 128 * p.val) (inb) (off0 off1 : Fin 4 → Nat)
    (ho0 : off0 = ![(if t.val % 32 = 0 then 1 else 0), 2 * p.val + (0 : Fin 2).val, 0, 0])
    (ho1 : off1 = ![(if t.val % 32 = 0 then 1 else 0), 2 * p.val + (1 : Fin 2).val, 0, 0]) (inb0 inb1) (r l : Fin 128)
    (i : S8x4096x1024.Idx) (h0 : (i 0 : ℕ) = t.val / 32) (h1 : (i 1 : ℕ) = t.val % 32 * 128 + r) (h2 : (i 2 : ℕ) = 128 * p + l) :
    lsePair (View.ld (iblk m c 0 t) (Rect.unit ![0, 0, off] ![1, 128, 128] inb)) (View.ld (iblk m c 3 t) (Rect.unit ![0, 0, off] ![1, 128, 128] inb))
      (View.ld (iblk m c 1 t) (Rect.unit ![0, 0, off] ![1, 128, 128] inb)) (View.ld (iblk m c 5 t) (Rect.unit off0 ![1, 1, 128, 256] inb0))
      (View.ld (iblk m c 5 t) (Rect.unit off1 ![1, 1, 128, 256] inb1)) (ix3 0 r l)
    = Cert.AttentionReference.refLse (m ((c : Thread nD τ).loc main_arg0)) i :=
  pair_lse _ (batch t) (unit t) (half t) _ _ _ _ _ p (half_val t) (reads0 m c t p off ho inb) (reads1 m c t p off ho inb)
    (reads3 m c t p off ho inb) (bias_rows m c t p 0 off0 ho0 inb0)
    (bias_rows m c t p 1 off1 ho1 inb1) r l i h0 h1 h2

/-- A tile's index, its batch axis being of one element. -/
theorem tile_eq (x : S1x128x128.Idx) : x = ix3 0 (x 1) (x 2) := by
  funext a
  match a with
  | ⟨0, _⟩ => exact Fin.ext (by have := (x 0).isLt; show (x 0).val = 0; exact Nat.lt_one_iff.mp this)
  | ⟨1, _⟩ => rfl
  | ⟨2, _⟩ => rfl

set_option maxHeartbeats 2000000 in
/-- The call's output array is the reference's. -/
theorem final6 (c : Dev nD) (hA : Finite (m ((c : Thread nD τ).loc main_arg0))) :
    (dats m 0 c).arrAt 6 cfg0.N = Cert.AttentionReference.refOut (m ((c : Thread nD τ).loc main_arg0)) := by
  refine (dats m 0 c).arrAt_eq_of_covers 6 _ (by decide +kernel) fun t _ y => ?_
  blk_simp
  rw [after0_6]
  unfold Gen.outsAt0
  frame_out
  canon_tiles x h
  · refine (congrFun (out7 _ _ _ _ _ _ _) x).trans ?_
    rw [tile_eq x]
    refine step_out m c hA t 7 896 rfl _ _ _ (bias_off t 7 0) (bias_off t 7 1) _ _ (x 1) (x 2) _ ?_ ?_ ?_ <;>
      (blk_simp [idx t] <;> omega)
  · refine (congrFun (out6 _ _ _ _ _ _ _) x).trans ?_
    rw [tile_eq x]
    refine step_out m c hA t 6 768 rfl _ _ _ (bias_off t 6 0) (bias_off t 6 1) _ _ (x 1) (x 2) _ ?_ ?_ ?_ <;>
      (blk_simp [idx t] <;> omega)
  · refine (congrFun (out5 _ _ _ _ _ _ _) x).trans ?_
    rw [tile_eq x]
    refine step_out m c hA t 5 640 rfl _ _ _ (bias_off t 5 0) (bias_off t 5 1) _ _ (x 1) (x 2) _ ?_ ?_ ?_ <;>
      (blk_simp [idx t] <;> omega)
  · refine (congrFun (out4 _ _ _ _ _ _ _) x).trans ?_
    rw [tile_eq x]
    refine step_out m c hA t 4 512 rfl _ _ _ (bias_off t 4 0) (bias_off t 4 1) _ _ (x 1) (x 2) _ ?_ ?_ ?_ <;>
      (blk_simp [idx t] <;> omega)
  · refine (congrFun (out3 _ _ _ _ _ _ _) x).trans ?_
    rw [tile_eq x]
    refine step_out m c hA t 3 384 rfl _ _ _ (bias_off t 3 0) (bias_off t 3 1) _ _ (x 1) (x 2) _ ?_ ?_ ?_ <;>
      (blk_simp [idx t] <;> omega)
  · refine (congrFun (out2 _ _ _ _ _ _ _) x).trans ?_
    rw [tile_eq x]
    refine step_out m c hA t 2 256 rfl _ _ _ (bias_off t 2 0) (bias_off t 2 1) _ _ (x 1) (x 2) _ ?_ ?_ ?_ <;>
      (blk_simp [idx t] <;> omega)
  · refine (congrFun (out1 _ _ _ _ _ _ _) x).trans ?_
    rw [tile_eq x]
    refine step_out m c hA t 1 128 rfl _ _ _ (bias_off t 1 0) (bias_off t 1 1) _ _ (x 1) (x 2) _ ?_ ?_ ?_ <;>
      (blk_simp [idx t] <;> omega)
  · rw [tile_eq x]
    refine step_out m c hA t 0 0 rfl _ _ _ (bias_off t 0 0) (bias_off t 0 1) _ _ (x 1) (x 2) _ ?_ ?_ ?_ <;>
      (blk_simp [idx t] <;> omega)

set_option maxHeartbeats 2000000 in
/-- The call's log-sum-exp array is the reference's. -/
theorem final7 (c : Dev nD) :
    (dats m 0 c).arrAt 7 cfg0.N = Cert.AttentionReference.refLse (m ((c : Thread nD τ).loc main_arg0)) := by
  refine (dats m 0 c).arrAt_eq_of_covers 7 _ (by decide +kernel) fun t _ y => ?_
  blk_simp
  rw [after0_7]
  unfold Gen.outsAt0
  frame_out
  canon_tiles x h
  · refine (congrFun (lse7 _ _ _ _ _) x).trans ?_
    rw [tile_eq x]
    refine step_lse m c t 7 896 rfl _ _ _ (bias_off t 7 0) (bias_off t 7 1) _ _ (x 1) (x 2) _ ?_ ?_ ?_ <;>
      (blk_simp [idx t] <;> omega)
  · refine (congrFun (lse6 _ _ _ _ _) x).trans ?_
    rw [tile_eq x]
    refine step_lse m c t 6 768 rfl _ _ _ (bias_off t 6 0) (bias_off t 6 1) _ _ (x 1) (x 2) _ ?_ ?_ ?_ <;>
      (blk_simp [idx t] <;> omega)
  · refine (congrFun (lse5 _ _ _ _ _) x).trans ?_
    rw [tile_eq x]
    refine step_lse m c t 5 640 rfl _ _ _ (bias_off t 5 0) (bias_off t 5 1) _ _ (x 1) (x 2) _ ?_ ?_ ?_ <;>
      (blk_simp [idx t] <;> omega)
  · refine (congrFun (lse4 _ _ _ _ _) x).trans ?_
    rw [tile_eq x]
    refine step_lse m c t 4 512 rfl _ _ _ (bias_off t 4 0) (bias_off t 4 1) _ _ (x 1) (x 2) _ ?_ ?_ ?_ <;>
      (blk_simp [idx t] <;> omega)
  · refine (congrFun (lse3 _ _ _ _ _) x).trans ?_
    rw [tile_eq x]
    refine step_lse m c t 3 384 rfl _ _ _ (bias_off t 3 0) (bias_off t 3 1) _ _ (x 1) (x 2) _ ?_ ?_ ?_ <;>
      (blk_simp [idx t] <;> omega)
  · refine (congrFun (lse2 _ _ _ _ _) x).trans ?_
    rw [tile_eq x]
    refine step_lse m c t 2 256 rfl _ _ _ (bias_off t 2 0) (bias_off t 2 1) _ _ (x 1) (x 2) _ ?_ ?_ ?_ <;>
      (blk_simp [idx t] <;> omega)
  · refine (congrFun (lse1 _ _ _ _ _) x).trans ?_
    rw [tile_eq x]
    refine step_lse m c t 1 128 rfl _ _ _ (bias_off t 1 0) (bias_off t 1 1) _ _ (x 1) (x 2) _ ?_ ?_ ?_ <;>
      (blk_simp [idx t] <;> omega)
  · rw [tile_eq x]
    refine step_lse m c t 0 0 rfl _ _ _ (bias_off t 0 0) (bias_off t 0 1) _ _ (x 1) (x 2) _ ?_ ?_ ?_ <;>
      (blk_simp [idx t] <;> omega)

end Cert.Attention

end
-- ==== Proof.AttentionClaim.lean ====
module

public import proofs.«01_k».proof.Defs
public import proofs.«01_k».proof.Proof.Attention
public import proofs.«01_k».proof.Proof.Gen.KernelIdeal.Value
public import proofs.«01_k».proof.Proof.Gen.ReferenceIdeal.Run
public import Idealize.ShloMosaic.Lib.Claim

@[expose] public section

set_option maxRecDepth 16384

open Idealize.ShloMosaic Idealize.ShloMosaic.TcCoe Idealize.SL.Sem

noncomputable section

namespace Cert.Attention

/-- The shape relations of the precondition's own operations hold. -/
theorem preFacts : Cert.Pre_finite_queries_and_keys.Facts :=
  ⟨by decide, by decide, by decide⟩

instance : Cert.Pre_finite_queries_and_keys.Facts := preFacts

/-- A number whose absolute value is below infinity is a real number. -/
theorem isReal_of_lt (x : EReal)
    (h : BitVec.ofBool (decide ((FloatOps.absf (F := Ideal) (φ := .f32) x : EReal) < Ideal.ofBits FTy.f32 2139095040#32)) = 1#1) : IsReal x := by
  have ht : Ideal.ofBits FTy.f32 2139095040#32 = (⊤ : EReal) := by simp [Ideal.ofBits, Ideal.ieee]
  rw [ht] at h
  have h' : max x (-x) < (⊤ : EReal) := by
    by_contra hc
    rw [show decide ((FloatOps.absf (F := Ideal) (φ := .f32) x : EReal) < (⊤ : EReal)) = false from decide_eq_false hc] at h
    exact absurd h (by decide)
  have h1 : x ≠ ⊤ := ne_of_lt (lt_of_le_of_lt (le_max_left _ _) h')
  have h2 : x ≠ ⊥ := by
    rintro rfl
    exact absurd (lt_of_le_of_lt (le_max_right _ _) h') (by simp)
  exact ⟨x.toReal, (EReal.coe_toReal h1 h2).symm⟩

/-- Under the precondition every query and key entry is a real number. -/
theorem finite_of_pre (A : FVec Ideal Cert.KernelIdeal.S8x4096x9216 .f32)
    (h : (Cert.Pre_finite_queries_and_keys.fn A).1 = (fun _ => 1#1) ∧ (Cert.Pre_finite_queries_and_keys.fn A).2 = (fun _ => 1#1)) : Finite A := by
  constructor
  · intro b n l hl
    have e := congrFun h.1 (ix3 b n ⟨l, hl⟩)
    simp only [Cert.Pre_finite_queries_and_keys.fn] at e
    pointwise at e
    exact isReal_of_lt _ e
  · intro b n l h0 h1
    have e := congrFun h.2 (ix3 b n ⟨l - 3072, by omega⟩)
    simp only [Cert.Pre_finite_queries_and_keys.fn] at e
    pointwise at e
    have hx : (⟨3072 + (l.val - 3072), by omega⟩ : Fin 9216) = l := Fin.ext (by show 3072 + (l.val - 3072) = l.val; omega)
    rw [← hx]
    exact isReal_of_lt _ e

/-- The attention computes its reference where the queries and keys are real numbers. -/
theorem attention : algebraic_KernelIdeal_ReferenceIdeal_pre_finite_queries_and_keys := fun m g m' g' hpre hagree =>
  ⟨fun c => Cert.AttentionReference.refOut (m ((c.tc : Thread _ Cert.KernelIdeal.τ).loc Cert.KernelIdeal.main_arg0)),
    fun c => Cert.AttentionReference.refLse (m ((c.tc : Thread _ Cert.KernelIdeal.τ).loc Cert.KernelIdeal.main_arg0)),
    (θ_run _ _ _).mono (fun r h c => ⟨(h c).1.trans (final6 m c (finite_of_pre _ (hpre c))), (h c).2.1.trans (final7 m c), (h c).2.2⟩)
      (Cert.KernelIdeal.Value.run_blocks m g),
    (θ_run _ _ _).mono (fun r h c => ⟨(h c).1.trans ((Cert.AttentionReference.out_eq m' c).trans (congrArg _ (hagree c))),
        (h c).2.1.trans ((Cert.AttentionReference.lse_eq m' c).trans (congrArg _ (hagree c))), (h c).2.2⟩)
      (Cert.ReferenceIdeal.Value.run m' g')⟩

end Cert.Attention

end
-- ==== Proof.EvenProjectionBody.lean ====
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.EvenProjection

open Cert.Kernel5Ideal Cert.Kernel5Ideal.Gen Idealize.ShloMosaic Idealize.ShloMosaic.TcCoe Idealize.SL.Sem
open Idealize.ShloMosaic.Pipeline (Dat)

/-- One plane of the two-plane buffer, its first eight rows holding `T` and the 512 rows after them `Y`, read as 512 rows from row `o`: row `r`
is row `o + r` of the two stacked, which is `Q`. -/
theorem pad_at {κ : Kind} {sp : Space} (v : View sig κ sp S2x520x512 .f32) (b o : ℕ) (T : FVec Ideal S8x512 .f32) (Y : FVec Ideal S512x512 .f32) (ho : o ≤ 8) (Q : ℕ → Fin 512 → EReal)
    (hT : ∀ (r : Fin 8) (l : Fin 512), T (ix2 r l) = Q r l) (hY : ∀ r l : Fin 512, Y (ix2 r l) = Q (r + 8) l)
    (ib : ∀ a, ![b, 0, 0] a + ![1, 520, 512] a ≤ S2x520x512.size a) (i8 : ∀ a, ![8, 0] a + ![512, 512] a ≤ S520x512.size a)
    (i0 : ∀ a, ![0, 0] a + ![8, 512] a ≤ S520x512.size a) (io : ∀ a, ![o, 0] a + ![512, 512] a ≤ S520x512.size a)
    (h0 : (![1, 520, 512] : Fin 3 → ℕ) 0 = 1) (hs : ∀ i, (![1, 520, 512] : Fin 3 → ℕ) (Fin.succ i) = S520x512.size i)
    (hst hst' hst'') (hA hB hR) (rest : List (View.Piece (Elt Ideal) S2x520x512 .f32)) (x : S512x512.Idx) :
    (LoadRect.valAlong (lr := (Rect.unit (s := S520x512) ![o, 0] ![512, 512] io).toLoadRect)
      (LR := (Rect.unit (s := S2x520x512) ![b, 0, 0] ![1, 520, 512] ib).withinL (((Rect.unit (s := S520x512) ![o, 0] ![512, 512] io).toLoadRect).consLift ![1, 520, 512] h0 hs) hst'') hR
      (v.readCov
        (⟨(Rect.unit (s := S2x520x512) ![b, 0, 0] ![1, 520, 512] ib).within ((Rect.unit (s := S520x512) ![8, 0] ![512, 512] i8).consLift ![1, 520, 512] h0 hs) hst,
            Rect.payAlong (r := Rect.unit (s := S520x512) ![8, 0] ![512, 512] i8) hA Y⟩
          :: ⟨(Rect.unit (s := S2x520x512) ![b, 0, 0] ![1, 520, 512] ib).within ((Rect.unit (s := S520x512) ![0, 0] ![8, 512] i0).consLift ![1, 520, 512] h0 hs) hst',
            Rect.payAlong (r := Rect.unit (s := S520x512) ![0, 0] ![8, 512] i0) hB T⟩
          :: rest)
        ((Rect.unit (s := S2x520x512) ![b, 0, 0] ![1, 520, 512] ib).withinL (((Rect.unit (s := S520x512) ![o, 0] ![512, 512] io).toLoadRect).consLift ![1, 520, 512] h0 hs) hst''))) x
      = Q (x 0 + o) (x 1) := by
  have hx : Shape.reshapeEquiv hR x = (Fin.cons ⟨0, Nat.one_pos⟩ x : (a : Fin 3) → _) :=
    Shape.reshapeEquiv_cons_one (d := ![512, 512]) _ _
  show v.readCov _ _ (Shape.reshapeEquiv hR x) = _
  rw [View.readCov_eq_canon', hx]
  show View.canon _ (LoadRect.idx _ _) = _
  generalize hi : LoadRect.idx _ _ = i
  have e0 : (i 0 : ℕ) = b := by rw [← hi]; show b + 0 + 1 * 0 = b; omega
  have e1 : (i 1 : ℕ) = o + (x 0 : ℕ) := by rw [← hi]; show 0 + o + 1 * (x 0 : ℕ) = _; omega
  have e2 : (i 2 : ℕ) = (x 1 : ℕ) := by rw [← hi]; show 0 + 0 + 1 * (x 1 : ℕ) = _; omega
  have b0 : (x 0 : ℕ) < 512 := (x 0).isLt
  have b1 : (x 1 : ℕ) < 512 := (x 1).isLt
  by_cases h : (x 0 : ℕ) + o < 8
  · rw [View.canon_cons_of_not_mem]
    · obtain ⟨z, hz⟩ : ∃ z, ((Rect.unit (s := S2x520x512) ![b, 0, 0] ![1, 520, 512] ib).within
          ((Rect.unit (s := S520x512) ![0, 0] ![8, 512] i0).consLift ![1, 520, 512] h0 hs) hst').emb z = i := by
        refine LoadRect.exists_idx_of_mem _ (LoadRect.mem_set _ |>.mpr fun a => ?_)
        match a with
        | 0 => exact ⟨0, by show 0 < 1; omega, by show (i 0 : ℕ) = b + 0 + 1 * 0; omega⟩
        | 1 => exact ⟨i 1, by show (i 1 : ℕ) < 8; omega, by show (i 1 : ℕ) = 0 + 0 + 1 * (i 1 : ℕ); omega⟩
        | 2 => exact ⟨i 2, by show (i 2 : ℕ) < 512; omega, by show (i 2 : ℕ) = 0 + 0 + 1 * (i 2 : ℕ); omega⟩
      have z1 : (i 1 : ℕ) = 0 + 0 + 1 * (z 1 : ℕ) := by rw [← hz]; rfl
      have z2 : (i 2 : ℕ) = 0 + 0 + 1 * (z 2 : ℕ) := by rw [← hz]; rfl
      rw [← hz, View.canon_cons_emb]
      refine Eq.trans (Rect.payAlong_consLift (Rect.unit (s := S520x512) ![0, 0] ![8, 512] i0) ![1, 520, 512] h0 hs T hB z
        (ix2 (⟨x 0 + o, h⟩ : Fin 8) (x 1 : Fin 512)) fun a => ?_) (hT _ _)
      match a with
      | 0 => show (x 0 : ℕ) + o = (z 1 : ℕ); omega
      | 1 => show (x 1 : ℕ) = (z 2 : ℕ); omega
    · intro hm
      obtain ⟨j, -, hj⟩ := (LoadRect.mem_set _ |>.mp hm) 1
      have hj : (i 1 : ℕ) = 0 + 8 + 1 * j := hj
      omega
  · obtain ⟨z, hz⟩ : ∃ z, ((Rect.unit (s := S2x520x512) ![b, 0, 0] ![1, 520, 512] ib).within
        ((Rect.unit (s := S520x512) ![8, 0] ![512, 512] i8).consLift ![1, 520, 512] h0 hs) hst).emb z = i := by
      refine LoadRect.exists_idx_of_mem _ (LoadRect.mem_set _ |>.mpr fun a => ?_)
      match a with
      | 0 => exact ⟨0, by show 0 < 1; omega, by show (i 0 : ℕ) = b + 0 + 1 * 0; omega⟩
      | 1 => exact ⟨i 1 - 8, by show (i 1 : ℕ) - 8 < 512; omega, by show (i 1 : ℕ) = 0 + 8 + 1 * ((i 1 : ℕ) - 8); omega⟩
      | 2 => exact ⟨i 2, by show (i 2 : ℕ) < 512; omega, by show (i 2 : ℕ) = 0 + 0 + 1 * (i 2 : ℕ); omega⟩
    have z1 : (i 1 : ℕ) = 0 + 8 + 1 * (z 1 : ℕ) := by rw [← hz]; rfl
    have z2 : (i 2 : ℕ) = 0 + 0 + 1 * (z 2 : ℕ) := by rw [← hz]; rfl
    rw [← hz, View.canon_cons_emb]
    refine Eq.trans (Rect.payAlong_consLift (Rect.unit (s := S520x512) ![8, 0] ![512, 512] i8) ![1, 520, 512] h0 hs Y hA z
      (ix2 (⟨x 0 + o - 8, by omega⟩ : Fin 512) (x 1 : Fin 512)) fun a => ?_) ((hY _ _).trans ?_)
    · match a with
      | 0 => show (x 0 : ℕ) + o - 8 = (z 1 : ℕ); omega
      | 1 => show (x 1 : ℕ) = (z 2 : ℕ); omega
    · show Q ((x 0 : ℕ) + o - 8 + 8) (x 1) = _
      rw [Nat.sub_add_cancel (by omega)]

/-- The logistic-weighted value `v / (1 + exp (-v))`, in the order the layer computes it. -/
def silu (v : EReal) : EReal := v * Ideal.div 1 (1 + Ideal.exp (-v))

/-- The convolution of four rows by a bias and four taps. -/
def taps (b q0 c0 q1 c1 q2 c2 q3 c3 : EReal) : EReal := b + q0 * c0 + q1 * c1 + q2 * c2 + q3 * c3

variable (B c0 c1 c2 c3 : FVec Ideal S1x512 .f32) (p0 p1 p2 p3 : FVec Ideal S512x512 .f32) (x : S512x512.Idx) (q0 q1 q2 q3 : EReal)
  (h0 : p0 x = q0) (h1 : p1 x = q1) (h2 : p2 x = q2) (h3 : p3 x = q3)

/-- What the kernel stores of a convolved column. -/
abbrev convolved : EReal := silu (taps (B (ix2 0 (x 1))) q0 (c0 (ix2 0 (x 1))) q1 (c1 (ix2 0 (x 1))) q2 (c2 (ix2 0 (x 1))) q3 (c3 (ix2 0 (x 1))))

include h0 h1 h2 h3 in
/-- The first convolved chunk at an index: the convolution of the rows it reads, gated. -/
theorem conv0_at : k0_pay20 (F := Ideal) (k0_pay18 (k0_pay17 B) p0 c0 p1 c1 p2 c2 p3 c3) (k0_pay19 (k0_pay17 B) p0 c0 p1 c1 p2 c2 p3 c3) x = convolved B c0 c1 c2 c3 x q0 q1 q2 q3 := by
  pointwise [k0_pay20, k0_pay18, k0_pay19, k0_pay17]
  simp only [h0, h1, h2, h3, silu, taps, sub_eq_add_neg, zero_add]

include h0 h1 h2 h3 in
/-- The second convolved chunk at an index: the convolution of the rows it reads, gated. -/
theorem conv1_at : k0_pay27 (F := Ideal) (k0_pay25 B) (k0_pay26 p0 c0) p1 c1 p2 c2 p3 c3 x = convolved B c0 c1 c2 c3 x q0 q1 q2 q3 := by
  pointwise [k0_pay27, k0_pay26, k0_pay25]
  simp only [h0, h1, h2, h3, silu, taps, sub_eq_add_neg, zero_add]

include h0 h1 h2 h3 in
/-- The third convolved chunk at an index: the convolution of the rows it reads, gated. -/
theorem conv2_at : k0_pay33 (F := Ideal) (k0_pay32 B p0 c0) p1 c1 p2 c2 p3 c3 x = convolved B c0 c1 c2 c3 x q0 q1 q2 q3 := by
  pointwise [k0_pay33, k0_pay32]
  simp only [h0, h1, h2, h3, silu, taps, sub_eq_add_neg, zero_add]

include h0 h1 h2 h3 in
/-- The fourth convolved chunk at an index: the convolution of the rows it reads, gated. -/
theorem conv3_at : k0_pay39 (F := Ideal) (k0_pay38 B p0 c0) p1 c1 p2 c2 p3 c3 x = convolved B c0 c1 c2 c3 x q0 q1 q2 q3 := by
  pointwise [k0_pay39, k0_pay38]
  simp only [h0, h1, h2, h3, silu, taps, sub_eq_add_neg, zero_add]

include h0 h1 h2 h3 in
/-- The fifth convolved chunk at an index: the convolution of the rows it reads, gated. -/
theorem conv4_at : k0_pay45 (F := Ideal) (k0_pay44 B p0 c0 p1 c1) p2 c2 p3 c3 x = convolved B c0 c1 c2 c3 x q0 q1 q2 q3 := by
  pointwise [k0_pay45, k0_pay44]
  simp only [h0, h1, h2, h3, silu, taps, sub_eq_add_neg, zero_add]

include h0 h1 h2 h3 in
/-- The sixth convolved chunk at an index: the convolution of the rows it reads, gated. -/
theorem conv5_at : k0_pay51 (F := Ideal) (k0_pay50 B p0 c0 p1 c1) p2 c2 p3 c3 x = convolved B c0 c1 c2 c3 x q0 q1 q2 q3 := by
  pointwise [k0_pay51, k0_pay50]
  simp only [h0, h1, h2, h3, silu, taps, sub_eq_add_neg, zero_add]

omit h0 h1 h2 h3
section
variable (n : FVec Ideal S512x1024 .bf16) (w : FVec Ideal S1024x512 .bf16) (u : FVec Ideal S8x512 .f32) (r l : Fin 512) (r8 : Fin 8)

/-- Row `r` of the normalised rows times column `l` of a chunk of the weight. -/
abbrev mm (n : FVec Ideal S512x1024 .bf16) (w : FVec Ideal S1024x512 .bf16) (r l : Fin 512) : EReal := ∑ k : Fin 1024, n (ix2 r k) * w (ix2 k l)

/-- The product a convolved chunk stages, at an index. -/
theorem rows0_at : (k0_pay15 n w : FVec Ideal S512x512 .f32) (ix2 r l) = mm n w r l := by pointwise [k0_pay15, k0_pay13]

/-- The last eight rows of the product of a convolved chunk, at an index. -/
theorem tail0_at : (k0_pay16 n w : FVec Ideal S8x512 .f32) (ix2 r8 l) = mm n w ⟨504 + r8, by omega⟩ l := by pointwise [k0_pay16, k0_pay13]

/-- The eight rows copied ahead of a convolved chunk. -/
theorem head0_at : k0_pay14 u = u := by funext y; pointwise [k0_pay14]

/-- The product a convolved chunk stages, at an index. -/
theorem rows1_at : (k0_pay23 n w : FVec Ideal S512x512 .f32) (ix2 r l) = mm n w r l := by pointwise [k0_pay23, k0_pay21]

/-- The last eight rows of the product of a convolved chunk, at an index. -/
theorem tail1_at : (k0_pay24 n w : FVec Ideal S8x512 .f32) (ix2 r8 l) = mm n w ⟨504 + r8, by omega⟩ l := by pointwise [k0_pay24, k0_pay21]

/-- The eight rows copied ahead of a convolved chunk. -/
theorem head1_at : k0_pay22 u = u := by funext y; pointwise [k0_pay22]

/-- The product a convolved chunk stages, at an index. -/
theorem rows2_at : (k0_pay30 n w : FVec Ideal S512x512 .f32) (ix2 r l) = mm n w r l := by pointwise [k0_pay30, k0_pay28]

/-- The last eight rows of the product of a convolved chunk, at an index. -/
theorem tail2_at : (k0_pay31 n w : FVec Ideal S8x512 .f32) (ix2 r8 l) = mm n w ⟨504 + r8, by omega⟩ l := by pointwise [k0_pay31, k0_pay28]

/-- The eight rows copied ahead of a convolved chunk. -/
theorem head2_at : k0_pay29 u = u := by funext y; pointwise [k0_pay29]

/-- The product a convolved chunk stages, at an index. -/
theorem rows3_at : (k0_pay36 (k0_pay34 n w) : FVec Ideal S512x512 .f32) (ix2 r l) = mm n w r l := by pointwise [k0_pay36, k0_pay34]

/-- The last eight rows of the product of a convolved chunk, at an index. -/
theorem tail3_at : (k0_pay37 (k0_pay34 n w) : FVec Ideal S8x512 .f32) (ix2 r8 l) = mm n w ⟨504 + r8, by omega⟩ l := by pointwise [k0_pay37, k0_pay34]

/-- The eight rows copied ahead of a convolved chunk. -/
theorem head3_at : k0_pay35 u = u := by funext y; pointwise [k0_pay35]

/-- The product a convolved chunk stages, at an index. -/
theorem rows4_at : (k0_pay42 (k0_pay40 n w) : FVec Ideal S512x512 .f32) (ix2 r l) = mm n w r l := by pointwise [k0_pay42, k0_pay40]

/-- The last eight rows of the product of a convolved chunk, at an index. -/
theorem tail4_at : (k0_pay43 (k0_pay40 n w) : FVec Ideal S8x512 .f32) (ix2 r8 l) = mm n w ⟨504 + r8, by omega⟩ l := by pointwise [k0_pay43, k0_pay40]

/-- The eight rows copied ahead of a convolved chunk. -/
theorem head4_at : k0_pay41 u = u := by funext y; pointwise [k0_pay41]

/-- The product a convolved chunk stages, at an index. -/
theorem rows5_at : (k0_pay48 (k0_pay46 n w) : FVec Ideal S512x512 .f32) (ix2 r l) = mm n w r l := by pointwise [k0_pay48, k0_pay46]

/-- The last eight rows of the product of a convolved chunk, at an index. -/
theorem tail5_at : (k0_pay49 (k0_pay46 n w) : FVec Ideal S8x512 .f32) (ix2 r8 l) = mm n w ⟨504 + r8, by omega⟩ l := by pointwise [k0_pay49, k0_pay46]

/-- The eight rows copied ahead of a convolved chunk. -/
theorem head5_at : k0_pay47 u = u := by funext y; pointwise [k0_pay47]

/-- The first gated chunk. -/
theorem gate0_at (a : FVec Ideal S512x1024 .f32) (g : FVec Ideal S1x1024 .f32) :
    (k0_pay7 (k0_pay5 a g w) (k0_pay6 a g w) : FVec Ideal S512x512 .f32) (ix2 r l) = silu (mm (k0_pay4 a g) w r l) := by
  pointwise [k0_pay7, k0_pay5, k0_pay6]
  simp only [silu, mm, sub_eq_add_neg, zero_add]

/-- The second gated chunk. -/
theorem gate1_at : (k0_pay8 n w : FVec Ideal S512x512 .f32) (ix2 r l) = silu (mm n w r l) := by
  pointwise [k0_pay8]
  simp only [silu, mm, sub_eq_add_neg, zero_add]

/-- The third gated chunk. -/
theorem gate2_at : (k0_pay9 n w : FVec Ideal S512x512 .f32) (ix2 r l) = silu (mm n w r l) := by
  pointwise [k0_pay9]
  simp only [silu, mm, sub_eq_add_neg, zero_add]

/-- The fourth gated chunk. -/
theorem gate3_at : (k0_pay12 (k0_pay10 n w) (k0_pay11 n w) : FVec Ideal S512x512 .f32) (ix2 r l) = silu (mm n w r l) := by
  pointwise [k0_pay12, k0_pay11, k0_pay10]
  simp only [silu, mm, sub_eq_add_neg, zero_add]

/-- A chunk stored as it is. -/
theorem plain0_at : (k0_pay52 n w : FVec Ideal S512x512 .f32) (ix2 r l) = mm n w r l := by pointwise [k0_pay52]

/-- A chunk stored as it is. -/
theorem plain1_at : (k0_pay53 n w : FVec Ideal S512x512 .f32) (ix2 r l) = mm n w r l := by pointwise [k0_pay53]

/-- The last chunk, stored as it is. -/
theorem plain2_at : (k0_pay1 n (k0_pay54 w) (constant S512x512 .f32 0x00000000#32) : FVec Ideal S512x512 .f32) (ix2 r l) = mm n w r l := by pointwise [k0_pay1, k0_pay54]

end

/-- The reference's normalised residual, `rmsnorm(x, g)`. -/
def normed (x : FVec Ideal S8x4096x1024 .f32) (g : FVec Ideal S1024 .f32) : FVec Ideal S8x4096x1024 .f32 :=
  mulf (mulf x (broadcastInDim Cert.Reference5Ideal.S8x4096x1024 ![0, 1, 2] Cert.Reference5Ideal.Gen.bcast_S8x4096x1_S8x4096x1024_0_1_2 (Host.rsqrt (addf (Host.divf (broadcastInDim Cert.Reference5Ideal.S8x4096x1 ![0, 1] Cert.Reference5Ideal.Gen.bcast_S8x4096_S8x4096x1_0_1 (Host.reduceAdd (mulf x x) (constant Cert.Reference5Ideal.S_ .f32 0x00000000#32) Cert.Reference5Ideal.Gen.reducesTo_S8x4096x1024_S8x4096_d2 Cert.Reference5Ideal.Gen.h_S_)) (broadcastInDim Cert.Reference5Ideal.S8x4096x1 ![] Cert.Reference5Ideal.Gen.bcast_S_S8x4096x1 (constant Cert.Reference5Ideal.S_ .f32 0x44800000#32))) (broadcastInDim Cert.Reference5Ideal.S8x4096x1 ![] Cert.Reference5Ideal.Gen.bcast_S_S8x4096x1 (constant Cert.Reference5Ideal.S_ .f32 0x3727C5AC#32)))))) (broadcastInDim Cert.Reference5Ideal.S8x4096x1024 ![0, 1, 2] Cert.Reference5Ideal.Gen.bcast_S1x1x1024_S8x4096x1024_0_1_2 (broadcastInDim Cert.Reference5Ideal.S1x1x1024 ![2] Cert.Reference5Ideal.Gen.bcast_S1024_S1x1x1024_2 g))

/-- The weight's columns in the kernel's order, padded by zero columns. -/
def weight (w : FVec Ideal S1024x6432 .f32) : FVec Ideal S1024x6656 .bf16 :=
  truncf .bf16 (concatenate S1024x6656 1 [⟨S1024x2048, extractStridedSlice S1024x2048 ![0, 1280] w slices_S1024x6432_S1024x2048_0_1280⟩,
    ⟨S1024x2048, extractStridedSlice S1024x2048 ![0, 3328] w slices_S1024x6432_S1024x2048_0_3328⟩,
    ⟨S1024x512, extractStridedSlice S1024x512 ![0, 5376] w slices_S1024x6432_S1024x512_0_5376⟩,
    ⟨S1024x512, extractStridedSlice S1024x512 ![0, 5888] w slices_S1024x6432_S1024x512_0_5888⟩,
    ⟨S1024x1024, extractStridedSlice S1024x1024 ![0, 0] w slices_S1024x6432_S1024x1024_0_0⟩,
    ⟨S1024x128, extractStridedSlice S1024x128 ![0, 1024] w slices_S1024x6432_S1024x128_0_1024⟩,
    ⟨S1024x128, extractStridedSlice S1024x128 ![0, 1152] w slices_S1024x6432_S1024x128_0_1152⟩,
    ⟨S1024x32, extractStridedSlice S1024x32 ![0, 6400] w slices_S1024x6432_S1024x32_0_6400⟩,
    ⟨S1024x224, broadcastInDim S1024x224 ![] bcast_S_S1024x224 (constant S_ .f32 0x00000000#32)⟩]
    concatenates_S1024x2048_S1024x2048_S1024x512_S1024x512_S1024x1024_S1024x128_S1024x128_S1024x32_S1024x224_S1024x6656_d1) bitsLt_bf16_f32

/-- A gated or convolved column of the kernel's weight. -/
theorem weight_lo (w : FVec Ideal S1024x6432 .f32) (k : Fin 1024) (n : Fin 6656) (h : (n : ℕ) < 5120) :
    weight w (ix2 k n) = w (ix2 k ⟨1280 + n, by omega⟩) := by
  pointwise [weight]
  split_ifs <;> first | exact congrArg w (congrArg (ix2 k) (Fin.ext (by show _ = _; simp only []; omega))) | omega | rfl

/-- A query, key or value column of the kernel's weight. -/
theorem weight_mid (w : FVec Ideal S1024x6432 .f32) (k : Fin 1024) (n : Fin 6656) (h : 5120 ≤ (n : ℕ)) (h' : (n : ℕ) < 6400) :
    weight w (ix2 k n) = w (ix2 k ⟨n - 5120, by omega⟩) := by
  pointwise [weight]
  split_ifs <;> first | exact congrArg w (congrArg (ix2 k) (Fin.ext (by show _ = _; simp only []; omega))) | omega | rfl

/-- A step-size column of the kernel's weight. -/
theorem weight_hi (w : FVec Ideal S1024x6432 .f32) (k : Fin 1024) (n : Fin 6656) (h : 6400 ≤ (n : ℕ)) (h' : (n : ℕ) < 6432) :
    weight w (ix2 k n) = w (ix2 k ⟨n, by omega⟩) := by
  pointwise [weight]
  split_ifs <;> first | exact congrArg w (congrArg (ix2 k) (Fin.ext (by show _ = _; simp only []; omega))) | omega | rfl

/-- A padding column of the kernel's weight. -/
theorem weight_pad (w : FVec Ideal S1024x6432 .f32) (k : Fin 1024) (n : Fin 6656) (h : 6432 ≤ (n : ℕ)) :
    weight w (ix2 k n) = (0 : EReal) := by
  pointwise [weight]
  split_ifs <;> first | exact congrArg w (congrArg (ix2 k) (Fin.ext (by show _ = _; simp only []; omega))) | omega | rfl

variable (m : (ℓ : Loc nD τ sig) → Buf (Elt Ideal) ℓ)

/-- The windows' block indices at each grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val / 8, 0, 0] :=
  (by decide +kernel : ∀ t : Fin grid0.N, _)

/-- Row `a` of point `t`'s block of the residual is row `512 t + a` of the flattened residual. -/
theorem block0 (c : Dev nD) (t : Fin cfg0.N) (a : Fin 512) (k : Fin 1024) (j : S8x4096x1024.Idx)
    (h0 : (j 0 : ℕ) = (512 * t.val + a) / 4096) (h1 : (j 1 : ℕ) = (512 * t.val + a) % 4096) (h2 : (j 2 : ℕ) = k) :
    iblk m c 0 t (ix2 a k) = m ((c : Thread nD τ).loc main_arg0) j := by
  blk_simp [iblk]
  entry_read
  pointwise
  blk_ext [idx t]

/-- The scale's block is the scale. -/
theorem block1 (c : Dev nD) (t : Fin cfg0.N) (k : Fin 1024) :
    iblk m c 1 t (ix2 0 k) = m ((c : Thread nD τ).loc main_arg1) (ix1 k) := by
  blk_simp [iblk]
  entry_read
  pointwise
  blk_ext [idx t]

/-- The taps' block is the taps. -/
theorem block3 (c : Dev nD) (t : Fin cfg0.N) (k : Fin 4) (n : Fin 3072) :
    iblk m c 3 t (ix2 k n) = m ((c : Thread nD τ).loc main_arg3) (ix2 k n) := by
  blk_simp [iblk]
  entry_read
  blk_ext [idx t]

/-- The bias's block is the bias. -/
theorem block4 (c : Dev nD) (t : Fin cfg0.N) (n : Fin 3072) :
    iblk m c 4 t (ix2 0 n) = m ((c : Thread nD τ).loc main_arg4) (ix1 n) := by
  blk_simp [iblk]
  entry_read
  pointwise
  blk_ext [idx t]

/-- The host's weight. -/
theorem weight_entry (c : Dev nD) : V m c main_v10 = weight (m ((c : Thread nD τ).loc main_arg2)) := by
  simp only [V, hostOps0, List.flatten_cons, List.flatten_nil, List.cons_append, List.nil_append, List.append_nil]
  after_results_simp
  rfl

/-- Every step reads the whole weight. -/
theorem block2 (c : Dev nD) (t : Fin cfg0.N) (k : Fin 1024) (n : Fin 6656) :
    iblk m c 2 t (ix2 k n) = weight (m ((c : Thread nD τ).loc main_arg2)) (ix2 k n) := by
  have e : iblk m c 2 t (ix2 k n) = V m c main_v10 (ix2 k n) := by
    blk_simp [iblk]
    blk_ext [idx t]
  rw [e, weight_entry]

end Cert.EvenProjection
-- ==== Proof.EvenProjection.lean ====
module

public import proofs.«01_k».proof.Proof.EvenProjectionBody
public import proofs.«01_k».proof.Defs
public import proofs.«01_k».proof.Proof.Gen.Reference5Ideal.Run
public import Idealize.ShloMosaic.Lib.Claim
public import Idealize.ShloMosaic.Lib.Pipeline.CanonAppend

@[expose] public section

set_option maxRecDepth 16384

noncomputable section

namespace Cert.EvenProjection

open Cert.Kernel5Ideal Cert.Kernel5Ideal.Gen Idealize.ShloMosaic Idealize.ShloMosaic.TcCoe Idealize.SL.Sem
open Idealize.ShloMosaic.Pipeline (Dat)

/-! ## The projection's entries, by row and column number -/

/-- Row `r` of the flattened normalised residual times column `n` of the kernel's weight. -/
def entry (x : FVec Ideal S8x4096x1024 .f32) (g : FVec Ideal S1024 .f32) (w : FVec Ideal S1024x6432 .f32) (r n : ℕ) : EReal :=
  if h : r < 32768 ∧ n < 6656 then
    ∑ k : Fin 1024, normed x g (ix3 ⟨r / 4096, by omega⟩ ⟨r % 4096, by omega⟩ k) * weight w (ix2 k ⟨n, h.2⟩)
  else 0

/-- An entry inside the arrays. -/
theorem entry_of (x : FVec Ideal S8x4096x1024 .f32) (g : FVec Ideal S1024 .f32) (w : FVec Ideal S1024x6432 .f32) (r n : ℕ) (h : r < 32768 ∧ n < 6656) :
    entry x g w r n
      = ∑ k : Fin 1024, normed x g (ix3 ⟨r / 4096, by omega⟩ ⟨r % 4096, by omega⟩ k) * weight w (ix2 k ⟨n, h.2⟩) := by
  unfold entry
  rw [dif_pos h]

/-- What the convolution of block `t` of rows reads in row `r` of its 520 staged rows: the row eight before row `r` of the block, or zero
ahead of a sequence's first row. -/
def staged (x : FVec Ideal S8x4096x1024 .f32) (g : FVec Ideal S1024 .f32) (w : FVec Ideal S1024x6432 .f32) (t r n : ℕ) : EReal :=
  if t % 8 = 0 ∧ r < 8 then 0 else entry x g w (512 * t + r - 8) n

/-- The layer's result at row `a` of block `t` and column `n`: gated, convolved and gated, or as it is. -/
def cell (x : FVec Ideal S8x4096x1024 .f32) (g : FVec Ideal S1024 .f32) (w : FVec Ideal S1024x6432 .f32) (cw : FVec Ideal S4x3072 .f32)
    (cb : FVec Ideal S3072 .f32) (t a : ℕ) (n : Fin 6656) : EReal :=
  if h : (n : ℕ) < 2048 then silu (entry x g w (512 * t + a) n)
  else if h' : (n : ℕ) < 5120 then
    silu (taps (cb (ix1 ⟨n - 2048, by omega⟩))
      (staged x g w t (a + 5) n) (cw (ix2 0 ⟨n - 2048, by omega⟩)) (staged x g w t (a + 6) n) (cw (ix2 1 ⟨n - 2048, by omega⟩))
      (staged x g w t (a + 7) n) (cw (ix2 2 ⟨n - 2048, by omega⟩)) (staged x g w t (a + 8) n) (cw (ix2 3 ⟨n - 2048, by omega⟩)))
  else entry x g w (512 * t + a) n

/-! ## Reads of the carried rows -/

section
variable {κ : Kind} {sp : Space} (v : View sig κ sp S8x3072 .f32)

/-- A read of eight rows' columns from `o` skips a store left of them. -/
theorem skip_at (o o' : ℕ) (ho : o' + 512 ≤ o) (i : ∀ a, ![0, o] a + ![8, 512] a ≤ S8x3072.size a)
    (i' : ∀ a, ![0, o'] a + ![8, 512] a ≤ S8x3072.size a) (w : FVec Ideal S8x512 .f32) (L : List (View.Piece (Elt Ideal) S8x3072 .f32))
    (G : FVec Ideal S8x512 .f32) (h : v.readCov L (Rect.unit (s := S8x3072) ![0, o] ![8, 512] i).toLoadRect = G) :
    v.readCov (⟨Rect.unit (s := S8x3072) ![0, o'] ![8, 512] i', w⟩ :: L) (Rect.unit (s := S8x3072) ![0, o] ![8, 512] i).toLoadRect = G := by
  rw [View.readCov_cons_of_disjoint _ _ _ _ ?_]
  · exact h
  · refine Finset.disjoint_left.mpr fun j hj hj' => ?_
    have hj : j ∈ (Rect.unit (s := S8x3072) ![0, o'] ![8, 512] i').set := hj
    have a1 : o' ≤ (j 1 : ℕ) ∧ (j 1 : ℕ) < o' + 512 := (Rect.mem_set_unit.mp hj) 1
    have a2 : o ≤ (j 1 : ℕ) ∧ (j 1 : ℕ) < o + 512 := (Rect.mem_set_unit.mp hj') 1
    omega

/-- A read of eight rows' columns after the whole was set to zero is zero. -/
theorem zero_at (o : ℕ) (G : FVec Ideal S8x512 .f32) (hG : ∀ j, G j = 0) (i : ∀ a, ![0, o] a + ![8, 512] a ≤ S8x3072.size a) (i' : ∀ a, ![0, 0] a + ![8, 3072] a ≤ S8x3072.size a) :
    v.readCov ([⟨Rect.unit (s := S8x3072) ![0, 0] ![8, 3072] i', k0_pay3 (F := Ideal)⟩] : List (View.Piece (Elt Ideal) S8x3072 .f32)) (Rect.unit (s := S8x3072) ![0, o] ![8, 512] i).toLoadRect
      = G := by
  rw [View.readCov_eq_canon']
  funext j
  refine Eq.trans ?_ (hG j).symm
  obtain ⟨z, hz⟩ : ∃ z, (Rect.unit (s := S8x3072) ![0, 0] ![8, 3072] i').emb z = (Rect.unit (s := S8x3072) ![0, o] ![8, 512] i).toLoadRect.idx j := by
    refine LoadRect.exists_idx_of_mem _ (Rect.mem_set_unit.mpr fun a => ⟨?_, ?_⟩)
    · match a with
      | 0 => exact Nat.zero_le _
      | 1 => exact Nat.zero_le _
    · have := (((Rect.unit (s := S8x3072) ![0, o] ![8, 512] i).toLoadRect.idx j) a).isLt
      match a with
      | 0 => exact lt_of_lt_of_eq this (by decide)
      | 1 => exact lt_of_lt_of_eq this (by decide)
  refine (congrArg _ hz.symm).trans ((View.canon_cons_emb _ _ _ _).trans ?_)
  pointwise [k0_pay3]

end

/-- Six stores of eight rows, side by side, leave the array each of them agrees with. -/
theorem tiles (G : FVec Ideal S8x3072 .f32) (L : List (View.Piece (Elt Ideal) S8x3072 .f32)) (w0 w1 w2 w3 w4 w5 : FVec Ideal S8x512 .f32)
    (i0 : ∀ a, ![0, 0] a + ![8, 512] a ≤ S8x3072.size a) (i1 : ∀ a, ![0, 512] a + ![8, 512] a ≤ S8x3072.size a)
    (i2 : ∀ a, ![0, 1024] a + ![8, 512] a ≤ S8x3072.size a) (i3 : ∀ a, ![0, 1536] a + ![8, 512] a ≤ S8x3072.size a)
    (i4 : ∀ a, ![0, 2048] a + ![8, 512] a ≤ S8x3072.size a) (i5 : ∀ a, ![0, 2560] a + ![8, 512] a ≤ S8x3072.size a)
    (h0 : ∀ (r : Fin 8) (l : Fin 512), w0 (ix2 r l) = G (ix2 r ⟨0 + l, by omega⟩))
    (h1 : ∀ (r : Fin 8) (l : Fin 512), w1 (ix2 r l) = G (ix2 r ⟨512 + l, by omega⟩))
    (h2 : ∀ (r : Fin 8) (l : Fin 512), w2 (ix2 r l) = G (ix2 r ⟨1024 + l, by omega⟩))
    (h3 : ∀ (r : Fin 8) (l : Fin 512), w3 (ix2 r l) = G (ix2 r ⟨1536 + l, by omega⟩))
    (h4 : ∀ (r : Fin 8) (l : Fin 512), w4 (ix2 r l) = G (ix2 r ⟨2048 + l, by omega⟩))
    (h5 : ∀ (r : Fin 8) (l : Fin 512), w5 (ix2 r l) = G (ix2 r ⟨2560 + l, by omega⟩)) (y : S8x3072.Idx) :
    View.canon (⟨Rect.unit (s := S8x3072) ![0, 2560] ![8, 512] i5, w5⟩ :: ⟨Rect.unit (s := S8x3072) ![0, 2048] ![8, 512] i4, w4⟩
      :: ⟨Rect.unit (s := S8x3072) ![0, 1536] ![8, 512] i3, w3⟩ :: ⟨Rect.unit (s := S8x3072) ![0, 1024] ![8, 512] i2, w2⟩
      :: ⟨Rect.unit (s := S8x3072) ![0, 512] ![8, 512] i1, w1⟩ :: ⟨Rect.unit (s := S8x3072) ![0, 0] ![8, 512] i0, w0⟩ :: L) y = G y := by
  have key (o : ℕ) (i : ∀ a, ![0, o] a + ![8, 512] a ≤ S8x3072.size a) (ho : o + 512 ≤ 3072) (w : FVec Ideal S8x512 .f32)
      (h : ∀ (r : Fin 8) (l : Fin 512), w (ix2 r l) = G (ix2 r ⟨o + l, by omega⟩)) (x : S8x512.Idx) :
      w x = G ((Rect.unit (s := S8x3072) ![0, o] ![8, 512] i).emb x) := by
    have e : x = ix2 (x 0) (x 1) := by blk_ext
    refine (congrArg w e).trans ((h (x 0) (x 1)).trans (congrArg G (funext fun a => Fin.ext ?_)))
    match a with
    | 0 => show (x 0 : ℕ) = 0 + 1 * (x 0 : ℕ); omega
    | 1 => show o + (x 1 : ℕ) = o + 1 * (x 1 : ℕ); omega
  have y0 : (y 0 : ℕ) < 8 := (y 0).isLt
  have y1 : (y 1 : ℕ) < 3072 := (y 1).isLt
  have mem (o : ℕ) (i : ∀ a, ![0, o] a + ![8, 512] a ≤ S8x3072.size a) (h : o ≤ (y 1 : ℕ)) (h' : (y 1 : ℕ) < o + 512) :
      y ∈ (Rect.unit (s := S8x3072) ![0, o] ![8, 512] i).set :=
    Rect.mem_set_unit.mpr fun a => match a with
      | 0 => ⟨Nat.zero_le _, lt_of_lt_of_eq y0 (Nat.zero_add 8).symm⟩
      | 1 => ⟨h, h'⟩
  refine View.canon_append_of_pieces G L [⟨Rect.unit (s := S8x3072) ![0, 2560] ![8, 512] i5, w5⟩, ⟨Rect.unit (s := S8x3072) ![0, 2048] ![8, 512] i4, w4⟩,
    ⟨Rect.unit (s := S8x3072) ![0, 1536] ![8, 512] i3, w3⟩, ⟨Rect.unit (s := S8x3072) ![0, 1024] ![8, 512] i2, w2⟩,
    ⟨Rect.unit (s := S8x3072) ![0, 512] ![8, 512] i1, w1⟩, ⟨Rect.unit (s := S8x3072) ![0, 0] ![8, 512] i0, w0⟩] (fun p hp x => ?_) y ?_
  · simp only [List.mem_cons, List.not_mem_nil, or_false] at hp
    rcases hp with rfl | rfl | rfl | rfl | rfl | rfl
    · exact key 2560 i5 (by decide) w5 h5 x
    · exact key 2048 i4 (by decide) w4 h4 x
    · exact key 1536 i3 (by decide) w3 h3 x
    · exact key 1024 i2 (by decide) w2 h2 x
    · exact key 512 i1 (by decide) w1 h1 x
    · exact key 0 i0 (by decide) w0 h0 x
  · by_cases c1 : (y 1 : ℕ) < 512
    · exact ⟨⟨_, w0⟩, (List.mem_cons_of_mem _ (List.mem_cons_of_mem _ (List.mem_cons_of_mem _ (List.mem_cons_of_mem _ (List.mem_cons_of_mem _ List.mem_cons_self))))), mem 0 i0 (by omega) (by omega)⟩
    by_cases c2 : (y 1 : ℕ) < 1024
    · exact ⟨⟨_, w1⟩, (List.mem_cons_of_mem _ (List.mem_cons_of_mem _ (List.mem_cons_of_mem _ (List.mem_cons_of_mem _ List.mem_cons_self)))), mem 512 i1 (by omega) (by omega)⟩
    by_cases c3 : (y 1 : ℕ) < 1536
    · exact ⟨⟨_, w2⟩, (List.mem_cons_of_mem _ (List.mem_cons_of_mem _ (List.mem_cons_of_mem _ List.mem_cons_self))), mem 1024 i2 (by omega) (by omega)⟩
    by_cases c4 : (y 1 : ℕ) < 2048
    · exact ⟨⟨_, w3⟩, (List.mem_cons_of_mem _ (List.mem_cons_of_mem _ List.mem_cons_self)), mem 1536 i3 (by omega) (by omega)⟩
    by_cases c5 : (y 1 : ℕ) < 2560
    · exact ⟨⟨_, w4⟩, (List.mem_cons_of_mem _ List.mem_cons_self), mem 2048 i4 (by omega) (by omega)⟩
    · exact ⟨⟨_, w5⟩, List.mem_cons_self, mem 2560 i5 (by omega) (by omega)⟩

variable (m : (ℓ : Loc nD τ sig) → Buf (Elt Ideal) ℓ)

/-- `entry` of the arguments in memory. -/
abbrev entryM (c : Dev nD) (r n : ℕ) : EReal :=
  entry (m ((c : Thread nD τ).loc main_arg0)) (m ((c : Thread nD τ).loc main_arg1)) (m ((c : Thread nD τ).loc main_arg2)) r n

/-- `staged` of the arguments in memory. -/
abbrev stagedM (c : Dev nD) (t r n : ℕ) : EReal :=
  staged (m ((c : Thread nD τ).loc main_arg0)) (m ((c : Thread nD τ).loc main_arg1)) (m ((c : Thread nD τ).loc main_arg2)) t r n

/-- `cell` of the arguments in memory. -/
abbrev cellM (c : Dev nD) (t a : ℕ) (n : Fin 6656) : EReal :=
  cell (m ((c : Thread nD τ).loc main_arg0)) (m ((c : Thread nD τ).loc main_arg1)) (m ((c : Thread nD τ).loc main_arg2))
    (m ((c : Thread nD τ).loc main_arg3)) (m ((c : Thread nD τ).loc main_arg4)) t a n

/-- There are 64 blocks of rows. -/
theorem t_lt (t : Fin cfg0.N) : t.val < 64 := lt_of_lt_of_eq t.isLt (by decide +kernel)

/-- The kernel's normalised row is the reference's. -/
theorem normed_at (c : Dev nD) (t : Fin cfg0.N) (r : Fin 512) (k : Fin 1024) (i : Fin 8) (j : Fin 4096)
    (h0 : (i : ℕ) = (512 * t.val + r) / 4096) (h1 : (j : ℕ) = (512 * t.val + r) % 4096) :
    k0_pay4 (F := Ideal) (iblk m c 0 t) (iblk m c 1 t) (ix2 r k)
      = normed (m ((c : Thread nD τ).loc main_arg0)) (m ((c : Thread nD τ).loc main_arg1)) (ix3 i j k) := by
  have hx (k : Fin 1024) := block0 m c t r k (ix3 i j k) (by simp [h0]) (by simp [h1]) (by simp)
  pointwise [k0_pay4]
  simp only [hx, block1]
  pointwise [normed]

/-- A chunk's product at an index is the projection's entry. -/
theorem chunk_at (c : Dev nD) (t : Fin cfg0.N) (off : ℕ) (i : ∀ a, ![0, off] a + ![1024, 512] a ≤ S1024x6656.size a) (ho : off + 512 ≤ 6656)
    (r l : Fin 512) (R n : ℕ) (hR : R = 512 * t.val + r) (hn : n = off + l) :
    mm (k0_pay4 (iblk m c 0 t) (iblk m c 1 t)) (View.ld (iblk m c 2 t) (Rect.unit (s := S1024x6656) ![0, off] ![1024, 512] i)) r l
      = entryM m c R n := by
  subst hR hn
  have ht := t_lt t
  have hin : 512 * t.val + (r : ℕ) < 32768 ∧ off + (l : ℕ) < 6656 := ⟨by omega, by omega⟩
  refine Eq.trans (Finset.sum_congr rfl fun k _ => congrArg₂ (· * ·)
    (normed_at m c t r k ⟨(512 * t.val + r) / 4096, by omega⟩ ⟨(512 * t.val + r) % 4096, by omega⟩ rfl rfl)
    (Eq.trans (congrArg (iblk m c 2 t) (funext fun a => Fin.ext ?_)) (block2 m c t k ⟨off + l, by omega⟩))) (entry_of _ _ _ _ _ hin).symm
  match a with
  | 0 => show 0 + 1 * (k : ℕ) = k; omega
  | 1 => show off + 1 * (l : ℕ) = off + l; omega

/-- A chunk of the bias. -/
theorem bias_at (c : Dev nD) (t : Fin cfg0.N) (off : ℕ) (i : ∀ a, ![0, off] a + ![1, 512] a ≤ S1x3072.size a) (ho : off + 512 ≤ 3072) (l : Fin 512) :
    View.ld (iblk m c 4 t) (Rect.unit (s := S1x3072) ![0, off] ![1, 512] i) (ix2 0 l)
      = m ((c : Thread nD τ).loc main_arg4) (ix1 (⟨off + l, by omega⟩ : Fin 3072)) := by
  refine Eq.trans (congrArg (iblk m c 4 t) (funext fun a => Fin.ext ?_)) (block4 m c t ⟨off + l, by omega⟩)
  match a with
  | 0 => rfl
  | 1 => show off + 1 * (l : ℕ) = off + l; omega

/-- A chunk of a tap. -/
theorem tap_at (c : Dev nD) (t : Fin cfg0.N) (q : Fin 4) (off : ℕ) (i : ∀ a, ![(q : ℕ), off] a + ![1, 512] a ≤ S4x3072.size a) (ho : off + 512 ≤ 3072) (l : Fin 512) :
    View.ld (iblk m c 3 t) (Rect.unit (s := S4x3072) ![(q : ℕ), off] ![1, 512] i) (ix2 0 l)
      = m ((c : Thread nD τ).loc main_arg3) (ix2 q (⟨off + l, by omega⟩ : Fin 3072)) := by
  refine Eq.trans (congrArg (iblk m c 3 t) (funext fun a => Fin.ext ?_)) (block3 m c t q ⟨off + l, by omega⟩)
  match a with
  | 0 => rfl
  | 1 => show off + 1 * (l : ℕ) = off + l; omega

/-- The rows carried past block `t`: the last eight rows of its convolved columns. -/
def carriedRows (c : Dev nD) (t : ℕ) : FVec Ideal S8x3072 .f32 := fun y => entryM m c (512 * t + 504 + (y 0 : ℕ)) (2048 + (y 1 : ℕ))

/-- After every point the carried buffer holds the block's last eight rows. -/
theorem carried (c : Dev nD) (t : Fin cfg0.N) (y : S8x3072.Idx) : (outsAt0 m c t.val t.isLt).2.2 y = carriedRows m c t.val y := by
  by_cases h : t.val % 8 = 0
  · rw [outsAt0_A m c t h]
    frame_out
    refine tiles (carriedRows m c t.val) _ _ _ _ _ _ _ _ _ _ _ _ _ (fun r l => ?_) (fun r l => ?_) (fun r l => ?_) (fun r l => ?_) (fun r l => ?_) (fun r l => ?_) y
    · exact (tail0_at _ _ _ _).trans (chunk_at m c t 2048 _ (by decide) ⟨504 + r, by omega⟩ l _ _ (Nat.add_assoc _ _ _) (by show 2048 + (0 + (l : ℕ)) = 2048 + (l : ℕ); omega))
    · exact (tail1_at _ _ _ _).trans (chunk_at m c t 2560 _ (by decide) ⟨504 + r, by omega⟩ l _ _ (Nat.add_assoc _ _ _) (by show 2048 + (512 + (l : ℕ)) = 2560 + (l : ℕ); omega))
    · exact (tail2_at _ _ _ _).trans (chunk_at m c t 3072 _ (by decide) ⟨504 + r, by omega⟩ l _ _ (Nat.add_assoc _ _ _) (by show 2048 + (1024 + (l : ℕ)) = 3072 + (l : ℕ); omega))
    · exact (tail3_at _ _ _ _).trans (chunk_at m c t 3584 _ (by decide) ⟨504 + r, by omega⟩ l _ _ (Nat.add_assoc _ _ _) (by show 2048 + (1536 + (l : ℕ)) = 3584 + (l : ℕ); omega))
    · exact (tail4_at _ _ _ _).trans (chunk_at m c t 4096 _ (by decide) ⟨504 + r, by omega⟩ l _ _ (Nat.add_assoc _ _ _) (by show 2048 + (2048 + (l : ℕ)) = 4096 + (l : ℕ); omega))
    · exact (tail5_at _ _ _ _).trans (chunk_at m c t 4608 _ (by decide) ⟨504 + r, by omega⟩ l _ _ (Nat.add_assoc _ _ _) (by show 2048 + (2560 + (l : ℕ)) = 4608 + (l : ℕ); omega))
  · rw [outsAt0_B m c t h]
    frame_out
    refine tiles (carriedRows m c t.val) _ _ _ _ _ _ _ _ _ _ _ _ _ (fun r l => ?_) (fun r l => ?_) (fun r l => ?_) (fun r l => ?_) (fun r l => ?_) (fun r l => ?_) y
    · exact (tail0_at _ _ _ _).trans (chunk_at m c t 2048 _ (by decide) ⟨504 + r, by omega⟩ l _ _ (Nat.add_assoc _ _ _) (by show 2048 + (0 + (l : ℕ)) = 2048 + (l : ℕ); omega))
    · exact (tail1_at _ _ _ _).trans (chunk_at m c t 2560 _ (by decide) ⟨504 + r, by omega⟩ l _ _ (Nat.add_assoc _ _ _) (by show 2048 + (512 + (l : ℕ)) = 2560 + (l : ℕ); omega))
    · exact (tail2_at _ _ _ _).trans (chunk_at m c t 3072 _ (by decide) ⟨504 + r, by omega⟩ l _ _ (Nat.add_assoc _ _ _) (by show 2048 + (1024 + (l : ℕ)) = 3072 + (l : ℕ); omega))
    · exact (tail3_at _ _ _ _).trans (chunk_at m c t 3584 _ (by decide) ⟨504 + r, by omega⟩ l _ _ (Nat.add_assoc _ _ _) (by show 2048 + (1536 + (l : ℕ)) = 3584 + (l : ℕ); omega))
    · exact (tail4_at _ _ _ _).trans (chunk_at m c t 4096 _ (by decide) ⟨504 + r, by omega⟩ l _ _ (Nat.add_assoc _ _ _) (by show 2048 + (2048 + (l : ℕ)) = 4096 + (l : ℕ); omega))
    · exact (tail5_at _ _ _ _).trans (chunk_at m c t 4608 _ (by decide) ⟨504 + r, by omega⟩ l _ _ (Nat.add_assoc _ _ _) (by show 2048 + (2560 + (l : ℕ)) = 4608 + (l : ℕ); omega))

/-- Eight zero rows are what a sequence's first block reads ahead of it. -/
theorem ahead_first (c : Dev nD) (t : Fin cfg0.N) (h : t.val % 8 = 0) (r : Fin 8) (n : ℕ) : (0 : EReal) = stagedM m c t.val r n := by
  show _ = staged _ _ _ _ _ _
  unfold staged
  rw [if_pos ⟨h, r.isLt⟩]

/-- The rows a later block reads ahead of it are those carried past the block before. -/
theorem ahead_later (c : Dev nD) (t : Fin cfg0.N) (h : ¬ t.val % 8 = 0) (off : ℕ) (i : ∀ a, ![0, off] a + ![8, 512] a ≤ S8x3072.size a)
    (r : Fin 8) (l : Fin 512) (hp : t.val - 1 < cfg0.N) (X : FVec Ideal S8x3072 .f32) (hX : X = (outsAt0 m c (t.val - 1) hp).2.2) :
    View.ld (Val := Elt Ideal) (e' := .f32) X (Rect.unit (s := S8x3072) ![0, off] ![8, 512] i) (ix2 r l) = stagedM m c t.val r (2048 + off + l) := by
  subst hX
  refine (carried m c ⟨t.val - 1, hp⟩ _).trans ?_
  show entry _ _ _ _ _ = staged _ _ _ _ _ _
  unfold staged
  rw [if_neg (fun hh => h hh.1)]
  congr 1
  · show 512 * (t.val - 1) + 504 + (0 + 1 * (r : ℕ)) = 512 * t.val + r - 8
    omega
  · show 2048 + (off + 1 * (l : ℕ)) = 2048 + off + l
    omega

/-- The rows of the block itself, eight down. -/
theorem own_rows (c : Dev nD) (t : Fin cfg0.N) (r : ℕ) (n : ℕ) : entryM m c (512 * t.val + r) n = stagedM m c t.val (r + 8) n := by
  show entry _ _ _ _ _ = staged _ _ _ _ _ _
  unfold staged
  rw [if_neg (fun hh => by omega)]
  congr 1

/-- A gated column. -/
theorem gate_cell (c : Dev nD) (t : Fin cfg0.N) (off : ℕ) (i : ∀ a, ![0, off] a + ![1024, 512] a ≤ S1024x6656.size a) (ho : off + 512 ≤ 2048)
    (r l : Fin 512) (n : Fin 6656) (a : ℕ) (ha : a = r) (hn : (n : ℕ) = off + l) :
    silu (mm (k0_pay4 (iblk m c 0 t) (iblk m c 1 t)) (View.ld (iblk m c 2 t) (Rect.unit (s := S1024x6656) ![0, off] ![1024, 512] i)) r l)
      = cellM m c t.val a n := by
  rw [chunk_at m c t off i (by omega) r l (512 * t.val + a) n (by rw [ha]) hn]
  show _ = cell _ _ _ _ _ _ _ _
  unfold cell
  rw [dif_pos (by omega : (n : ℕ) < 2048)]

/-- A column left as it is. -/
theorem plain_cell (c : Dev nD) (t : Fin cfg0.N) (off : ℕ) (i : ∀ a, ![0, off] a + ![1024, 512] a ≤ S1024x6656.size a) (ho : off + 512 ≤ 6656)
    (ho' : 5120 ≤ off) (r l : Fin 512) (n : Fin 6656) (a : ℕ) (ha : a = r) (hn : (n : ℕ) = off + l) :
    mm (k0_pay4 (iblk m c 0 t) (iblk m c 1 t)) (View.ld (iblk m c 2 t) (Rect.unit (s := S1024x6656) ![0, off] ![1024, 512] i)) r l
      = cellM m c t.val a n := by
  rw [chunk_at m c t off i (by omega) r l (512 * t.val + a) n (by rw [ha]) hn]
  show _ = cell _ _ _ _ _ _ _ _
  unfold cell
  rw [dif_neg (by omega : ¬ (n : ℕ) < 2048), dif_neg (by omega : ¬ (n : ℕ) < 5120)]

/-- A convolved column. -/
theorem conv_cell (c : Dev nD) (t : Fin cfg0.N) (off : ℕ) (iB : ∀ a, ![0, off] a + ![1, 512] a ≤ S1x3072.size a) (ho : off + 512 ≤ 3072)
    (i0 : ∀ a, ![0, off] a + ![1, 512] a ≤ S4x3072.size a) (i1 : ∀ a, ![1, off] a + ![1, 512] a ≤ S4x3072.size a)
    (i2 : ∀ a, ![2, off] a + ![1, 512] a ≤ S4x3072.size a) (i3 : ∀ a, ![3, off] a + ![1, 512] a ≤ S4x3072.size a)
    (x : S512x512.Idx) (n : Fin 6656) (a : ℕ) (ha : a = (x 0 : ℕ)) (hn : (n : ℕ) = 2048 + off + (x 1 : ℕ)) :
    convolved (View.ld (iblk m c 4 t) (Rect.unit (s := S1x3072) ![0, off] ![1, 512] iB))
      (View.ld (iblk m c 3 t) (Rect.unit (s := S4x3072) ![0, off] ![1, 512] i0)) (View.ld (iblk m c 3 t) (Rect.unit (s := S4x3072) ![1, off] ![1, 512] i1))
      (View.ld (iblk m c 3 t) (Rect.unit (s := S4x3072) ![2, off] ![1, 512] i2)) (View.ld (iblk m c 3 t) (Rect.unit (s := S4x3072) ![3, off] ![1, 512] i3)) x
      (stagedM m c t.val ((x 0 : ℕ) + 5) (2048 + off + (x 1 : ℕ))) (stagedM m c t.val ((x 0 : ℕ) + 6) (2048 + off + (x 1 : ℕ)))
      (stagedM m c t.val ((x 0 : ℕ) + 7) (2048 + off + (x 1 : ℕ))) (stagedM m c t.val ((x 0 : ℕ) + 8) (2048 + off + (x 1 : ℕ)))
      = cellM m c t.val a n := by
  have x1 : (x 1 : ℕ) < 512 := (x 1).isLt
  have e : (⟨off + (x 1 : ℕ), by omega⟩ : Fin 3072) = ⟨(n : ℕ) - 2048, by omega⟩ := Fin.ext (by show off + (x 1 : ℕ) = (n : ℕ) - 2048; omega)
  have eB := bias_at m c t off iB ho (x 1)
  have e0 := tap_at m c t 0 off i0 ho (x 1)
  have e1 := tap_at m c t 1 off i1 ho (x 1)
  have e2 := tap_at m c t 2 off i2 ho (x 1)
  have e3 := tap_at m c t 3 off i3 ho (x 1)
  rw [e] at eB e0 e1 e2 e3
  show silu (taps _ _ _ _ _ _ _ _ _) = cell _ _ _ _ _ _ _ _
  unfold cell
  rw [dif_neg (by omega : ¬ (n : ℕ) < 2048), dif_pos (by omega : (n : ℕ) < 5120)]
  subst ha
  rw [← hn]
  exact congrArg silu (by
    unfold taps
    exact congrArg₂ (· + ·) (congrArg₂ (· + ·) (congrArg₂ (· + ·) (congrArg₂ (· + ·) eB (congrArg _ e0)) (congrArg _ e1)) (congrArg _ e2)) (congrArg _ e3))

/-- A point of a block by its row and column. -/
theorem ix_eta (x : S512x512.Idx) : x = ix2 (x 0) (x 1) := by blk_ext

/-- A block's stored entry is the layer's, in a sequence's first block. -/
theorem out_A (c : Dev nD) (t : Fin cfg0.N) (h : t.val % 8 = 0) (y : S512x6656.Idx) :
    (outsAt0 m c t.val t.isLt).1 y = cellM m c t.val (y 0) (y 1) := by
  rw [outsAt0_A m c t h]
  frame_out
  canon_tiles x hx
  · exact (congrArg _ (ix_eta x)).trans ((plain2_at _ _ _ _).trans (plain_cell m c t 6144 _ (by decide) (by decide) (x 0) (x 1) _ _ (by omega) (by omega)))
  · exact (congrArg _ (ix_eta x)).trans ((plain1_at _ _ _ _).trans (plain_cell m c t 5632 _ (by decide) (by decide) (x 0) (x 1) _ _ (by omega) (by omega)))
  · exact (congrArg _ (ix_eta x)).trans ((plain0_at _ _ _ _).trans (plain_cell m c t 5120 _ (by decide) (by decide) (x 0) (x 1) _ _ (by omega) (by omega)))
  · refine (conv5_at _ _ _ _ _ _ _ _ _ x _ _ _ _
      (pad_at _ _ 5 _ _ (by decide) (fun r l => stagedM m c t.val r (2048 + 2560 + (l : ℕ))) ?hT ?hY _ _ _ _ _ _ _ _ _ _ _ _ _ _)
      (pad_at _ _ 6 _ _ (by decide) (fun r l => stagedM m c t.val r (2048 + 2560 + (l : ℕ))) ?hT ?hY _ _ _ _ _ _ _ _ _ _ _ _ _ _)
      (pad_at _ _ 7 _ _ (by decide) (fun r l => stagedM m c t.val r (2048 + 2560 + (l : ℕ))) ?hT ?hY _ _ _ _ _ _ _ _ _ _ _ _ _ _)
      (pad_at _ _ 8 _ _ (by decide) (fun r l => stagedM m c t.val r (2048 + 2560 + (l : ℕ))) ?hT ?hY _ _ _ _ _ _ _ _ _ _ _ _ _ _)).trans ?_
    case hT =>
      intro r l
      rw [head5_at]
      refine Eq.trans (congrFun (?_ : _ = fun _ => (0 : EReal)) (ix2 r l)) (ahead_first m c t h r _)
      refine skip_at _ _ _ (by decide) _ _ _ _ _ ?_
      refine skip_at _ _ _ (by decide) _ _ _ _ _ ?_
      refine skip_at _ _ _ (by decide) _ _ _ _ _ ?_
      refine skip_at _ _ _ (by decide) _ _ _ _ _ ?_
      refine skip_at _ _ _ (by decide) _ _ _ _ _ ?_
      exact zero_at _ _ _ (fun _ => rfl) _ _
    case hY =>
      intro r l
      exact (rows5_at _ _ _ _).trans ((chunk_at m c t 4608 _ (by decide) r l _ (2048 + 2560 + (l : ℕ)) rfl (by omega)).trans (own_rows m c t r _))
    exact conv_cell m c t 2560 _ (by decide) _ _ _ _ x _ _ (by omega) (by omega)
  · refine (conv4_at _ _ _ _ _ _ _ _ _ x _ _ _ _
      (pad_at _ _ 5 _ _ (by decide) (fun r l => stagedM m c t.val r (2048 + 2048 + (l : ℕ))) ?hT ?hY _ _ _ _ _ _ _ _ _ _ _ _ _ _)
      (pad_at _ _ 6 _ _ (by decide) (fun r l => stagedM m c t.val r (2048 + 2048 + (l : ℕ))) ?hT ?hY _ _ _ _ _ _ _ _ _ _ _ _ _ _)
      (pad_at _ _ 7 _ _ (by decide) (fun r l => stagedM m c t.val r (2048 + 2048 + (l : ℕ))) ?hT ?hY _ _ _ _ _ _ _ _ _ _ _ _ _ _)
      (pad_at _ _ 8 _ _ (by decide) (fun r l => stagedM m c t.val r (2048 + 2048 + (l : ℕ))) ?hT ?hY _ _ _ _ _ _ _ _ _ _ _ _ _ _)).trans ?_
    case hT =>
      intro r l
      rw [head4_at]
      refine Eq.trans (congrFun (?_ : _ = fun _ => (0 : EReal)) (ix2 r l)) (ahead_first m c t h r _)
      refine skip_at _ _ _ (by decide) _ _ _ _ _ ?_
      refine skip_at _ _ _ (by decide) _ _ _ _ _ ?_
      refine skip_at _ _ _ (by decide) _ _ _ _ _ ?_
      refine skip_at _ _ _ (by decide) _ _ _ _ _ ?_
      exact zero_at _ _ _ (fun _ => rfl) _ _
    case hY =>
      intro r l
      exact (rows4_at _ _ _ _).trans ((chunk_at m c t 4096 _ (by decide) r l _ (2048 + 2048 + (l : ℕ)) rfl (by omega)).trans (own_rows m c t r _))
    exact conv_cell m c t 2048 _ (by decide) _ _ _ _ x _ _ (by omega) (by omega)
  · refine (conv3_at _ _ _ _ _ _ _ _ _ x _ _ _ _
      (pad_at _ _ 5 _ _ (by decide) (fun r l => stagedM m c t.val r (2048 + 1536 + (l : ℕ))) ?hT ?hY _ _ _ _ _ _ _ _ _ _ _ _ _ _)
      (pad_at _ _ 6 _ _ (by decide) (fun r l => stagedM m c t.val r (2048 + 1536 + (l : ℕ))) ?hT ?hY _ _ _ _ _ _ _ _ _ _ _ _ _ _)
      (pad_at _ _ 7 _ _ (by decide) (fun r l => stagedM m c t.val r (2048 + 1536 + (l : ℕ))) ?hT ?hY _ _ _ _ _ _ _ _ _ _ _ _ _ _)
      (pad_at _ _ 8 _ _ (by decide) (fun r l => stagedM m c t.val r (2048 + 1536 + (l : ℕ))) ?hT ?hY _ _ _ _ _ _ _ _ _ _ _ _ _ _)).trans ?_
    case hT =>
      intro r l
      rw [head3_at]
      refine Eq.trans (congrFun (?_ : _ = fun _ => (0 : EReal)) (ix2 r l)) (ahead_first m c t h r _)
      refine skip_at _ _ _ (by decide) _ _ _ _ _ ?_
      refine skip_at _ _ _ (by decide) _ _ _ _ _ ?_
      refine skip_at _ _ _ (by decide) _ _ _ _ _ ?_
      exact zero_at _ _ _ (fun _ => rfl) _ _
    case hY =>
      intro r l
      exact (rows3_at _ _ _ _).trans ((chunk_at m c t 3584 _ (by decide) r l _ (2048 + 1536 + (l : ℕ)) rfl (by omega)).trans (own_rows m c t r _))
    exact conv_cell m c t 1536 _ (by decide) _ _ _ _ x _ _ (by omega) (by omega)
  · refine (conv2_at _ _ _ _ _ _ _ _ _ x _ _ _ _
      (pad_at _ _ 5 _ _ (by decide) (fun r l => stagedM m c t.val r (2048 + 1024 + (l : ℕ))) ?hT ?hY _ _ _ _ _ _ _ _ _ _ _ _ _ _)
      (pad_at _ _ 6 _ _ (by decide) (fun r l => stagedM m c t.val r (2048 + 1024 + (l : ℕ))) ?hT ?hY _ _ _ _ _ _ _ _ _ _ _ _ _ _)
      (pad_at _ _ 7 _ _ (by decide) (fun r l => stagedM m c t.val r (2048 + 1024 + (l : ℕ))) ?hT ?hY _ _ _ _ _ _ _ _ _ _ _ _ _ _)
      (pad_at _ _ 8 _ _ (by decide) (fun r l => stagedM m c t.val r (2048 + 1024 + (l : ℕ))) ?hT ?hY _ _ _ _ _ _ _ _ _ _ _ _ _ _)).trans ?_
    case hT =>
      intro r l
      rw [head2_at]
      refine Eq.trans (congrFun (?_ : _ = fun _ => (0 : EReal)) (ix2 r l)) (ahead_first m c t h r _)
      refine skip_at _ _ _ (by decide) _ _ _ _ _ ?_
      refine skip_at _ _ _ (by decide) _ _ _ _ _ ?_
      exact zero_at _ _ _ (fun _ => rfl) _ _
    case hY =>
      intro r l
      exact (rows2_at _ _ _ _).trans ((chunk_at m c t 3072 _ (by decide) r l _ (2048 + 1024 + (l : ℕ)) rfl (by omega)).trans (own_rows m c t r _))
    exact conv_cell m c t 1024 _ (by decide) _ _ _ _ x _ _ (by omega) (by omega)
  · refine (conv1_at _ _ _ _ _ _ _ _ _ x _ _ _ _
      (pad_at _ _ 5 _ _ (by decide) (fun r l => stagedM m c t.val r (2048 + 512 + (l : ℕ))) ?hT ?hY _ _ _ _ _ _ _ _ _ _ _ _ _ _)
      (pad_at _ _ 6 _ _ (by decide) (fun r l => stagedM m c t.val r (2048 + 512 + (l : ℕ))) ?hT ?hY _ _ _ _ _ _ _ _ _ _ _ _ _ _)
      (pad_at _ _ 7 _ _ (by decide) (fun r l => stagedM m c t.val r (2048 + 512 + (l : ℕ))) ?hT ?hY _ _ _ _ _ _ _ _ _ _ _ _ _ _)
      (pad_at _ _ 8 _ _ (by decide) (fun r l => stagedM m c t.val r (2048 + 512 + (l : ℕ))) ?hT ?hY _ _ _ _ _ _ _ _ _ _ _ _ _ _)).trans ?_
    case hT =>
      intro r l
      rw [head1_at]
      refine Eq.trans (congrFun (?_ : _ = fun _ => (0 : EReal)) (ix2 r l)) (ahead_first m c t h r _)
      refine skip_at _ _ _ (by decide) _ _ _ _ _ ?_
      exact zero_at _ _ _ (fun _ => rfl) _ _
    case hY =>
      intro r l
      exact (rows1_at _ _ _ _).trans ((chunk_at m c t 2560 _ (by decide) r l _ (2048 + 512 + (l : ℕ)) rfl (by omega)).trans (own_rows m c t r _))
    exact conv_cell m c t 512 _ (by decide) _ _ _ _ x _ _ (by omega) (by omega)
  · refine (conv0_at _ _ _ _ _ _ _ _ _ x _ _ _ _
      (pad_at _ _ 5 _ _ (by decide) (fun r l => stagedM m c t.val r (2048 + 0 + (l : ℕ))) ?hT ?hY _ _ _ _ _ _ _ _ _ _ _ _ _ _)
      (pad_at _ _ 6 _ _ (by decide) (fun r l => stagedM m c t.val r (2048 + 0 + (l : ℕ))) ?hT ?hY _ _ _ _ _ _ _ _ _ _ _ _ _ _)
      (pad_at _ _ 7 _ _ (by decide) (fun r l => stagedM m c t.val r (2048 + 0 + (l : ℕ))) ?hT ?hY _ _ _ _ _ _ _ _ _ _ _ _ _ _)
      (pad_at _ _ 8 _ _ (by decide) (fun r l => stagedM m c t.val r (2048 + 0 + (l : ℕ))) ?hT ?hY _ _ _ _ _ _ _ _ _ _ _ _ _ _)).trans ?_
    case hT =>
      intro r l
      rw [head0_at]
      refine Eq.trans (congrFun (?_ : _ = fun _ => (0 : EReal)) (ix2 r l)) (ahead_first m c t h r _)
      exact zero_at _ _ _ (fun _ => rfl) _ _
    case hY =>
      intro r l
      exact (rows0_at _ _ _ _).trans ((chunk_at m c t 2048 _ (by decide) r l _ (2048 + 0 + (l : ℕ)) rfl (by omega)).trans (own_rows m c t r _))
    exact conv_cell m c t 0 _ (by decide) _ _ _ _ x _ _ (by omega) (by omega)
  · exact (congrArg _ (ix_eta x)).trans ((gate3_at _ _ _ _).trans (gate_cell m c t 1536 _ (by decide) (x 0) (x 1) _ _ (by omega) (by omega)))
  · exact (congrArg _ (ix_eta x)).trans ((gate2_at _ _ _ _).trans (gate_cell m c t 1024 _ (by decide) (x 0) (x 1) _ _ (by omega) (by omega)))
  · exact (congrArg _ (ix_eta x)).trans ((gate1_at _ _ _ _).trans (gate_cell m c t 512 _ (by decide) (x 0) (x 1) _ _ (by omega) (by omega)))
  · exact (congrArg _ (ix_eta x)).trans ((gate0_at (w := _) (r := x 0) (l := x 1) (a := _) (g := _)).trans (gate_cell m c t 0 _ (by decide) (x 0) (x 1) _ _ (by omega) (by omega)))

/-- A block's stored entry is the layer's, in a later block. -/
theorem out_B (c : Dev nD) (t : Fin cfg0.N) (h : ¬ t.val % 8 = 0) (y : S512x6656.Idx) :
    (outsAt0 m c t.val t.isLt).1 y = cellM m c t.val (y 0) (y 1) := by
  rw [outsAt0_B m c t h]
  frame_out
  canon_tiles x hx
  · exact (congrArg _ (ix_eta x)).trans ((plain2_at _ _ _ _).trans (plain_cell m c t 6144 _ (by decide) (by decide) (x 0) (x 1) _ _ (by omega) (by omega)))
  · exact (congrArg _ (ix_eta x)).trans ((plain1_at _ _ _ _).trans (plain_cell m c t 5632 _ (by decide) (by decide) (x 0) (x 1) _ _ (by omega) (by omega)))
  · exact (congrArg _ (ix_eta x)).trans ((plain0_at _ _ _ _).trans (plain_cell m c t 5120 _ (by decide) (by decide) (x 0) (x 1) _ _ (by omega) (by omega)))
  · refine (conv5_at _ _ _ _ _ _ _ _ _ x _ _ _ _
      (pad_at _ _ 5 _ _ (by decide) (fun r l => stagedM m c t.val r (2048 + 2560 + (l : ℕ))) ?hT ?hY _ _ _ _ _ _ _ _ _ _ _ _ _ _)
      (pad_at _ _ 6 _ _ (by decide) (fun r l => stagedM m c t.val r (2048 + 2560 + (l : ℕ))) ?hT ?hY _ _ _ _ _ _ _ _ _ _ _ _ _ _)
      (pad_at _ _ 7 _ _ (by decide) (fun r l => stagedM m c t.val r (2048 + 2560 + (l : ℕ))) ?hT ?hY _ _ _ _ _ _ _ _ _ _ _ _ _ _)
      (pad_at _ _ 8 _ _ (by decide) (fun r l => stagedM m c t.val r (2048 + 2560 + (l : ℕ))) ?hT ?hY _ _ _ _ _ _ _ _ _ _ _ _ _ _)).trans ?_
    case hT =>
      intro r l
      rw [head5_at]
      exact ahead_later m c t h 2560 _ r l _ _ (Memref.IsWhole.read_unread _ _)
    case hY =>
      intro r l
      exact (rows5_at _ _ _ _).trans ((chunk_at m c t 4608 _ (by decide) r l _ (2048 + 2560 + (l : ℕ)) rfl (by omega)).trans (own_rows m c t r _))
    exact conv_cell m c t 2560 _ (by decide) _ _ _ _ x _ _ (by omega) (by omega)
  · refine (conv4_at _ _ _ _ _ _ _ _ _ x _ _ _ _
      (pad_at _ _ 5 _ _ (by decide) (fun r l => stagedM m c t.val r (2048 + 2048 + (l : ℕ))) ?hT ?hY _ _ _ _ _ _ _ _ _ _ _ _ _ _)
      (pad_at _ _ 6 _ _ (by decide) (fun r l => stagedM m c t.val r (2048 + 2048 + (l : ℕ))) ?hT ?hY _ _ _ _ _ _ _ _ _ _ _ _ _ _)
      (pad_at _ _ 7 _ _ (by decide) (fun r l => stagedM m c t.val r (2048 + 2048 + (l : ℕ))) ?hT ?hY _ _ _ _ _ _ _ _ _ _ _ _ _ _)
      (pad_at _ _ 8 _ _ (by decide) (fun r l => stagedM m c t.val r (2048 + 2048 + (l : ℕ))) ?hT ?hY _ _ _ _ _ _ _ _ _ _ _ _ _ _)).trans ?_
    case hT =>
      intro r l
      rw [head4_at]
      exact ahead_later m c t h 2048 _ r l _ _ (Memref.IsWhole.read_unread _ _)
    case hY =>
      intro r l
      exact (rows4_at _ _ _ _).trans ((chunk_at m c t 4096 _ (by decide) r l _ (2048 + 2048 + (l : ℕ)) rfl (by omega)).trans (own_rows m c t r _))
    exact conv_cell m c t 2048 _ (by decide) _ _ _ _ x _ _ (by omega) (by omega)
  · refine (conv3_at _ _ _ _ _ _ _ _ _ x _ _ _ _
      (pad_at _ _ 5 _ _ (by decide) (fun r l => stagedM m c t.val r (2048 + 1536 + (l : ℕ))) ?hT ?hY _ _ _ _ _ _ _ _ _ _ _ _ _ _)
      (pad_at _ _ 6 _ _ (by decide) (fun r l => stagedM m c t.val r (2048 + 1536 + (l : ℕ))) ?hT ?hY _ _ _ _ _ _ _ _ _ _ _ _ _ _)
      (pad_at _ _ 7 _ _ (by decide) (fun r l => stagedM m c t.val r (2048 + 1536 + (l : ℕ))) ?hT ?hY _ _ _ _ _ _ _ _ _ _ _ _ _ _)
      (pad_at _ _ 8 _ _ (by decide) (fun r l => stagedM m c t.val r (2048 + 1536 + (l : ℕ))) ?hT ?hY _ _ _ _ _ _ _ _ _ _ _ _ _ _)).trans ?_
    case hT =>
      intro r l
      rw [head3_at]
      exact ahead_later m c t h 1536 _ r l _ _ (Memref.IsWhole.read_unread _ _)
    case hY =>
      intro r l
      exact (rows3_at _ _ _ _).trans ((chunk_at m c t 3584 _ (by decide) r l _ (2048 + 1536 + (l : ℕ)) rfl (by omega)).trans (own_rows m c t r _))
    exact conv_cell m c t 1536 _ (by decide) _ _ _ _ x _ _ (by omega) (by omega)
  · refine (conv2_at _ _ _ _ _ _ _ _ _ x _ _ _ _
      (pad_at _ _ 5 _ _ (by decide) (fun r l => stagedM m c t.val r (2048 + 1024 + (l : ℕ))) ?hT ?hY _ _ _ _ _ _ _ _ _ _ _ _ _ _)
      (pad_at _ _ 6 _ _ (by decide) (fun r l => stagedM m c t.val r (2048 + 1024 + (l : ℕ))) ?hT ?hY _ _ _ _ _ _ _ _ _ _ _ _ _ _)
      (pad_at _ _ 7 _ _ (by decide) (fun r l => stagedM m c t.val r (2048 + 1024 + (l : ℕ))) ?hT ?hY _ _ _ _ _ _ _ _ _ _ _ _ _ _)
      (pad_at _ _ 8 _ _ (by decide) (fun r l => stagedM m c t.val r (2048 + 1024 + (l : ℕ))) ?hT ?hY _ _ _ _ _ _ _ _ _ _ _ _ _ _)).trans ?_
    case hT =>
      intro r l
      rw [head2_at]
      exact ahead_later m c t h 1024 _ r l _ _ (Memref.IsWhole.read_unread _ _)
    case hY =>
      intro r l
      exact (rows2_at _ _ _ _).trans ((chunk_at m c t 3072 _ (by decide) r l _ (2048 + 1024 + (l : ℕ)) rfl (by omega)).trans (own_rows m c t r _))
    exact conv_cell m c t 1024 _ (by decide) _ _ _ _ x _ _ (by omega) (by omega)
  · refine (conv1_at _ _ _ _ _ _ _ _ _ x _ _ _ _
      (pad_at _ _ 5 _ _ (by decide) (fun r l => stagedM m c t.val r (2048 + 512 + (l : ℕ))) ?hT ?hY _ _ _ _ _ _ _ _ _ _ _ _ _ _)
      (pad_at _ _ 6 _ _ (by decide) (fun r l => stagedM m c t.val r (2048 + 512 + (l : ℕ))) ?hT ?hY _ _ _ _ _ _ _ _ _ _ _ _ _ _)
      (pad_at _ _ 7 _ _ (by decide) (fun r l => stagedM m c t.val r (2048 + 512 + (l : ℕ))) ?hT ?hY _ _ _ _ _ _ _ _ _ _ _ _ _ _)
      (pad_at _ _ 8 _ _ (by decide) (fun r l => stagedM m c t.val r (2048 + 512 + (l : ℕ))) ?hT ?hY _ _ _ _ _ _ _ _ _ _ _ _ _ _)).trans ?_
    case hT =>
      intro r l
      rw [head1_at]
      exact ahead_later m c t h 512 _ r l _ _ (Memref.IsWhole.read_unread _ _)
    case hY =>
      intro r l
      exact (rows1_at _ _ _ _).trans ((chunk_at m c t 2560 _ (by decide) r l _ (2048 + 512 + (l : ℕ)) rfl (by omega)).trans (own_rows m c t r _))
    exact conv_cell m c t 512 _ (by decide) _ _ _ _ x _ _ (by omega) (by omega)
  · refine (conv0_at _ _ _ _ _ _ _ _ _ x _ _ _ _
      (pad_at _ _ 5 _ _ (by decide) (fun r l => stagedM m c t.val r (2048 + 0 + (l : ℕ))) ?hT ?hY _ _ _ _ _ _ _ _ _ _ _ _ _ _)
      (pad_at _ _ 6 _ _ (by decide) (fun r l => stagedM m c t.val r (2048 + 0 + (l : ℕ))) ?hT ?hY _ _ _ _ _ _ _ _ _ _ _ _ _ _)
      (pad_at _ _ 7 _ _ (by decide) (fun r l => stagedM m c t.val r (2048 + 0 + (l : ℕ))) ?hT ?hY _ _ _ _ _ _ _ _ _ _ _ _ _ _)
      (pad_at _ _ 8 _ _ (by decide) (fun r l => stagedM m c t.val r (2048 + 0 + (l : ℕ))) ?hT ?hY _ _ _ _ _ _ _ _ _ _ _ _ _ _)).trans ?_
    case hT =>
      intro r l
      rw [head0_at]
      exact ahead_later m c t h 0 _ r l _ _ (Memref.IsWhole.read_unread _ _)
    case hY =>
      intro r l
      exact (rows0_at _ _ _ _).trans ((chunk_at m c t 2048 _ (by decide) r l _ (2048 + 0 + (l : ℕ)) rfl (by omega)).trans (own_rows m c t r _))
    exact conv_cell m c t 0 _ (by decide) _ _ _ _ x _ _ (by omega) (by omega)
  · exact (congrArg _ (ix_eta x)).trans ((gate3_at _ _ _ _).trans (gate_cell m c t 1536 _ (by decide) (x 0) (x 1) _ _ (by omega) (by omega)))
  · exact (congrArg _ (ix_eta x)).trans ((gate2_at _ _ _ _).trans (gate_cell m c t 1024 _ (by decide) (x 0) (x 1) _ _ (by omega) (by omega)))
  · exact (congrArg _ (ix_eta x)).trans ((gate1_at _ _ _ _).trans (gate_cell m c t 512 _ (by decide) (x 0) (x 1) _ _ (by omega) (by omega)))
  · exact (congrArg _ (ix_eta x)).trans ((gate0_at (w := _) (r := x 0) (l := x 1) (a := _) (g := _)).trans (gate_cell m c t 0 _ (by decide) (x 0) (x 1) _ _ (by omega) (by omega)))

/-- A block's stored entry is the layer's. -/
theorem stored (c : Dev nD) (t : Fin cfg0.N) (y : S512x6656.Idx) : (outsAt0 m c t.val t.isLt).1 y = cellM m c t.val (y 0) (y 1) := by
  by_cases h : t.val % 8 = 0
  · exact out_A m c t h y
  · exact out_B m c t h y

/-- The carried rows under a leading axis of one. -/
theorem last_at (u : FVec Ideal S8x3072 .f32) (y : S1x8x3072.Idx) : (k0_pay2 u : FVec Ideal S1x8x3072 .f32) y = u (ix2 (y 1) (y 2)) := by
  pointwise [k0_pay2]

/-- The rows stored for a sequence by its last block. -/
theorem tail_B (c : Dev nD) (t : Fin cfg0.N) (h : ¬ t.val % 8 = 0) (y : S1x8x3072.Idx) :
    (outsAt0 m c t.val t.isLt).2.1 y = carriedRows m c t.val (ix2 (y 1) (y 2)) := by
  have e := carried m c t (ix2 (y 1) (y 2))
  rw [outsAt0_B m c t h] at e ⊢
  refine Eq.trans ?_ e
  frame_out
  refine (last_at _ y).trans ((congrFun (View.readCov_eq_canon' _ _ _) _).trans (congrArg _ (funext fun a => Fin.ext ?_)))
  match a with
  | 0 => show 0 + 1 * (y 1 : ℕ) = y 1; omega
  | 1 => show 0 + 1 * (y 2 : ℕ) = y 2; omega

/-- The array of the sequences' last rows after the run. -/
theorem final6 (c : Dev nD) (G : FVec Ideal S8x8x3072 .f32)
    (hG : ∀ (i : Fin 8) (r : Fin 8) (n : Fin 3072), G (ix3 i r n) = entryM m c (4096 * i + 4088 + r) (2048 + n)) :
    (dats m 0 c).arrAt 6 cfg0.N = G := by
  refine (dats m 0 c).arrAt_eq_of_covers 6 _ (by decide) fun t hf y => ?_
  have hm : t.val % 8 = 7 := (flush0_6 t).mp hf
  have ht := t_lt t
  blk_simp
  rw [after0_6]
  refine (tail_B m c t (by omega) y).trans (Eq.trans ?_ ((hG ⟨t.val / 8, by omega⟩ (y 1) (y 2)).symm.trans (congrArg G ?_)))
  · show entryM m c (512 * t.val + 504 + (y 1 : ℕ)) _ = entryM m c (4096 * (t.val / 8) + 4088 + (y 1 : ℕ)) _
    congr 1
    omega
  · blk_ext [idx t]

/-- The projection's array after the run. -/
theorem final5 (c : Dev nD) (G : FVec Ideal S32768x6656 .f32)
    (hG : ∀ (t : Fin 64) (a : Fin 512) (j : S32768x6656.Idx), (j 0 : ℕ) = 512 * t + a → G j = cellM m c t a (j 1)) :
    (dats m 0 c).arrAt 5 cfg0.N = G := by
  refine (dats m 0 c).arrAt_eq_of_covers 5 _ (by decide +kernel) fun t _ y => ?_
  blk_simp
  rw [after0_5]
  refine (stored m c t y).trans ?_
  have ht := t_lt t
  have e : (win0_5.blk t).view.emb y = ix2 (⟨512 * t.val + (y 0 : ℕ), by have : (y 0 : ℕ) < 512 := (y 0).isLt; omega⟩ : Fin 32768) (y 1) := by blk_ext [idx t]
  rw [e]
  exact (hG ⟨t.val, ht⟩ (y 0) (ix2 (⟨512 * t.val + (y 0 : ℕ), by have : (y 0 : ℕ) < 512 := (y 0).isLt; omega⟩ : Fin 32768) (y 1)) rfl).symm

/-! ## The reference -/

section
variable (x : FVec Ideal S8x4096x1024 .f32) (g : FVec Ideal S1024 .f32) (w : FVec Ideal S1024x6432 .f32) (cw : FVec Ideal S4x3072 .f32)
  (cb : FVec Ideal S3072 .f32)

/-- The reference's projection, before the convolution and the gates. -/
def product : FVec Ideal Cert.Reference5Ideal.S8x4096x6432 .f32 :=
  Host.dotGeneral Cert.Reference5Ideal.dot_S8x4096x1024_S1024x6432_S8x4096x6432_2_0_01_1_n_n none (normed x g) w

/-- The reference's gated columns, before the gate. -/
def gateIn : FVec Ideal Cert.Reference5Ideal.S8x4096x2048 .f32 :=
  extractStridedSlice Cert.Reference5Ideal.S8x4096x2048 ![0, 0, 1280] (product x g w) Cert.Reference5Ideal.Gen.slices_S8x4096x6432_S8x4096x2048_0_0_1280

/-- The reference's convolved columns behind three rows of zeros. -/
def padded : FVec Ideal Cert.Reference5Ideal.S8x4099x3072 .f32 :=
  concatenate Cert.Reference5Ideal.S8x4099x3072 1 [⟨Cert.Reference5Ideal.S8x3x3072, broadcastInDim Cert.Reference5Ideal.S8x3x3072 ![] Cert.Reference5Ideal.Gen.bcast_S_S8x3x3072 (constant Cert.Reference5Ideal.S_ .f32 0x00000000#32)⟩,
    ⟨Cert.Reference5Ideal.S8x4096x3072, extractStridedSlice Cert.Reference5Ideal.S8x4096x3072 ![0, 0, 3328] (product x g w) Cert.Reference5Ideal.Gen.slices_S8x4096x6432_S8x4096x3072_0_0_3328⟩]
    Cert.Reference5Ideal.Gen.concatenates_S8x3x3072_S8x4096x3072_S8x4099x3072_d1

/-- A tap, over all rows. -/
abbrev tapRow (q : FVec Ideal Cert.Reference5Ideal.S1x3072 .f32) : FVec Ideal Cert.Reference5Ideal.S8x4096x3072 .f32 :=
  broadcastInDim Cert.Reference5Ideal.S8x4096x3072 ![0, 1, 2] Cert.Reference5Ideal.Gen.bcast_S1x1x3072_S8x4096x3072_0_1_2
    (broadcastInDim Cert.Reference5Ideal.S1x1x3072 ![2] Cert.Reference5Ideal.Gen.bcast_S3072_S1x1x3072_2 (shapeCast _ q Cert.Reference5Ideal.Gen.shapeCasts_S1x3072_S3072))

/-- The reference's convolution of padded columns. -/
def convOf (p : FVec Ideal Cert.Reference5Ideal.S8x4099x3072 .f32) : FVec Ideal Cert.Reference5Ideal.S8x4096x3072 .f32 :=
  addf (addf (addf (addf (broadcastInDim Cert.Reference5Ideal.S8x4096x3072 ![0, 1, 2] Cert.Reference5Ideal.Gen.bcast_S1x1x3072_S8x4096x3072_0_1_2 (broadcastInDim Cert.Reference5Ideal.S1x1x3072 ![2] Cert.Reference5Ideal.Gen.bcast_S3072_S1x1x3072_2 cb))
    (mulf (extractStridedSlice Cert.Reference5Ideal.S8x4096x3072 ![0, 0, 0] p Cert.Reference5Ideal.Gen.slices_S8x4099x3072_S8x4096x3072_0_0_0)
      (tapRow (extractStridedSlice Cert.Reference5Ideal.S1x3072 ![0, 0] cw Cert.Reference5Ideal.Gen.slices_S4x3072_S1x3072_0_0))))
    (mulf (extractStridedSlice Cert.Reference5Ideal.S8x4096x3072 ![0, 1, 0] p Cert.Reference5Ideal.Gen.slices_S8x4099x3072_S8x4096x3072_0_1_0)
      (tapRow (extractStridedSlice Cert.Reference5Ideal.S1x3072 ![1, 0] cw Cert.Reference5Ideal.Gen.slices_S4x3072_S1x3072_1_0))))
    (mulf (extractStridedSlice Cert.Reference5Ideal.S8x4096x3072 ![0, 2, 0] p Cert.Reference5Ideal.Gen.slices_S8x4099x3072_S8x4096x3072_0_2_0)
      (tapRow (extractStridedSlice Cert.Reference5Ideal.S1x3072 ![2, 0] cw Cert.Reference5Ideal.Gen.slices_S4x3072_S1x3072_2_0))))
    (mulf (extractStridedSlice Cert.Reference5Ideal.S8x4096x3072 ![0, 3, 0] p Cert.Reference5Ideal.Gen.slices_S8x4099x3072_S8x4096x3072_0_3_0)
      (tapRow (extractStridedSlice Cert.Reference5Ideal.S1x3072 ![3, 0] cw Cert.Reference5Ideal.Gen.slices_S4x3072_S1x3072_3_0)))

/-- The reference's gate of the gated columns. -/
def gateA (v : FVec Ideal Cert.Reference5Ideal.S8x4096x2048 .f32) : FVec Ideal Cert.Reference5Ideal.S8x4096x2048 .f32 :=
  mulf v (Host.divf (broadcastInDim Cert.Reference5Ideal.S8x4096x2048 ![] Cert.Reference5Ideal.Gen.bcast_S_S8x4096x2048 (constant Cert.Reference5Ideal.S_ .f32 0x3F800000#32))
    (addf (broadcastInDim Cert.Reference5Ideal.S8x4096x2048 ![] Cert.Reference5Ideal.Gen.bcast_S_S8x4096x2048 (constant Cert.Reference5Ideal.S_ .f32 0x3F800000#32)) (Host.exp (Host.negf v))))

/-- The reference's gate of the convolved columns. -/
def gateB (v : FVec Ideal Cert.Reference5Ideal.S8x4096x3072 .f32) : FVec Ideal Cert.Reference5Ideal.S8x4096x3072 .f32 :=
  mulf v (Host.divf (broadcastInDim Cert.Reference5Ideal.S8x4096x3072 ![] Cert.Reference5Ideal.Gen.bcast_S_S8x4096x3072 (constant Cert.Reference5Ideal.S_ .f32 0x3F800000#32))
    (addf (broadcastInDim Cert.Reference5Ideal.S8x4096x3072 ![] Cert.Reference5Ideal.Gen.bcast_S_S8x4096x3072 (constant Cert.Reference5Ideal.S_ .f32 0x3F800000#32)) (Host.exp (Host.negf v))))

/-- The reference's first result over the pieces it joins. -/
def joined (a : FVec Ideal Cert.Reference5Ideal.S8x4096x2048 .f32) (b : FVec Ideal Cert.Reference5Ideal.S8x4096x3072 .f32) (p : FVec Ideal Cert.Reference5Ideal.S8x4096x6432 .f32) : FVec Ideal S32768x6656 .f32 :=
  shapeCast Cert.Reference5Ideal.S32768x6656 (concatenate Cert.Reference5Ideal.S8x4096x6656 2 [⟨Cert.Reference5Ideal.S8x4096x2048, a⟩, ⟨Cert.Reference5Ideal.S8x4096x3072, b⟩,
    ⟨Cert.Reference5Ideal.S8x4096x1280, extractStridedSlice Cert.Reference5Ideal.S8x4096x1280 ![0, 0, 0] p Cert.Reference5Ideal.Gen.slices_S8x4096x6432_S8x4096x1280_0_0_0⟩,
    ⟨Cert.Reference5Ideal.S8x4096x32, extractStridedSlice Cert.Reference5Ideal.S8x4096x32 ![0, 0, 6400] p Cert.Reference5Ideal.Gen.slices_S8x4096x6432_S8x4096x32_0_0_6400⟩,
    ⟨Cert.Reference5Ideal.S8x4096x224, broadcastInDim Cert.Reference5Ideal.S8x4096x224 ![] Cert.Reference5Ideal.Gen.bcast_S_S8x4096x224 (constant Cert.Reference5Ideal.S_ .f32 0x00000000#32)⟩]
    Cert.Reference5Ideal.Gen.concatenates_S8x4096x2048_S8x4096x3072_S8x4096x1280_S8x4096x32_S8x4096x224_S8x4096x6656_d2) Cert.Reference5Ideal.Gen.shapeCasts_S8x4096x6656_S32768x6656

/-- The reference's first result. -/
def refOut : FVec Ideal S32768x6656 .f32 :=
  joined (gateA (gateIn x g w)) (gateB (convOf cw cb (padded x g w))) (product x g w)

/-- The reference's second result: the last eight padded rows. -/
def refTail : FVec Ideal S8x8x3072 .f32 :=
  extractStridedSlice Cert.Reference5Ideal.S8x8x3072 ![0, 4091, 0] (padded x g w) Cert.Reference5Ideal.Gen.slices_S8x4099x3072_S8x8x3072_0_4091_0

/-- The reference's projection at an index. -/
theorem product_at (i : Fin 8) (j : Fin 4096) (n : Fin 6432) :
    product x g w (ix3 i j n) = ∑ k : Fin 1024, normed x g (ix3 i j k) * w (ix2 k n) := by pointwise [product]

/-- The gate of the gated columns at an index. -/
theorem gateA_at (v : FVec Ideal Cert.Reference5Ideal.S8x4096x2048 .f32) (j : Cert.Reference5Ideal.S8x4096x2048.Idx) : gateA v j = silu (v j) := by
  pointwise [gateA]
  simp only [silu]

/-- The gate of the convolved columns at an index. -/
theorem gateB_at (v : FVec Ideal Cert.Reference5Ideal.S8x4096x3072 .f32) (j : Cert.Reference5Ideal.S8x4096x3072.Idx) : gateB v j = silu (v j) := by
  pointwise [gateB]
  simp only [silu]

/-- The gated columns at an index. -/
theorem gateIn_at (i : Fin 8) (j : Fin 4096) (n : Fin 2048) : gateIn x g w (ix3 i j n) = product x g w (ix3 i j ⟨1280 + n, by omega⟩) := by
  pointwise [gateIn]

/-- The padded columns at an index: three rows of zeros, then the projection's. -/
theorem padded_at (i : Fin 8) (j : Fin 4099) (n : Fin 3072) :
    padded x g w (ix3 i j n) = if h : (j : ℕ) < 3 then 0 else product x g w (ix3 i ⟨j - 3, by omega⟩ ⟨3328 + n, by omega⟩) := by
  pointwise [padded]

/-- The convolution at an index. -/
theorem convOf_at (p : FVec Ideal Cert.Reference5Ideal.S8x4099x3072 .f32) (i : Fin 8) (j : Fin 4096) (n : Fin 3072) :
    convOf cw cb p (ix3 i j n) = taps (cb (ix1 n)) (p (ix3 i ⟨j, by omega⟩ n)) (cw (ix2 0 n)) (p (ix3 i ⟨1 + j, by omega⟩ n)) (cw (ix2 1 n))
      (p (ix3 i ⟨2 + j, by omega⟩ n)) (cw (ix2 2 n)) (p (ix3 i ⟨3 + j, by omega⟩ n)) (cw (ix2 3 n)) := by
  pointwise [convOf]
  simp only [taps]

/-- An entry of the reference's projection is the entry of the row and column the kernel keeps it at. -/
theorem product_entry (i : Fin 8) (j : Fin 4096) (n : Fin 6432) (R N : ℕ) (hR : R < 32768) (hN : N < 6656) (hi : (i : ℕ) = R / 4096) (hj : (j : ℕ) = R % 4096)
    (hw : ∀ k : Fin 1024, weight w (ix2 k ⟨N, hN⟩) = w (ix2 k n)) : product x g w (ix3 i j n) = entry x g w R N := by
  have h8 : R / 4096 < 8 := Nat.div_lt_of_lt_mul hR
  obtain rfl : i = ⟨R / 4096, h8⟩ := Fin.ext hi
  obtain rfl : j = ⟨R % 4096, Nat.mod_lt R (by decide)⟩ := Fin.ext hj
  rw [product_at, entry_of x g w R N ⟨hR, hN⟩]
  simp only [hw]

/-- A row the reference's convolution reads is a row the kernel's convolution reads. -/
theorem padded_staged (t a q : ℕ) (ht : t < 64) (ha : a < 512) (hq : q < 4) (N : Fin 6656) (hN : 2048 ≤ (N : ℕ)) (hN' : (N : ℕ) < 5120) (i : Fin 8) (j : Fin 4099) (n : Fin 3072)
    (hi : (i : ℕ) = (512 * t + a) / 4096) (hj : (j : ℕ) = q + (512 * t + a) % 4096) (hn : (n : ℕ) = N - 2048) :
    padded x g w (ix3 i j n) = staged x g w t (a + (5 + q)) N := by
  rw [padded_at]
  unfold staged
  by_cases h : (j : ℕ) < 3
  · rw [dif_pos h, if_pos ⟨by omega, by omega⟩]
  · rw [dif_neg h, if_neg (fun hh => by omega)]
    refine product_entry x g w _ _ _ _ _ (by omega) N.isLt (by omega) (by show (j : ℕ) - 3 = _; omega) fun k => (weight_lo w k N hN').trans (congrArg w (congrArg (ix2 k) (Fin.ext ?_)))
    show 1280 + (N : ℕ) = 3328 + (n : ℕ)
    omega

/-- The layer's result at row `a` of block `t`: the reference's joined pieces at that row. -/
theorem ref_at (t : Fin 64) (a : Fin 512) (j : S32768x6656.Idx) (hj : (j 0 : ℕ) = 512 * t + a) : refOut x g w cw cb j = cell x g w cw cb t a (j 1) := by
  have hj1 : (j 1 : ℕ) < 6656 := (j 1).isLt
  have hj0 : (j 0 : ℕ) < 32768 := (j 0).isLt
  pointwise [refOut, joined]
  unfold cell
  by_cases h1 : (j 1 : ℕ) < 2048
  · refine (dif_pos h1).trans (Eq.trans ?_ (dif_pos h1).symm)
    rw [gateA_at, gateIn_at]
    refine congrArg silu (product_entry x g w _ _ _ _ _ (by omega) hj1 (by simp only [hj]) (by simp only [hj]) fun k => weight_lo w k ⟨j 1, hj1⟩ (by show (j 1 : ℕ) < 5120; omega))
  by_cases h2 : (j 1 : ℕ) < 5120
  · refine (dif_neg h1).trans ((dif_pos (by omega)).trans (Eq.trans ?_ ((dif_neg h1).trans (dif_pos h2)).symm))
    rw [gateB_at, convOf_at]
    rw [padded_staged x g w t a 0 t.isLt a.isLt (by omega) (j 1) (by omega) h2 _ _ _ (by simp only [hj]) (by simp only [hj, zero_add]) rfl,
      padded_staged x g w t a 1 t.isLt a.isLt (by omega) (j 1) (by omega) h2 _ _ _ (by simp only [hj]) (by simp only [hj]) rfl,
      padded_staged x g w t a 2 t.isLt a.isLt (by omega) (j 1) (by omega) h2 _ _ _ (by simp only [hj]) (by simp only [hj]) rfl,
      padded_staged x g w t a 3 t.isLt a.isLt (by omega) (j 1) (by omega) h2 _ _ _ (by simp only [hj]) (by simp only [hj]) rfl]
  refine (dif_neg h1).trans ((dif_neg (by omega)).trans (Eq.trans ?_ ((dif_neg h1).trans (dif_neg h2)).symm))
  by_cases h3 : (j 1 : ℕ) < 6400
  · refine (dif_pos (by omega)).trans ?_
    refine product_entry x g w _ _ _ _ _ (by omega) hj1 (by simp only [hj]) (by simp only [hj]) fun k =>
      (weight_mid w k ⟨j 1, hj1⟩ (by show 5120 ≤ (j 1 : ℕ); omega) h3).trans (congrArg w (congrArg (ix2 k) (Fin.ext ?_)))
    show (j 1 : ℕ) - 5120 = (j 1 : ℕ) - 2048 - 3072
    omega
  refine (dif_neg (by omega)).trans ?_
  by_cases h4 : (j 1 : ℕ) < 6432
  · refine (dif_pos (by omega)).trans ?_
    refine product_entry x g w _ _ _ _ _ (by omega) hj1 (by simp only [hj]) (by simp only [hj]) fun k =>
      (weight_hi w k ⟨j 1, hj1⟩ (by show 6400 ≤ (j 1 : ℕ); omega) h4).trans (congrArg w (congrArg (ix2 k) (Fin.ext ?_)))
    show (j 1 : ℕ) = 6400 + ((j 1 : ℕ) - 2048 - 3072 - 1280)
    omega
  refine (dif_neg (by omega)).trans ?_
  rw [entry_of x g w _ _ ⟨by omega, hj1⟩]
  refine (Finset.sum_eq_zero fun k _ => ?_).symm
  rw [weight_pad w k ⟨j 1, hj1⟩ (by show 6432 ≤ (j 1 : ℕ); omega), mul_zero]

/-- The reference's second result at an index. -/
theorem refTail_at (i : Fin 8) (r : Fin 8) (n : Fin 3072) : refTail x g w (ix3 i r n) = entry x g w (4096 * i + 4088 + r) (2048 + n) := by
  pointwise [refTail]
  refine (padded_at x g w _ _ _).trans ((dif_neg (by show ¬ 4091 + (r : ℕ) < 3; omega)).trans ?_)
  refine product_entry x g w _ _ _ _ _ (by omega) (by omega) (by show (i : ℕ) = _; omega) (by show 4091 + (r : ℕ) - 3 = _; omega) fun k =>
    (weight_lo w k ⟨2048 + n, by omega⟩ (by show 2048 + (n : ℕ) < 5120; omega)).trans (congrArg w (congrArg (ix2 k) (Fin.ext ?_)))
  show 1280 + (2048 + (n : ℕ)) = 3328 + (n : ℕ)
  omega

end

/-- Layer 0's normalisation, input projection, convolution and gates compute their reference. -/
theorem evenProjection : algebraic_Kernel5Ideal_Reference5Ideal := by
  pair_intro
  · run_from Cert.Kernel5Ideal.Gen.run_main m g
  · run_from Cert.Reference5Ideal.Value.run m' g'
    · obtain ⟨h0, h1, h2, h3, h4⟩ := hagree c
      refine Eq.trans ?_ (final5 m c _ (ref_at _ _ _ _ _)).symm
      rw [← h0, ← h1, ← h2, ← h3, ← h4]
      rfl
    · exact (final6 m c _ (refTail_at _ _ _)).symm

end Cert.EvenProjection

end
-- ==== Proof.EvenOut.lean ====
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.EvenOut

open Cert.Kernel6Ideal Cert.Kernel6Ideal.Gen Idealize.ShloMosaic Idealize.ShloMosaic.TcCoe Idealize.SL.Sem
open Idealize.ShloMosaic.Pipeline (Dat)

/-- The body's result at an index: the residual's entry plus the two products' entries. -/
theorem body_at (x0 x1 : Vec Ideal S1024x1024 .f32) (x2 : Vec Ideal S1024x2048 .f32) (x3 : Vec Ideal S1024x1024 .bf16)
    (x4 : Vec Ideal S2048x1024 .bf16) (y : S1024x1024.Idx) :
    out0_5 x0 x1 x2 x3 x4 y = (show EReal from x0 y)
      + ((∑ k : Fin 1024, (show FVec Ideal S1024x1024 .f32 from x1) (ix2 (y 0) k) * (show FVec Ideal S1024x1024 .bf16 from x3) (ix2 k (y 1)))
        + ∑ k : Fin 2048, (show FVec Ideal S1024x2048 .f32 from x2) (ix2 (y 0) k) * (show FVec Ideal S2048x1024 .bf16 from x4) (ix2 k (y 1))) := by
  canon_tiles x h
  obtain rfl : y = x := by blk_ext
  open_payloads
  pointwise

/-- The reference's result: `x + concat(o_a, y_ssm) @ w_out` with the two leading axes merged. -/
def ref (x oa : FVec Ideal S8x4096x1024 .f32) (ys : FVec Ideal S8x4096x2048 .f32) (w : FVec Ideal S3072x1024 .f32) :
    FVec Ideal S32768x1024 .f32 :=
  shapeCast _ (addf x (Host.dotGeneral Cert.Reference6Ideal.dot_S8x4096x3072_S3072x1024_S8x4096x1024_2_0_01_1_n_n none
      (concatenate Cert.Reference6Ideal.S8x4096x3072 2 [⟨S8x4096x1024, oa⟩, ⟨S8x4096x2048, ys⟩]
        Cert.Reference6Ideal.Gen.concatenates_S8x4096x1024_S8x4096x2048_S8x4096x3072_d2) w))
    Cert.Reference6Ideal.Gen.shapeCasts_S8x4096x1024_S32768x1024

variable (m : (ℓ : Loc nD τ sig) → Buf (Elt Ideal) ℓ)

/-- The windows' block indices at each grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- Row `a` of point `t`'s block of the residual is row `1024 t + a` of the flattened residual. -/
theorem block0 (c : Dev nD) (t : Fin cfg0.N) (a k : Fin 1024) (j : S8x4096x1024.Idx)
    (h0 : (j 0 : ℕ) = (t.val * 1024 + a) / 4096) (h1 : (j 1 : ℕ) = (t.val * 1024 + a) % 4096) (h2 : (j 2 : ℕ) = k) :
    iblk m c 0 t (ix2 a k) = m ((c : Thread nD τ).loc main_arg0) j := by
  blk_simp [iblk]
  entry_read
  pointwise
  blk_ext [idx t]

/-- Row `a` of point `t`'s block of the attention's output is row `1024 t + a` of that output, flattened. -/
theorem block1 (c : Dev nD) (t : Fin cfg0.N) (a k : Fin 1024) (j : S8x4096x1024.Idx)
    (h0 : (j 0 : ℕ) = (t.val * 1024 + a) / 4096) (h1 : (j 1 : ℕ) = (t.val * 1024 + a) % 4096) (h2 : (j 2 : ℕ) = k) :
    iblk m c 1 t (ix2 a k) = m ((c : Thread nD τ).loc main_arg1) j := by
  blk_simp [iblk]
  entry_read
  pointwise
  blk_ext [idx t]

/-- Row `a` of point `t`'s block of the recurrence's output is row `1024 t + a` of that output, flattened. -/
theorem block2 (c : Dev nD) (t : Fin cfg0.N) (a : Fin 1024) (k : Fin 2048) (j : S8x4096x2048.Idx)
    (h0 : (j 0 : ℕ) = (t.val * 1024 + a) / 4096) (h1 : (j 1 : ℕ) = (t.val * 1024 + a) % 4096) (h2 : (j 2 : ℕ) = k) :
    iblk m c 2 t (ix2 a k) = m ((c : Thread nD τ).loc main_arg2) j := by
  blk_simp [iblk]
  entry_read
  pointwise
  blk_ext [idx t]

/-- The first weight block is the output weight's first 1024 rows. -/
theorem block3 (c : Dev nD) (t : Fin cfg0.N) (k n : Fin 1024) :
    iblk m c 3 t (ix2 k n) = m ((c : Thread nD τ).loc main_arg3) (ix2 (⟨k, by omega⟩ : Fin 3072) n) := by
  blk_simp [iblk]
  entry_read
  pointwise
  blk_ext [idx t]

/-- The second weight block is the output weight's last 2048 rows. -/
theorem block4 (c : Dev nD) (t : Fin cfg0.N) (k : Fin 2048) (n : Fin 1024) :
    iblk m c 4 t (ix2 k n) = m ((c : Thread nD τ).loc main_arg3) (ix2 (⟨1024 + k, by omega⟩ : Fin 3072) n) := by
  blk_simp [iblk]
  entry_read
  pointwise
  blk_ext [idx t]

/-- What the body leaves at block index `(a, n)` of point `t` is the reference's entry at the array index it sits at. -/
theorem point (c : Dev nD) (t : Fin cfg0.N) (a n : Fin 1024) (j : S32768x1024.Idx)
    (h0 : (j 0 : ℕ) = t.val * 1024 + a) (h1 : (j 1 : ℕ) = n) :
    out0_5 (iblk m c 0 t) (iblk m c 1 t) (iblk m c 2 t) (iblk m c 3 t) (iblk m c 4 t) (ix2 a n)
      = ref (m ((c : Thread nD τ).loc main_arg0)) (m ((c : Thread nD τ).loc main_arg1)) (m ((c : Thread nD τ).loc main_arg2))
          (m ((c : Thread nD τ).loc main_arg3)) j := by
  have hx (k : Fin 1024) := block0 m c t a k (ix3 ⟨(j 0 : ℕ) / 4096, by idx_bounds; omega⟩ ⟨(j 0 : ℕ) % 4096, by omega⟩ k)
    (by simp [h0]) (by simp [h0]) (by simp)
  have ho (k : Fin 1024) := block1 m c t a k (ix3 ⟨(j 0 : ℕ) / 4096, by idx_bounds; omega⟩ ⟨(j 0 : ℕ) % 4096, by omega⟩ k)
    (by simp [h0]) (by simp [h0]) (by simp)
  have hs (k : Fin 2048) := block2 m c t a k (ix3 ⟨(j 0 : ℕ) / 4096, by idx_bounds; omega⟩ ⟨(j 0 : ℕ) % 4096, by omega⟩ k)
    (by simp [h0]) (by simp [h0]) (by simp)
  have hn : j 1 = n := Fin.ext h1
  rw [body_at]
  pointwise
  simp only [hx, ho, hs, block3, block4]
  pointwise [ref]
  simp only [hn]

/-- The array after the run is the reference's result. -/
theorem final (c : Dev nD) : (dats m 0 c).arrAt 5 cfg0.N
    = ref (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]
  have hy : y = ix2 (y 0) (y 1) := by blk_ext
  refine Eq.trans (congrArg _ hy) (point m c t (y 0) (y 1) _ (by blk_simp [idx t]) (by blk_simp [idx t]))

end Cert.EvenOut

end
-- ==== Proof.OddOut.lean ====
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.OddOut

open Idealize.ShloMosaic Idealize.ShloMosaic.TcCoe Idealize.SL.Sem
open Idealize.ShloMosaic.Pipeline (Dat)

/-- Group `i`'s share of the merge: `exp(a i - max a)` over the sum of the three exponentials. -/
def share (a0 a1 a2 z : EReal) : EReal :=
  Ideal.div (Ideal.exp (z - max (max a0 a1) a2))
    (Ideal.exp (a0 - max (max a0 a1) a2) + Ideal.exp (a1 - max (max a0 a1) a2) + Ideal.exp (a2 - max (max a0 a1) a2))

/-- The merged value of three groups' outputs, weighted by their log-sum-exps. -/
def merge (a0 a1 a2 o0 o1 o2 : EReal) : EReal :=
  share a0 a1 a2 a0 * o0 + share a0 a1 a2 a1 * o1 + share a0 a1 a2 a2 * o2

section reference

open Cert.Reference7Ideal Cert.Reference7Ideal.Gen

/-- Three arrays stacked along a new leading axis. -/
def stack (a0 a1 a2 : FVec Ideal S8x4096x1024 .f32) : FVec Ideal S3x8x4096x1024 .f32 :=
  concatenate S3x8x4096x1024 0 [⟨S1x8x4096x1024, broadcastInDim S1x8x4096x1024 ![1, 2, 3] bcast_S8x4096x1024_S1x8x4096x1024_1_2_3 a0⟩,
    ⟨S1x8x4096x1024, broadcastInDim S1x8x4096x1024 ![1, 2, 3] bcast_S8x4096x1024_S1x8x4096x1024_1_2_3 a1⟩,
    ⟨S1x8x4096x1024, broadcastInDim S1x8x4096x1024 ![1, 2, 3] bcast_S8x4096x1024_S1x8x4096x1024_1_2_3 a2⟩]
    concatenates_S1x8x4096x1024_S1x8x4096x1024_S1x8x4096x1024_S3x8x4096x1024_d0

/-- The largest of the three along the leading axis. -/
def largest (s : FVec Ideal S3x8x4096x1024 .f32) : FVec Ideal S8x4096x1024 .f32 :=
  Host.reduce FloatOps.maximumf s (constant S_ .f32 0xFF800000#32) reducesTo_S3x8x4096x1024_S8x4096x1024_d0 h_S_

/-- The exponentials of the three, less a shift (at least minus infinity) that they share. -/
def expoFrom (s : FVec Ideal S3x8x4096x1024 .f32) (z : FVec Ideal S8x4096x1024 .f32) : FVec Ideal S3x8x4096x1024 .f32 :=
  Host.exp (subf s (broadcastInDim S3x8x4096x1024 ![0, 1, 2, 3] bcast_S1x8x4096x1024_S3x8x4096x1024_0_1_2_3
    (broadcastInDim S1x8x4096x1024 ![1, 2, 3] bcast_S8x4096x1024_S1x8x4096x1024_1_2_3
      (maximumf (broadcastInDim S8x4096x1024 ![] bcast_S_S8x4096x1024 (constant S_ .f32 0xFF800000#32)) z))))

/-- The exponentials of the three, less the largest. -/
def expo (s : FVec Ideal S3x8x4096x1024 .f32) : FVec Ideal S3x8x4096x1024 .f32 :=
  expoFrom s (largest s)

/-- The softmax along the leading axis. -/
def soft (s : FVec Ideal S3x8x4096x1024 .f32) : FVec Ideal S3x8x4096x1024 .f32 :=
  Host.divf (expo s) (broadcastInDim S3x8x4096x1024 ![0, 1, 2, 3] bcast_S1x8x4096x1024_S3x8x4096x1024_0_1_2_3
    (broadcastInDim S1x8x4096x1024 ![1, 2, 3] bcast_S8x4096x1024_S1x8x4096x1024_1_2_3
      (Host.reduceAdd (expo s) (constant S_ .f32 0x00000000#32) reducesTo_S3x8x4096x1024_S8x4096x1024_d0 h_S_)))

/-- The merged groups: the outputs summed with the softmax's weights. -/
def merged (s o : FVec Ideal S3x8x4096x1024 .f32) : FVec Ideal S8x4096x1024 .f32 :=
  Host.reduceAdd (mulf (soft s) o) (constant S_ .f32 0x00000000#32) reducesTo_S3x8x4096x1024_S8x4096x1024_d0 h_S_

/-- The reference's result: the residual plus the merged groups' projection, with the two leading axes merged. -/
def ref (x o0 o1 o2 l0 l1 l2 : FVec Ideal S8x4096x1024 .f32) (w : FVec Ideal S1024x1024 .f32) : FVec Ideal S32768x1024 .f32 :=
  shapeCast _ (addf x (Host.dotGeneral dot_S8x4096x1024_S1024x1024_S8x4096x1024_2_0_01_1_n_n none
    (merged (stack l0 l1 l2) (stack o0 o1 o2)) w)) shapeCasts_S8x4096x1024_S32768x1024

/-- The reference's result is `ref` of its arguments. -/
theorem ref_eq (m : (ℓ : Loc nD τ sig) → Buf (Elt Ideal) ℓ) (c : Dev nD) :
    Cert.Reference7Ideal.Value.res_main_v23 m c = ref (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

/-- The stack's first array. -/
theorem stack_at0 (a0 a1 a2 : FVec Ideal S8x4096x1024 .f32) (b : Fin 8) (s : Fin 4096) (n : Fin 1024) :
    stack a0 a1 a2 (ix4 0 b s n) = a0 (ix3 b s n) := by
  pointwise [stack]

/-- The stack's second array. -/
theorem stack_at1 (a0 a1 a2 : FVec Ideal S8x4096x1024 .f32) (b : Fin 8) (s : Fin 4096) (n : Fin 1024) :
    stack a0 a1 a2 (ix4 1 b s n) = a1 (ix3 b s n) := by
  pointwise [stack]

/-- The stack's third array. -/
theorem stack_at2 (a0 a1 a2 : FVec Ideal S8x4096x1024 .f32) (b : Fin 8) (s : Fin 4096) (n : Fin 1024) :
    stack a0 a1 a2 (ix4 2 b s n) = a2 (ix3 b s n) := by
  pointwise [stack]

/-- The entries reduced into `(b, s, n)` are the three along the leading axis. -/
theorem fiber (b : Fin 8) (s : Fin 4096) (n : Fin 1024) (i : S3x8x4096x1024.Idx) :
    reducesTo_S3x8x4096x1024_S8x4096x1024_d0.drop i = ix3 b s n ↔ ∃ k : Fin 3, (ix4 k b s n : S3x8x4096x1024.Idx) = i := by
  constructor
  · intro e
    refine ⟨i 0, ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => exact (congrArg Fin.val (congrFun e 2)).symm
  · rintro ⟨k, rfl⟩
    funext a; apply Fin.ext
    match a with
    | ⟨0, _⟩ => rfl
    | ⟨1, _⟩ => rfl
    | ⟨2, _⟩ => rfl

/-- The largest of the three. -/
theorem largest_at (x : FVec Ideal S3x8x4096x1024 .f32) (b : Fin 8) (s : Fin 4096) (n : Fin 1024) :
    largest x (ix3 b s n) = max (max (show EReal from x (ix4 0 b s n)) (x (ix4 1 b s n))) (x (ix4 2 b s n)) := by
  unfold largest
  rw [Host.reduce_eq_fold, Finset.fold_filter_eq_fold_of_fiber _ _ (fun k : Fin 3 => (ix4 k b s n : S3x8x4096x1024.Idx))
    (fun _ _ e => congrFun e 0) (fiber b s n)]
  have hb : (constant (F := Ideal) S_ FTy.f32 0xFF800000#32) (Shape.Idx.first h_S_) = (⊥ : EReal) := by
    simp [constant, Ideal.ofBits, Ideal.ieee]
  rw [hb]
  have hu : (Finset.univ : Finset (Fin 3)) = {0, 1, 2} := by decide
  rw [hu, Finset.fold_insert (by decide), Finset.fold_insert (by decide), Finset.fold_singleton]
  show max _ (max _ (max _ (⊥ : EReal))) = _
  rw [max_bot_right, max_assoc]

/-- The word of minus infinity. -/
theorem bot_word : Ideal.ofBits FTy.f32 0xFF800000#32 = (⊥ : EReal) := by simp [Ideal.ofBits, Ideal.ieee]

/-- An exponential of the softmax, of any shift. -/
theorem expoFrom_at (x : FVec Ideal S3x8x4096x1024 .f32) (z : FVec Ideal S8x4096x1024 .f32) (k : Fin 3) (b : Fin 8)
    (s : Fin 4096) (n : Fin 1024) :
    expoFrom x z (ix4 k b s n) = Ideal.exp ((show EReal from x (ix4 k b s n)) - z (ix3 b s n)) := by
  pointwise [expoFrom]
  rw [bot_word, max_bot_left]

/-- An exponential of the softmax. -/
theorem expo_at (x : FVec Ideal S3x8x4096x1024 .f32) (k : Fin 3) (b : Fin 8) (s : Fin 4096) (n : Fin 1024) :
    expo x (ix4 k b s n) = Ideal.exp ((show EReal from x (ix4 k b s n))
      - max (max (show EReal from x (ix4 0 b s n)) (x (ix4 1 b s n))) (x (ix4 2 b s n))) := by
  unfold expo
  rw [expoFrom_at, largest_at]

/-- The reference's merge at an index. -/
theorem merged_at (l0 l1 l2 o0 o1 o2 : FVec Ideal S8x4096x1024 .f32) (b : Fin 8) (s : Fin 4096) (n : Fin 1024) :
    merged (stack l0 l1 l2) (stack o0 o1 o2) (ix3 b s n)
      = merge (l0 (ix3 b s n)) (l1 (ix3 b s n)) (l2 (ix3 b s n)) (o0 (ix3 b s n)) (o1 (ix3 b s n)) (o2 (ix3 b s n)) := by
  pointwise [merged, soft]
  simp only [expo_at, Fin.sum_univ_three, stack_at0, stack_at1, stack_at2, merge, share]

end reference

open Cert.Kernel7Ideal Cert.Kernel7Ideal.Gen

/-- The body's result at an index: the residual's entry plus the merged groups' product with the weight. -/
theorem body_at (x0 x1 x2 x3 x4 x5 x6 : Vec Ideal S512x1024 .f32) (x7 : Vec Ideal S1024x1024 .bf16) (y : S512x1024.Idx) :
    out0_8 x0 x1 x2 x3 x4 x5 x6 x7 y = (show EReal from x0 y)
      + ∑ k : Fin 1024, merge ((show FVec Ideal S512x1024 .f32 from x4) (ix2 (y 0) k)) ((show FVec Ideal S512x1024 .f32 from x5) (ix2 (y 0) k))
          ((show FVec Ideal S512x1024 .f32 from x6) (ix2 (y 0) k)) ((show FVec Ideal S512x1024 .f32 from x1) (ix2 (y 0) k))
          ((show FVec Ideal S512x1024 .f32 from x2) (ix2 (y 0) k)) ((show FVec Ideal S512x1024 .f32 from x3) (ix2 (y 0) k))
        * (show FVec Ideal S1024x1024 .bf16 from x7) (ix2 k (y 1)) := by
  canon_tiles x h
  obtain rfl : y = x := by blk_ext
  open_payloads
  pointwise [merge, share]

variable (m : (ℓ : Loc nD τ sig) → Buf (Elt Ideal) ℓ)

/-- The windows' block indices at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![t.val, 0] :=
  (by decide +kernel : ∀ t : Fin grid0.N, _)

/-- Row `a` of point `t`'s block of the residual is row `512 t + a`, flattened. -/
theorem block0 (c : Dev nD) (t : Fin cfg0.N) (a : Fin 512) (k : Fin 1024) (j : S8x4096x1024.Idx)
    (h0 : (j 0 : ℕ) = (t.val * 512 + a) / 4096) (h1 : (j 1 : ℕ) = (t.val * 512 + a) % 4096) (h2 : (j 2 : ℕ) = k) :
    iblk m c 0 t (ix2 a k) = m ((c : Thread nD τ).loc main_arg0) j := by
  blk_simp [iblk]
  entry_read
  pointwise
  blk_ext [idx t]

/-- Row `a` of point `t`'s block of the first group's output is row `512 t + a`, flattened. -/
theorem block1 (c : Dev nD) (t : Fin cfg0.N) (a : Fin 512) (k : Fin 1024) (j : S8x4096x1024.Idx)
    (h0 : (j 0 : ℕ) = (t.val * 512 + a) / 4096) (h1 : (j 1 : ℕ) = (t.val * 512 + a) % 4096) (h2 : (j 2 : ℕ) = k) :
    iblk m c 1 t (ix2 a k) = m ((c : Thread nD τ).loc main_arg1) j := by
  blk_simp [iblk]
  entry_read
  pointwise
  blk_ext [idx t]

/-- Row `a` of point `t`'s block of the second group's output is row `512 t + a`, flattened. -/
theorem block2 (c : Dev nD) (t : Fin cfg0.N) (a : Fin 512) (k : Fin 1024) (j : S8x4096x1024.Idx)
    (h0 : (j 0 : ℕ) = (t.val * 512 + a) / 4096) (h1 : (j 1 : ℕ) = (t.val * 512 + a) % 4096) (h2 : (j 2 : ℕ) = k) :
    iblk m c 2 t (ix2 a k) = m ((c : Thread nD τ).loc main_arg2) j := by
  blk_simp [iblk]
  entry_read
  pointwise
  blk_ext [idx t]

/-- Row `a` of point `t`'s block of the third group's output is row `512 t + a`, flattened. -/
theorem block3 (c : Dev nD) (t : Fin cfg0.N) (a : Fin 512) (k : Fin 1024) (j : S8x4096x1024.Idx)
    (h0 : (j 0 : ℕ) = (t.val * 512 + a) / 4096) (h1 : (j 1 : ℕ) = (t.val * 512 + a) % 4096) (h2 : (j 2 : ℕ) = k) :
    iblk m c 3 t (ix2 a k) = m ((c : Thread nD τ).loc main_arg3) j := by
  blk_simp [iblk]
  entry_read
  pointwise
  blk_ext [idx t]

/-- Row `a` of point `t`'s block of the first group's log-sum-exps is row `512 t + a`, flattened. -/
theorem block4 (c : Dev nD) (t : Fin cfg0.N) (a : Fin 512) (k : Fin 1024) (j : S8x4096x1024.Idx)
    (h0 : (j 0 : ℕ) = (t.val * 512 + a) / 4096) (h1 : (j 1 : ℕ) = (t.val * 512 + a) % 4096) (h2 : (j 2 : ℕ) = k) :
    iblk m c 4 t (ix2 a k) = m ((c : Thread nD τ).loc main_arg4) j := by
  blk_simp [iblk]
  entry_read
  pointwise
  blk_ext [idx t]

/-- Row `a` of point `t`'s block of the second group's log-sum-exps is row `512 t + a`, flattened. -/
theorem block5 (c : Dev nD) (t : Fin cfg0.N) (a : Fin 512) (k : Fin 1024) (j : S8x4096x1024.Idx)
    (h0 : (j 0 : ℕ) = (t.val * 512 + a) / 4096) (h1 : (j 1 : ℕ) = (t.val * 512 + a) % 4096) (h2 : (j 2 : ℕ) = k) :
    iblk m c 5 t (ix2 a k) = m ((c : Thread nD τ).loc main_arg5) j := by
  blk_simp [iblk]
  entry_read
  pointwise
  blk_ext [idx t]

/-- Row `a` of point `t`'s block of the third group's log-sum-exps is row `512 t + a`, flattened. -/
theorem block6 (c : Dev nD) (t : Fin cfg0.N) (a : Fin 512) (k : Fin 1024) (j : S8x4096x1024.Idx)
    (h0 : (j 0 : ℕ) = (t.val * 512 + a) / 4096) (h1 : (j 1 : ℕ) = (t.val * 512 + a) % 4096) (h2 : (j 2 : ℕ) = k) :
    iblk m c 6 t (ix2 a k) = m ((c : Thread nD τ).loc main_arg6) j := by
  blk_simp [iblk]
  entry_read
  pointwise
  blk_ext [idx t]

/-- The weight block is the whole output weight. -/
theorem block7 (c : Dev nD) (t : Fin cfg0.N) (k n : Fin 1024) :
    iblk m c 7 t (ix2 k n) = m ((c : Thread nD τ).loc main_arg7) (ix2 k n) := by
  blk_simp [iblk]
  entry_read
  pointwise
  blk_ext [idx t]

/-- What the body leaves at block index `(a, n)` of point `t` is the reference's entry at the array index it sits at. -/
theorem point (c : Dev nD) (t : Fin cfg0.N) (a : Fin 512) (n : Fin 1024) (j : S32768x1024.Idx)
    (h0 : (j 0 : ℕ) = t.val * 512 + a) (h1 : (j 1 : ℕ) = n) :
    out0_8 (iblk m c 0 t) (iblk m c 1 t) (iblk m c 2 t) (iblk m c 3 t) (iblk m c 4 t) (iblk m c 5 t) (iblk m c 6 t) (iblk m c 7 t) (ix2 a n)
      = ref (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) j := by
  have e0 (k : Fin 1024) := block0 m c t a k (ix3 ⟨(j 0 : ℕ) / 4096, by idx_bounds; omega⟩ ⟨(j 0 : ℕ) % 4096, by omega⟩ k)
    (by simp [h0]) (by simp [h0]) (by simp)
  have e1 (k : Fin 1024) := block1 m c t a k (ix3 ⟨(j 0 : ℕ) / 4096, by idx_bounds; omega⟩ ⟨(j 0 : ℕ) % 4096, by omega⟩ k)
    (by simp [h0]) (by simp [h0]) (by simp)
  have e2 (k : Fin 1024) := block2 m c t a k (ix3 ⟨(j 0 : ℕ) / 4096, by idx_bounds; omega⟩ ⟨(j 0 : ℕ) % 4096, by omega⟩ k)
    (by simp [h0]) (by simp [h0]) (by simp)
  have e3 (k : Fin 1024) := block3 m c t a k (ix3 ⟨(j 0 : ℕ) / 4096, by idx_bounds; omega⟩ ⟨(j 0 : ℕ) % 4096, by omega⟩ k)
    (by simp [h0]) (by simp [h0]) (by simp)
  have e4 (k : Fin 1024) := block4 m c t a k (ix3 ⟨(j 0 : ℕ) / 4096, by idx_bounds; omega⟩ ⟨(j 0 : ℕ) % 4096, by omega⟩ k)
    (by simp [h0]) (by simp [h0]) (by simp)
  have e5 (k : Fin 1024) := block5 m c t a k (ix3 ⟨(j 0 : ℕ) / 4096, by idx_bounds; omega⟩ ⟨(j 0 : ℕ) % 4096, by omega⟩ k)
    (by simp [h0]) (by simp [h0]) (by simp)
  have e6 (k : Fin 1024) := block6 m c t a k (ix3 ⟨(j 0 : ℕ) / 4096, by idx_bounds; omega⟩ ⟨(j 0 : ℕ) % 4096, by omega⟩ k)
    (by simp [h0]) (by simp [h0]) (by simp)
  have hn : j 1 = n := Fin.ext h1
  rw [body_at]
  pointwise
  simp only [e0, e1, e2, e3, e4, e5, e6, block7]
  pointwise [ref]
  simp only [merged_at, hn]

/-- The array after the run is the reference's result. -/
theorem final (c : Dev nD) : (dats m 0 c).arrAt 8 cfg0.N
    = ref (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  blk_simp
  rw [after0_8]
  have hy : y = ix2 (y 0) (y 1) := by blk_ext
  refine Eq.trans (congrArg _ hy) (point m c t (y 0) (y 1) _ (by blk_simp [idx t]) (by blk_simp [idx t]))

end Cert.OddOut

end
-- ==== Proof.WindowPairs.lean ====
module

public import proofs.«01_k».proof.Proof.Gen.Kernel8Ideal.Value
public import proofs.«01_k».proof.Proof.AttentionPairValues
public import Idealize.ShloMosaic.Lib.Pipeline.ValueKit
public import Idealize.ShloMosaic.Lib.Pointwise

@[expose] public section

set_option maxRecDepth 16384

noncomputable section

namespace Cert.Window

open Cert.Kernel8Ideal Cert.Kernel8Ideal.Gen Idealize.ShloMosaic Idealize.ShloMosaic.TcCoe Idealize.SL.Sem
open Cert.Attention (ofBits_bot lane_word select_lane sum_even sum_odd)

variable (K V : FVec Ideal S256x128 .f32) (q : Vec Ideal S1x128x128 .f32) (b0 b1 : Vec Ideal S1x1x128x256 .f32) (σ0 σ1 : Elt Ideal .f32)

/-- The output a step stores for one pair of heads, of the key head's keys and values held twice, the pair's query rows,
    and the two heads' bias rows and sinks: the first pair's own term. -/
def outPair : FVec Ideal S1x128x128 .f32 :=
  k0_pay24 k0_pay2 k0_pay3 V (k0_pay19 K (k0_pay13 q) (k0_pay14 q) b0 σ0) (k0_pay20 K (k0_pay13 q) (k0_pay14 q) b0 σ0 σ0) (k0_pay21 K (k0_pay13 q) (k0_pay14 q) b1) (k0_pay22 K (k0_pay13 q) (k0_pay14 q) b1 σ1) (k0_pay23 K (k0_pay13 q) (k0_pay14 q) b1 σ1) σ1

/-- The second pair stores the same function of its own operands. -/
theorem out1 : k0_pay35 k0_pay2 k0_pay3 V (k0_pay29 (k0_pay25 k0_pay2 K q) b0 σ0) (k0_pay30 (k0_pay25 k0_pay2 K q) b0 σ0 σ0) (k0_pay32 (k0_pay25 k0_pay2 K q) b1 σ1) (k0_pay33 (k0_pay25 k0_pay2 K q) b1 σ1) (k0_pay34 (k0_pay25 k0_pay2 K q) b1 σ1) σ1 = outPair K V q b0 b1 σ0 σ1 := rfl

/-- The third pair stores the same function of its own operands. -/
theorem out2 : k0_pay49 k0_pay2 k0_pay3 V (k0_pay41 (k0_pay37 k0_pay2 K q) b0 σ0) (k0_pay42 (k0_pay37 k0_pay2 K q) b0 σ0 σ0) (k0_pay46 (k0_pay36 k0_pay2 K q) b1 σ1 σ1) (k0_pay47 (k0_pay36 k0_pay2 K q) b1 σ1) k0_pay48 = outPair K V q b0 b1 σ0 σ1 := rfl

/-- The fourth pair stores the same function of its own operands. -/
theorem out3 : k0_pay63 k0_pay2 k0_pay3 V (k0_pay55 (k0_pay51 k0_pay2 K q b0) (k0_pay52 k0_pay2 K q b0) σ0 σ0) (k0_pay59 (k0_pay50 k0_pay2 K q) b1 σ1 σ1) (k0_pay60 (k0_pay50 k0_pay2 K q) (k0_pay51 k0_pay2 K q b0) (k0_pay52 k0_pay2 K q b0) σ0 b1 σ1) (k0_pay61 k0_pay3 V) k0_pay62 = outPair K V q b0 b1 σ0 σ1 := rfl

/-- The fifth pair stores the same function of its own operands. -/
theorem out4 : k0_pay74 k0_pay2 (k0_pay71 (k0_pay64 k0_pay2 K q) b1 σ1 σ1) (k0_pay72 k0_pay3 V (k0_pay64 k0_pay2 K q) (k0_pay67 k0_pay2 K q b0 σ0) b1 σ1) (k0_pay73 (k0_pay66 k0_pay2 K q b0 σ0) (k0_pay67 k0_pay2 K q b0 σ0) σ0) = outPair K V q b0 b1 σ0 σ1 := rfl

/-- The sixth pair stores the same function of its own operands. -/
theorem out5 : k0_pay82 (k0_pay81 k0_pay2 k0_pay3 V (k0_pay75 k0_pay2 K q) (k0_pay78 k0_pay2 K q b0 σ0) (k0_pay79 k0_pay2 K q b0 σ0) (k0_pay80 k0_pay2 K q b0 σ0 σ0) b1 σ1 σ1) = outPair K V q b0 b1 σ0 σ1 := rfl

/-- The seventh pair stores the same function of its own operands. -/
theorem out6 : k0_pay89 k0_pay2 k0_pay3 V (k0_pay83 k0_pay2 K q) (k0_pay87 k0_pay2 K q b0 σ0) (k0_pay88 k0_pay2 K q b0 σ0 σ0) b1 σ1 σ1 = outPair K V q b0 b1 σ0 σ1 := rfl

/-- The eighth pair stores the same function of its own operands. -/
theorem out7 : k0_pay1 (k0_pay97 k0_pay2 k0_pay3 V (k0_pay94 k0_pay2 K q b0 σ0) (k0_pay95 k0_pay2 K q b0 σ0 σ0) (k0_pay96 k0_pay2 K q) b1 σ1 σ1) = outPair K V q b0 b1 σ0 σ1 := rfl

/-! ### The keys and values -/

/-- Lane `d` of one of two heads of 64 lanes. -/
abbrev lane (t : Fin 2) (d : Fin 64) : Fin 128 := ⟨64 * t + d, by omega⟩

/-- The previous block's rows, then the block's own. -/
theorem both_at (kp k : Vec Ideal S1x128x128 .f32) (x : Fin 256) (l : Fin 128) : k0_pay4 kp k (ix2 x l) =
    if h : x.val < 128 then kp (ix3 0 ⟨x, h⟩ l) else k (ix3 0 ⟨x - 128, by omega⟩ l) := by
  pointwise [k0_pay4]

/-- The lanes below 64, of 256 rows. -/
theorem pay3_at (x : Fin 256) (l : Fin 128) : k0_pay3 (ix2 x l) = IntOp.cmpi CmpIPredicate.slt (BitVec.ofNat 32 ↑l) 64#32 := by
  pointwise [k0_pay3]

/-- The rows rotated by 64 lanes. -/
theorem rotated_at (kp k : Vec Ideal S1x128x128 .f32) (x : Fin 256) (l : Fin 128) : k0_pay6 kp k (ix2 x l) =
    k0_pay4 kp k (ix2 x ⟨(l + 128 - 64) % 128, by omega⟩) := by
  pointwise [k0_pay6]

/-- The first key head's lanes, held twice. -/
theorem first_at (kp k : Vec Ideal S1x128x128 .f32) (x : Fin 256) (t : Fin 2) (d : Fin 64) :
    k0_pay8 kp k (ix2 x ⟨64 * t + d, by omega⟩) = k0_pay4 kp k (ix2 x ⟨64 * 0 + d, by omega⟩) := by
  pointwise [k0_pay8]
  rw [pay3_at, select_lane, rotated_at]
  split
  · next h => exact congrArg (fun l => k0_pay4 kp k (ix2 x l)) (Fin.ext (by simp only [] at h; show 64 * t.val + d.val = d.val; omega))
  · next h => exact congrArg (fun l => k0_pay4 kp k (ix2 x l)) (Fin.ext (by
      simp only [] at h; show (64 * t.val + d.val + 128 - 64) % 128 = d.val; omega))

/-- The second key head's lanes, held twice. -/
theorem second_at (kp k : Vec Ideal S1x128x128 .f32) (x : Fin 256) (t : Fin 2) (d : Fin 64) :
    k0_pay9 kp k (ix2 x ⟨64 * t + d, by omega⟩) = k0_pay4 kp k (ix2 x ⟨64 * 1 + d, by omega⟩) := by
  pointwise [k0_pay9]
  rw [pay3_at, select_lane, rotated_at]
  split
  · next h => exact congrArg (fun l => k0_pay4 kp k (ix2 x l)) (Fin.ext (by
      simp only [] at h; show (64 * t.val + d.val + 128 - 64) % 128 = 64 + d.val; omega))
  · next h => exact congrArg (fun l => k0_pay4 kp k (ix2 x l)) (Fin.ext (by simp only [] at h; show 64 * t.val + d.val = 64 + d.val; omega))

/-! ### The heads' score rows -/

/-- The even head's score row: the product's upper half and the bias. -/
def evenRow (r : Fin 128) : Fin 256 → EReal := fun x => k0_pay16 K (k0_pay13 q) (k0_pay14 q) b0 (ix2 r x)

/-- The odd head's score row: the product's lower half and the bias. -/
def oddRow (r : Fin 128) : Fin 256 → EReal := fun x => k0_pay21 K (k0_pay13 q) (k0_pay14 q) b1 (ix2 r x)

/-- One head's score row: `t = 0` is the pair's even head, `t = 1` its odd one. -/
def headRow (b : Vec Ideal S1x1x128x256 .f32) (t : Fin 2) (r : Fin 128) : Fin 256 → EReal := fun x =>
  (∑ d : Fin 64, q (ix3 0 r ⟨64 * t + d, by omega⟩) * Ideal.ofBits FTy.f32 1040187392#32 *
    K (ix2 x ⟨64 * t + d, by omega⟩)) + b (ix4 0 0 r x)

/-- The lanes below 64, of 128 rows. -/
theorem pay2_at (r l : Fin 128) : k0_pay2 (ix2 r l) = IntOp.cmpi CmpIPredicate.slt (BitVec.ofNat 32 ↑l) 64#32 := by
  pointwise [k0_pay2]

/-- The even head's row: the product with the queries masked to the even head's lanes. -/
theorem evenRow_at (r : Fin 128) (x : Fin 256) : evenRow K q b0 r x =
    (∑ l : Fin 128, Scalar.select (k0_pay2 (ix2 r l)) (q (ix3 0 r l) * Ideal.ofBits FTy.f32 1040187392#32 * K (ix2 x l)) 0) +
      b0 (ix4 0 0 r x) := by
  pointwise [evenRow, k0_pay16, k0_pay15, k0_pay13, k0_pay14, k0_pay12]

/-- The odd head's row: the product with the queries masked to the odd head's lanes. -/
theorem oddRow_at (r : Fin 128) (x : Fin 256) : oddRow K q b1 r x =
    (∑ l : Fin 128, Scalar.select (k0_pay2 (ix2 r l)) 0 (q (ix3 0 r l) * Ideal.ofBits FTy.f32 1040187392#32 * K (ix2 x l))) +
      b1 (ix4 0 0 r x) := by
  pointwise [oddRow, k0_pay21, k0_pay15, k0_pay13, k0_pay14, k0_pay12]

/-- The even head's row, its product over the head's own lanes. -/
theorem evenRow_eq (r : Fin 128) : evenRow K q b0 r = headRow K q b0 0 r := by
  funext x
  rw [evenRow_at]
  unfold headRow
  rw [← sum_even (fun l => q (ix3 0 r l) * Ideal.ofBits FTy.f32 1040187392#32 * K (ix2 x l))]
  simp only [pay2_at, select_lane]

/-- The odd head's row, its product over the head's own lanes. -/
theorem oddRow_eq (r : Fin 128) : oddRow K q b1 r = headRow K q b1 1 r := by
  funext x
  rw [oddRow_at]
  unfold headRow
  rw [← sum_odd (fun l => q (ix3 0 r l) * Ideal.ofBits FTy.f32 1040187392#32 * K (ix2 x l))]
  simp only [pay2_at, select_lane]

/-! ### The pair's output -/

/-- The even head's largest score or sink. -/
theorem pay17_at (r : Fin 128) : k0_pay17 K (k0_pay13 q) (k0_pay14 q) b0 σ0 (ix2 r 0) = Cert.Softmax.sinkMax σ0 (evenRow K q b0 r) := by
  pointwise [k0_pay17]
  simp only [ofBits_bot, Cert.Softmax.sinkMax, Cert.Softmax.rowMax, evenRow]
  rfl

/-- The odd head's largest score or sink. -/
theorem pay22_at (r : Fin 128) : k0_pay22 K (k0_pay13 q) (k0_pay14 q) b1 σ1 (ix2 r 0) = Cert.Softmax.sinkMax σ1 (oddRow K q b1 r) := by
  pointwise [k0_pay22]
  simp only [ofBits_bot, Cert.Softmax.sinkMax, Cert.Softmax.rowMax, oddRow]
  rfl

/-- The even head's exponentials. -/
theorem pay18_at (r : Fin 128) (x : Fin 256) : k0_pay18 K (k0_pay13 q) (k0_pay14 q) b0 σ0 (ix2 r x) =
    Ideal.exp (evenRow K q b0 r x - Cert.Softmax.sinkMax σ0 (evenRow K q b0 r)) := by
  pointwise [k0_pay18]
  simp only [pay17_at, evenRow]

/-- The odd head's largest score or sink, along the row. -/
theorem pay23_at (r : Fin 128) (x : Fin 256) : k0_pay23 K (k0_pay13 q) (k0_pay14 q) b1 σ1 (ix2 r x) =
    Cert.Softmax.sinkMax σ1 (oddRow K q b1 r) := by
  pointwise [k0_pay23]
  simp only [pay22_at]

/-- One over the even head's sum of exponentials, its sink's among them. -/
theorem pay20_at (r : Fin 128) : k0_pay20 K (k0_pay13 q) (k0_pay14 q) b0 σ0 σ0 (ix2 r 0) =
    Ideal.div 1 (Cert.Softmax.sinkTotal σ0 (evenRow K q b0 r)) := by
  pointwise [k0_pay20]
  simp only [pay18_at, pay17_at, Cert.Softmax.sinkTotal]

/-- The odd head's score at an index. -/
theorem pay21_at (r : Fin 128) (x : Fin 256) : k0_pay21 K (k0_pay13 q) (k0_pay14 q) b1 (ix2 r x) = oddRow K q b1 r x := rfl

/-- The pair's output at a lane of its even head. -/
theorem out_even (r : Fin 128) (l : Fin 128) (h : l.val < 64) : outPair K V q b0 b1 σ0 σ1 (ix3 0 r l) =
    (∑ x, Ideal.exp (headRow K q b0 0 r x - Cert.Softmax.sinkMax σ0 (headRow K q b0 0 r)) * V (ix2 x l)) *
      Ideal.div 1 (Cert.Softmax.sinkTotal σ0 (headRow K q b0 0 r)) := by
  pointwise [outPair, k0_pay24, k0_pay19]
  simp only [pay2_at, pay3_at, pay18_at, pay20_at, pay21_at, pay22_at, pay23_at, select_lane, if_pos h, evenRow_eq, Finset.sum_const_zero, add_zero, mul_zero]

/-- The pair's output at a lane of its odd head. -/
theorem out_odd (r : Fin 128) (l : Fin 128) (h : ¬l.val < 64) : outPair K V q b0 b1 σ0 σ1 (ix3 0 r l) =
    (∑ x, Ideal.exp (headRow K q b1 1 r x - Cert.Softmax.sinkMax σ1 (headRow K q b1 1 r)) * V (ix2 x l)) *
      Ideal.div 1 (Cert.Softmax.sinkTotal σ1 (headRow K q b1 1 r)) := by
  pointwise [outPair, k0_pay24, k0_pay19]
  simp only [pay2_at, pay3_at, pay18_at, pay20_at, pay21_at, pay22_at, pay23_at, select_lane, if_neg h, oddRow_eq, Finset.sum_const_zero, zero_add, mul_zero, Cert.Softmax.sinkTotal]

end Cert.Window

end
-- ==== Proof.WindowReference.lean ====
module

public import proofs.«01_k».proof.Proof.Gen.Reference8Ideal.Run
public import proofs.«01_k».proof.Proof.AttentionReference
public import Idealize.ShloMosaic.Lib.Pointwise

@[expose] public section

set_option maxRecDepth 16384

noncomputable section

namespace Cert.WindowReference

open Cert.Reference8Ideal Cert.Reference8Ideal.Gen Idealize.ShloMosaic Idealize.ShloMosaic.TcCoe Idealize.SL.Sem

/-- The heads' sinks, by key head and query head of the group. -/
def sinks (s : FVec Ideal S16 .f32) : FVec Ideal S2x8 .f32 :=
  shapeCast _ (s) shapeCasts_S16_S2x8

/-- The sinks at every query row. -/
def sinkRows (s : FVec Ideal S16 .f32) : FVec Ideal S8x32x128x2x8 .f32 :=
  broadcastInDim S8x32x128x2x8 ![0, 1, 2, 3, 4] bcast_S1x1x1x2x8_S8x32x128x2x8_0_1_2_3_4 (broadcastInDim S1x1x1x2x8 ![3, 4] bcast_S2x8_S1x1x1x2x8_3_4 (sinks s))

/-- The queries in blocks of 128 rows, by key head and query head of the group. -/
def qBlocks (A : FVec Ideal S8x4096x6656 .f32) : FVec Ideal S8x32x128x2x8x64 .f32 :=
  shapeCast _ (shapeCast _ (transpose S8x1x4096x2x8x64 [0, 2, 1, 3, 4, 5] (shapeCast _ (pad S8x4096x2x8x64 ![0, 0, 0, 0, 0] ![0, 0, 0, 0, 0] ![0, 0, 0, 0, 0] (shapeCast _ (extractStridedSlice S8x4096x1024 ![0, 0, 5120] (A) slices_S8x4096x6656_S8x4096x1024_0_0_5120) shapeCasts_S8x4096x1024_S8x4096x2x8x64) (sitofp .f32 (constantI S_ 32 0#32)) pads_S8x4096x2x8x64_S8x4096x2x8x64_000_000_000_000_000 h_S_) shapeCasts_S8x4096x2x8x64_S8x4096x1x2x8x64) transposes_S8x4096x1x2x8x64_S8x1x4096x2x8x64_0_2_1_3_4_5) shapeCasts_S8x1x4096x2x8x64_S8x4096x2x8x64) shapeCasts_S8x4096x2x8x64_S8x32x128x2x8x64

/-- The keys in blocks of 128 rows. -/
def kPlain (A : FVec Ideal S8x4096x6656 .f32) : FVec Ideal S8x32x128x2x64 .f32 :=
  shapeCast _ (shapeCast _ (transpose S8x1x4096x2x64 [0, 2, 1, 3, 4] (shapeCast _ (pad S8x4096x2x64 ![0, 0, 0, 0] ![0, 0, 0, 0] ![0, 0, 0, 0] (shapeCast _ (extractStridedSlice S8x4096x128 ![0, 0, 6144] (A) slices_S8x4096x6656_S8x4096x128_0_0_6144) shapeCasts_S8x4096x128_S8x4096x2x64) (sitofp .f32 (constantI S_ 32 0#32)) pads_S8x4096x2x64_S8x4096x2x64_000_000_000_000 h_S_) shapeCasts_S8x4096x2x64_S8x4096x1x2x64) transposes_S8x4096x1x2x64_S8x1x4096x2x64_0_2_1_3_4) shapeCasts_S8x1x4096x2x64_S8x4096x2x64) shapeCasts_S8x4096x2x64_S8x32x128x2x64

/-- The values in blocks of 128 rows. -/
def vPlain (A : FVec Ideal S8x4096x6656 .f32) : FVec Ideal S8x32x128x2x64 .f32 :=
  shapeCast _ (shapeCast _ (transpose S8x1x4096x2x64 [0, 2, 1, 3, 4] (shapeCast _ (pad S8x4096x2x64 ![0, 0, 0, 0] ![0, 0, 0, 0] ![0, 0, 0, 0] (shapeCast _ (extractStridedSlice S8x4096x128 ![0, 0, 6272] (A) slices_S8x4096x6656_S8x4096x128_0_0_6272) shapeCasts_S8x4096x128_S8x4096x2x64) (sitofp .f32 (constantI S_ 32 0#32)) pads_S8x4096x2x64_S8x4096x2x64_000_000_000_000 h_S_) shapeCasts_S8x4096x2x64_S8x4096x1x2x64) transposes_S8x4096x1x2x64_S8x1x4096x2x64_0_2_1_3_4) shapeCasts_S8x1x4096x2x64_S8x4096x2x64) shapeCasts_S8x4096x2x64_S8x32x128x2x64

/-- Each block's keys after the block before it (zeros before the first). -/
def kBlocks (A : FVec Ideal S8x4096x6656 .f32) : FVec Ideal S8x32x256x2x64 .f32 :=
  concatenate S8x32x256x2x64 2 [⟨S8x32x128x2x64, (pad S8x32x128x2x64 ![0, 1, 0, 0, 0] ![0, 0, 0, 0, 0] ![0, 0, 0, 0, 0] (extractStridedSlice S8x31x128x2x64 ![0, 0, 0, 0, 0] (kPlain A) slices_S8x32x128x2x64_S8x31x128x2x64_0_0_0_0_0) (sitofp .f32 (constantI S_ 32 0#32)) pads_S8x31x128x2x64_S8x32x128x2x64_000_100_000_000_000 h_S_)⟩, ⟨S8x32x128x2x64, (kPlain A)⟩] concatenates_S8x32x128x2x64_S8x32x128x2x64_S8x32x256x2x64_d2

/-- Each block's values after the block before it (zeros before the first). -/
def vBlocks (A : FVec Ideal S8x4096x6656 .f32) : FVec Ideal S8x32x256x2x64 .f32 :=
  concatenate S8x32x256x2x64 2 [⟨S8x32x128x2x64, (pad S8x32x128x2x64 ![0, 1, 0, 0, 0] ![0, 0, 0, 0, 0] ![0, 0, 0, 0, 0] (extractStridedSlice S8x31x128x2x64 ![0, 0, 0, 0, 0] (vPlain A) slices_S8x32x128x2x64_S8x31x128x2x64_0_0_0_0_0) (sitofp .f32 (constantI S_ 32 0#32)) pads_S8x31x128x2x64_S8x32x128x2x64_000_100_000_000_000 h_S_)⟩, ⟨S8x32x128x2x64, (vPlain A)⟩] concatenates_S8x32x128x2x64_S8x32x128x2x64_S8x32x256x2x64_d2

/-- The ALiBi bias. -/
def bias : FVec Ideal S128x2x8x256 .f32 :=
  Host.negf (mulf (broadcastInDim S128x2x8x256 ![0, 1, 2, 3] bcast_S1x2x8x1_S128x2x8x256_0_1_2_3 (broadcastInDim S1x2x8x1 ![1, 2] bcast_S2x8_S1x2x8x1_1_2 (shapeCast _ (Cert.AttentionReference.slopes) shapeCasts_S16_S2x8))) (broadcastInDim S128x2x8x256 ![0, 1, 2, 3] bcast_S128x1x1x256_S128x2x8x256_0_1_2_3 (broadcastInDim S128x1x1x256 ![0, 3] bcast_S128x256_S128x1x1x256_0_3 (sitofp .f32 (muli (Cert.AttentionReference.dist) (broadcastInDim S128x256 ![] bcast_S_S128x256 (constantI S_ 32 1#32)))))))

/-- The masked scores. -/
def scores (A : FVec Ideal S8x4096x6656 .f32) : FVec Ideal S8x32x128x2x8x256 .f32 :=
  select (broadcastInDim S8x32x128x2x8x256 ![0, 1, 2, 3, 4, 5] bcast_S1x32x128x1x1x256_S8x32x128x2x8x256_0_1_2_3_4_5 (broadcastInDim S1x32x128x1x1x256 ![1, 2, 5] bcast_S32x128x256_S1x32x128x1x1x256_1_2_5 (Cert.AttentionReference.valid))) (addf (mulf (transpose S8x32x128x2x8x256 [0, 1, 4, 2, 5, 3] (Host.dotGeneral dot_S8x32x256x2x64_S8x32x128x2x8x64_S8x32x2x256x128x8_4_5_2_24_013_013 none (kBlocks A) (qBlocks A)) transposes_S8x32x2x256x128x8_S8x32x128x2x8x256_0_1_4_2_5_3) (broadcastInDim S8x32x128x2x8x256 ![] bcast_S_S8x32x128x2x8x256 (constant S_ .f32 0x3E000000#32))) (broadcastInDim S8x32x128x2x8x256 ![0, 1, 2, 3, 4, 5] bcast_S1x1x128x2x8x256_S8x32x128x2x8x256_0_1_2_3_4_5 (broadcastInDim S1x1x128x2x8x256 ![2, 3, 4, 5] bcast_S128x2x8x256_S1x1x128x2x8x256_2_3_4_5 (bias)))) (broadcastInDim S8x32x128x2x8x256 ![] bcast_S_S8x32x128x2x8x256 ((constant S_ .f32 0xFF800000#32)))

/-- The larger of each row's largest score and its head's sink. -/
def largest (A : FVec Ideal S8x4096x6656 .f32) (s : FVec Ideal S16 .f32) : FVec Ideal S8x32x128x2x8 .f32 :=
  maximumf (Host.reduce FloatOps.maximumf (scores A) (constant S_ .f32 0xFF800000#32) reducesTo_S8x32x128x2x8x256_S8x32x128x2x8_d5 h_S_) (sinkRows s)

/-- The exponentials of the scores less that. -/
def expo (A : FVec Ideal S8x4096x6656 .f32) (s : FVec Ideal S16 .f32) : FVec Ideal S8x32x128x2x8x256 .f32 :=
  Host.exp (subf (scores A) (broadcastInDim S8x32x128x2x8x256 ![0, 1, 2, 3, 4, 5] bcast_S8x32x128x2x8x1_S8x32x128x2x8x256_0_1_2_3_4_5 (broadcastInDim S8x32x128x2x8x1 ![0, 1, 2, 3, 4] bcast_S8x32x128x2x8_S8x32x128x2x8x1_0_1_2_3_4 (largest A s))))

/-- Each row's sum of exponentials, its sink's among them. -/
def den (A : FVec Ideal S8x4096x6656 .f32) (s : FVec Ideal S16 .f32) : FVec Ideal S8x32x128x2x8 .f32 :=
  addf (Host.reduceAdd (expo A s) (constant S_ .f32 0x00000000#32) reducesTo_S8x32x128x2x8x256_S8x32x128x2x8_d5 h_S_) (Host.exp (subf (sinkRows s) (largest A s)))

/-- The attention weights. -/
def prob (A : FVec Ideal S8x4096x6656 .f32) (s : FVec Ideal S16 .f32) : FVec Ideal S8x32x128x2x8x256 .f32 :=
  Host.divf (expo A s) (broadcastInDim S8x32x128x2x8x256 ![0, 1, 2, 3, 4, 5] bcast_S8x32x128x2x8x1_S8x32x128x2x8x256_0_1_2_3_4_5 (broadcastInDim S8x32x128x2x8x1 ![0, 1, 2, 3, 4] bcast_S8x32x128x2x8_S8x32x128x2x8x1_0_1_2_3_4 (den A s)))

/-- The reference's attention output, a function of the projected rows and the sinks. -/
def refOut (A : FVec Ideal S8x4096x6656 .f32) (s : FVec Ideal S16 .f32) : FVec Ideal S8x4096x1024 .f32 :=
  shapeCast _ (shapeCast _ (transpose S8x4096x1x2x8x64 [0, 2, 1, 3, 4, 5] (shapeCast _ (transpose S8x32x128x2x8x64 [0, 1, 4, 2, 5, 3] (Host.dotGeneral dot_S8x32x256x2x64_S8x32x128x2x8x256_S8x32x2x64x128x8_2_5_4_24_013_013 none (vBlocks A) (prob A s)) transposes_S8x32x2x64x128x8_S8x32x128x2x8x64_0_1_4_2_5_3) shapeCasts_S8x32x128x2x8x64_S8x1x4096x2x8x64) transposes_S8x1x4096x2x8x64_S8x4096x1x2x8x64_0_2_1_3_4_5) shapeCasts_S8x4096x1x2x8x64_S8x4096x2x8x64) shapeCasts_S8x4096x2x8x64_S8x4096x1024

/-- The reference's result is `refOut` of its arguments. -/
theorem out_eq (m : (ℓ : Loc nD τ sig) → Buf (Elt Ideal) ℓ) (c : Dev nD) :
    Cert.Reference8Ideal.Value.res_main_v111 m c = refOut (m ((c.tc : Thread nD τ).loc main_arg0)) (m ((c.tc : Thread nD τ).loc main_arg1)) := rfl

/-! ### Each stage at an index -/

/-- The bias is minus the head's slope times the offset. -/
theorem bias_at (r : Fin 128) (kv : Fin 2) (g : Fin 8) (x : Fin 256) : bias (ix4 r kv g x) =
    -(Cert.AttentionReference.slopes (ix1 ⟨kv * 8 + g, by omega⟩) *
      FloatOps.sitofp (F := Ideal) FTy.f32 (IntOp.muli (Cert.AttentionReference.dist (ix2 r x)) 1#32)) := by
  pointwise [bias]

variable (A : FVec Ideal S8x4096x6656 .f32) (s : FVec Ideal S16 .f32)

/-- The sink of a head. -/
theorem sinks_at (kv : Fin 2) (g : Fin 8) : sinks s (ix2 kv g) = s (ix1 ⟨kv * 8 + g, by omega⟩) := by
  pointwise [sinks]

/-- The sink at a query row. -/
theorem sinkRows_at (b : Fin 8) (u : Fin 32) (r : Fin 128) (kv : Fin 2) (g : Fin 8) :
    sinkRows s (ix5 b u r kv g) = s (ix1 ⟨kv * 8 + g, by omega⟩) := by
  rw [← sinks_at s kv g]
  pointwise [sinkRows]

/-- A query of block `u`. -/
theorem qBlocks_at (b : Fin 8) (u : Fin 32) (r : Fin 128) (kv : Fin 2) (g : Fin 8) (d : Fin 64) :
    qBlocks A (ix6 b u r kv g d) = A (ix3 b ⟨↑u * 128 + ↑r, by omega⟩ ⟨5120 + ((kv * 8 + g) * 64 + ↑d), by omega⟩) := by
  pointwise [qBlocks]
  rw [dif_pos (by omega)]
  exact congrArg (fun l => A (ix3 b _ l)) (Fin.ext (by show 5120 + (kv.val * 512 + g.val * 64 + d.val) = 5120 + ((kv.val * 8 + g.val) * 64 + d.val); omega))

/-- Equal rows read equal entries. -/
theorem same_row (b : Fin 8) (n n' : Nat) (hn : n < 4096) (hn' : n' < 4096) (l : Fin 6656) (h : n = n') :
    A (ix3 b ⟨n, hn⟩ l) = A (ix3 b ⟨n', hn'⟩ l) := by
  subst h; rfl

/-- A key of block `u`'s window: the block before it, then the block itself. -/
theorem kBlocks_at (b : Fin 8) (u : Fin 32) (x : Fin 256) (kv : Fin 2) (d : Fin 64) :
    kBlocks A (ix5 b u x kv d) =
      if hx : 128 ≤ u.val * 128 + x.val then
        A (ix3 b ⟨u.val * 128 + x.val - 128, by omega⟩ ⟨6144 + (↑kv * 64 + ↑d), by omega⟩) else 0 := by
  by_cases h1 : x.val < 128
  · by_cases h2 : 128 ≤ u.val * 128 + x.val
    · have h3 : (1 ≤ u.val ∧ u.val - 1 < 31) ∧ x.val < 128 := by omega
      have h4 : (u.val - 1) * 128 + x.val < 4096 := by omega
      rw [dif_pos h2]
      pointwise [kBlocks, kPlain]
      refine (dif_pos h1).trans ((dif_pos h3).trans ((dif_pos h4).trans ?_))
      apply same_row
      omega
    · have h3 : ¬((1 ≤ u.val ∧ u.val - 1 < 31) ∧ x.val < 128) := by omega
      rw [dif_neg h2]
      pointwise [kBlocks, kPlain]
      exact (dif_pos h1).trans ((dif_neg h3).trans Cert.AttentionReference.zero_word)
  · have h2 : 128 ≤ u.val * 128 + x.val := by omega
    have h3 : u.val * 128 + (x.val - 128) < 4096 := by omega
    rw [dif_pos h2]
    pointwise [kBlocks, kPlain]
    refine (dif_neg h1).trans ((dif_pos h3).trans ?_)
    apply same_row
    omega

/-- A value of block `u`'s window: the block before it, then the block itself. -/
theorem vBlocks_at (b : Fin 8) (u : Fin 32) (x : Fin 256) (kv : Fin 2) (d : Fin 64) :
    vBlocks A (ix5 b u x kv d) =
      if hx : 128 ≤ u.val * 128 + x.val then
        A (ix3 b ⟨u.val * 128 + x.val - 128, by omega⟩ ⟨6272 + (↑kv * 64 + ↑d), by omega⟩) else 0 := by
  by_cases h1 : x.val < 128
  · by_cases h2 : 128 ≤ u.val * 128 + x.val
    · have h3 : (1 ≤ u.val ∧ u.val - 1 < 31) ∧ x.val < 128 := by omega
      have h4 : (u.val - 1) * 128 + x.val < 4096 := by omega
      rw [dif_pos h2]
      pointwise [vBlocks, vPlain]
      refine (dif_pos h1).trans ((dif_pos h3).trans ((dif_pos h4).trans ?_))
      apply same_row
      omega
    · have h3 : ¬((1 ≤ u.val ∧ u.val - 1 < 31) ∧ x.val < 128) := by omega
      rw [dif_neg h2]
      pointwise [vBlocks, vPlain]
      exact (dif_pos h1).trans ((dif_neg h3).trans Cert.AttentionReference.zero_word)
  · have h2 : 128 ≤ u.val * 128 + x.val := by omega
    have h3 : u.val * 128 + (x.val - 128) < 4096 := by omega
    rw [dif_pos h2]
    pointwise [vBlocks, vPlain]
    refine (dif_neg h1).trans ((dif_pos h3).trans ?_)
    apply same_row
    omega

/-- A masked score. -/
theorem scores_at (b : Fin 8) (u : Fin 32) (r : Fin 128) (kv : Fin 2) (g : Fin 8) (x : Fin 256) :
    scores A (ix6 b u r kv g x) = Scalar.select (Cert.AttentionReference.valid (ix3 u r x))
      ((∑ d : Fin 64, kBlocks A (ix5 b u x kv d) * qBlocks A (ix6 b u r kv g d)) * Ideal.ofBits FTy.f32 1040187392#32 +
        bias (ix4 r kv g x))
      (Ideal.ofBits FTy.f32 4286578688#32) := by
  pointwise [scores]

/-- The score row of query `r` of block `u`. -/
def row (b : Fin 8) (u : Fin 32) (r : Fin 128) (kv : Fin 2) (g : Fin 8) : Fin 256 → EReal := fun x => scores A (ix6 b u r kv g x)

/-- The scores reduced into row `(b, u, r, kv, g)` are those of its 256 key columns. -/
theorem fiber (b : Fin 8) (u : Fin 32) (r : Fin 128) (kv : Fin 2) (g : Fin 8) (i : S8x32x128x2x8x256.Idx) :
    reducesTo_S8x32x128x2x8x256_S8x32x128x2x8_d5.drop i = ix5 b u r kv g ↔
      ∃ k : Fin 256, (ix6 b u r kv g k : S8x32x128x2x8x256.Idx) = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

/-- The largest score of each row. -/
theorem reduced_at (b : Fin 8) (u : Fin 32) (r : Fin 128) (kv : Fin 2) (g : Fin 8) :
    Host.reduce FloatOps.maximumf (scores A) (constant S_ .f32 0xFF800000#32) reducesTo_S8x32x128x2x8x256_S8x32x128x2x8_d5 h_S_ (ix5 b u r kv g) =
      Cert.Softmax.rowMax (row A b u r kv g) := by
  rw [Host.reduce_eq_fold, Finset.fold_filter_eq_fold_of_fiber _ _ (fun k : Fin 256 => (ix6 b u r kv g k : S8x32x128x2x8x256.Idx))
    (fun _ _ e => congrFun e 5) (fiber b u r kv g)]
  have hb : (constant (F := Ideal) S_ FTy.f32 0xFF800000#32) (Shape.Idx.first h_S_) = (⊥ : EReal) := by
    simp [constant, Ideal.ofBits, Ideal.ieee]
  rw [hb]
  rfl

/-- A maximum at an index. -/
theorem maximumf_at {σ : Shape} (X Y : FVec Ideal σ .f32) (j : σ.Idx) : maximumf X Y j = max (X j) (Y j) := rfl

/-- A sum with the exponential of a difference at an index. -/
theorem add_exp_at {σ : Shape} (X Y Z : FVec Ideal σ .f32) (j : σ.Idx) :
    addf X (Host.exp (subf Y Z)) j = X j + Ideal.exp (Y j - Z j) := rfl

/-- The larger of the row's largest score and its sink. -/
theorem largest_at (b : Fin 8) (u : Fin 32) (r : Fin 128) (kv : Fin 2) (g : Fin 8) :
    largest A s (ix5 b u r kv g) = Cert.Softmax.sinkMax (s (ix1 ⟨kv * 8 + g, by omega⟩)) (row A b u r kv g) := by
  unfold largest Cert.Softmax.sinkMax
  rw [maximumf_at, reduced_at, sinkRows_at]

/-- An exponential at an index. -/
theorem expo_at (b : Fin 8) (u : Fin 32) (r : Fin 128) (kv : Fin 2) (g : Fin 8) (x : Fin 256) :
    expo A s (ix6 b u r kv g x) = Ideal.exp (row A b u r kv g x - Cert.Softmax.sinkMax (s (ix1 ⟨kv * 8 + g, by omega⟩)) (row A b u r kv g)) := by
  rw [← largest_at]
  pointwise [expo, row]

/-- The sum of the scores' exponentials. -/
theorem summed_at (b : Fin 8) (u : Fin 32) (r : Fin 128) (kv : Fin 2) (g : Fin 8) :
    Host.reduceAdd (expo A s) (constant S_ .f32 0x00000000#32) reducesTo_S8x32x128x2x8x256_S8x32x128x2x8_d5 h_S_ (ix5 b u r kv g) =
      ∑ x, Ideal.exp (row A b u r kv g x - Cert.Softmax.sinkMax (s (ix1 ⟨kv * 8 + g, by omega⟩)) (row A b u r kv g)) := by
  rw [Idealize.ShloMosaic.ValueIdx.hostReduceAdd_apply]
  unfold Ideal.hostReduceAdd
  rw [Finset.sum_filter_eq_sum_of_fiber _ (fun k : Fin 256 => (ix6 b u r kv g k : S8x32x128x2x8x256.Idx))
    (fun _ _ e => congrFun e 5) (fiber b u r kv g)]
  have hb : (constant (F := Ideal) S_ FTy.f32 0x00000000#32) (Shape.Idx.first h_S_) = (0 : EReal) := by
    simp [constant, Ideal.ofBits, Ideal.ieee]
  rw [hb, zero_add]
  simp only [expo_at]

/-- The row's sum of exponentials, its sink's among them. -/
theorem den_at (b : Fin 8) (u : Fin 32) (r : Fin 128) (kv : Fin 2) (g : Fin 8) :
    den A s (ix5 b u r kv g) = Cert.Softmax.sinkTotal (s (ix1 ⟨kv * 8 + g, by omega⟩)) (row A b u r kv g) := by
  unfold den Cert.Softmax.sinkTotal
  rw [add_exp_at, summed_at, sinkRows_at, largest_at]

/-- The reference's attention at an index is the average of the key head's values with the weights of the query head's row. -/
theorem out_at (b : Fin 8) (n : Fin 4096) (l : Fin 1024) : refOut A s (ix3 b n l) =
    Cert.Softmax.sinkAttend (s (ix1 ⟨(l / 512) * 8 + l / 64 % 8, by omega⟩))
      (row A b ⟨n / 128, by omega⟩ ⟨n % 128, by omega⟩ ⟨l / 512, by omega⟩ ⟨l / 64 % 8, by omega⟩)
      (fun x => vBlocks A (ix5 b ⟨n / 128, by omega⟩ x ⟨l / 512, by omega⟩ ⟨l % 64, by omega⟩)) := by
  pointwise [refOut, prob]
  simp only [expo_at, den_at]
  unfold Cert.Softmax.sinkAttend
  rfl

end Cert.WindowReference

end
-- ==== Proof.WindowPoint.lean ====
module

public import proofs.«01_k».proof.Proof.WindowPairs
public import proofs.«01_k».proof.Proof.WindowReference
public import proofs.«01_k».proof.Proof.AttentionPoint

@[expose] public section

set_option maxRecDepth 16384

noncomputable section

namespace Cert.Window

open Cert.Kernel8Ideal Cert.Kernel8Ideal.Gen Idealize.ShloMosaic Idealize.ShloMosaic.TcCoe Idealize.SL.Sem
open Cert.WindowReference (kBlocks vBlocks qBlocks row refOut)
open Cert.AttentionReference (valid)
open Cert.Attention (IsReal biasTable biasTable_at ofBits_bot scale_eq slopes_real valid_self valid_window)

variable (A : FVec Ideal S8x4096x6656 .f32) (s : FVec Ideal S16 .f32) (B : Fin 8) (u : Fin 32) (f : Fin 2) (kv : Fin 2) (g : Fin 8) (t : Fin 2)
  (K V : FVec Ideal S256x128 .f32) (q kp k vp v : Vec Ideal S1x128x128 .f32) (b b0 b1 : Vec Ideal S1x1x128x256 .f32) (σ σ0 σ1 : Elt Ideal .f32)

/-! ### The rows of scores -/

/-- The bias of query head `g` of key head `kv` is the bias of head `8 kv + g`. -/
theorem bias_head (r : Fin 128) (x : Fin 256) :
    Cert.WindowReference.bias (ix4 r kv g x) = Cert.AttentionReference.bias (ix4 r ⟨kv * 8 + g, by omega⟩ 0 x) := by
  rw [Cert.WindowReference.bias_at, Cert.AttentionReference.bias_at]

/-- The kernel's score row is the reference's. -/
theorem row_eq (hf : f.val = if u.val = 0 then 1 else 0)
    (hq : ∀ (r : Fin 128) (d : Fin 64), q (ix3 0 r ⟨64 * t + d, by omega⟩) = qBlocks A (ix6 B u r kv g d))
    (hk : ∀ (x : Fin 256) (d : Fin 64), u.val ≠ 0 ∨ 128 ≤ x.val → K (ix2 x ⟨64 * t + d, by omega⟩) = kBlocks A (ix5 B u x kv d))
    (hb : ∀ (r : Fin 128) (x : Fin 256), b (ix4 0 0 r x) = biasTable (ix4 f ⟨kv * 8 + g, by omega⟩ r x)) (r : Fin 128) :
    headRow K q b t r = row A B u r kv g := by
  funext x
  unfold headRow row
  rw [hb, biasTable_at u f hf, Cert.WindowReference.scores_at, bias_head]
  by_cases hv : valid (ix3 u r x) = 1
  · simp only [Scalar.select, if_pos hv]
    congr 1
    rw [mul_comm (∑ d : Fin 64, kBlocks A (ix5 B u x kv d) * qBlocks A (ix6 B u r kv g d)), Cert.Softmax.mul_sum _ _ (by rw [scale_eq]; exact EReal.coe_nonneg.2 (by norm_num)) (by rw [scale_eq]; exact EReal.coe_ne_top _)]
    refine Finset.sum_congr rfl fun d _ => ?_
    rw [hq, hk x d (valid_window u r x hv)]
    ac_rfl
  · simp only [Scalar.select, if_neg hv, ofBits_bot]
    exact EReal.add_bot _

/-- The queries' and the keys' columns hold real numbers. -/
def Finite : Prop :=
  (∀ (b : Fin 8) (n : Fin 4096) (l : Fin 6656), 5120 ≤ l.val → l.val < 6144 → IsReal (A (ix3 b n l))) ∧
  (∀ (b : Fin 8) (n : Fin 4096) (l : Fin 6656), 6144 ≤ l.val → l.val < 6272 → IsReal (A (ix3 b n l)))

/-- A score a row may look at is a real number. -/
theorem row_real (hA : Finite A) (r : Fin 128) (x : Fin 256) (hv : valid (ix3 u r x) = 1) : IsReal (row A B u r kv g x) := by
  unfold row
  rw [Cert.WindowReference.scores_at, bias_head]
  simp only [Scalar.select, if_pos hv]
  refine IsReal.add (IsReal.mul (IsReal.sum _ _ fun d => IsReal.mul ?_ ?_) ⟨_, scale_eq⟩) ?_
  · rw [Cert.WindowReference.kBlocks_at]
    split
    · exact hA.2 _ _ _ (by simp only []; omega) (by simp only []; omega)
    · exact ⟨0, rfl⟩
  · rw [Cert.WindowReference.qBlocks_at]
    exact hA.1 _ _ _ (by simp only []; omega) (by simp only []; omega)
  · rw [Cert.AttentionReference.bias_at]
    exact IsReal.neg (IsReal.mul (slopes_real _) ⟨_, rfl⟩)

/-- A score a row may not look at is `-∞`. -/
theorem row_bot (r : Fin 128) (x : Fin 256) (hv : ¬valid (ix3 u r x) = 1) : row A B u r kv g x = ⊥ := by
  unfold row
  rw [Cert.WindowReference.scores_at]
  simp only [Scalar.select, if_neg hv, ofBits_bot]

/-- No score is `+∞`. -/
theorem row_ne_top (hA : Finite A) (r : Fin 128) (x : Fin 256) : row A B u r kv g x ≠ ⊤ := by
  by_cases hv : valid (ix3 u r x) = 1
  · exact (row_real A B u kv g hA r x hv).ne_top
  · rw [row_bot A B u kv g r x hv]
    exact bot_ne_top

/-- A row's own score is not `-∞`. -/
theorem row_self (hA : Finite A) (r : Fin 128) : row A B u r kv g ⟨128 + r, by omega⟩ ≠ ⊥ :=
  (row_real A B u kv g hA r _ (valid_self u r)).ne_bot

/-- The kernel's average of a key head's values with a query head's weights is the reference's. -/
theorem attend_point (hA : Finite A) (hσ : σ ≠ (⊤ : EReal)) (d : Fin 64)
    (hv : ∀ x : Fin 256, u.val ≠ 0 ∨ 128 ≤ x.val → V (ix2 x ⟨64 * t + d, by omega⟩) = vBlocks A (ix5 B u x kv d)) (r : Fin 128) :
    (∑ x, Ideal.exp (row A B u r kv g x - Cert.Softmax.sinkMax σ (row A B u r kv g)) * V (ix2 x ⟨64 * t + d, by omega⟩)) *
      Ideal.div 1 (Cert.Softmax.sinkTotal σ (row A B u r kv g)) =
    Cert.Softmax.sinkAttend σ (row A B u r kv g) (fun x => vBlocks A (ix5 B u x kv d)) := by
  have e := Cert.Softmax.sinkAttend_eq σ (row A B u r kv g) (fun x => V (ix2 x ⟨64 * t + d, by omega⟩)) hσ (row_ne_top A B u kv g hA r) _
    (row_self A B u kv g hA r)
  refine e.trans (Cert.Softmax.sinkAttend_congr σ _ _ _ hσ (row_ne_top A B u kv g hA r) _ (row_self A B u kv g hA r) fun x hx => ?_)
  refine hv x (valid_window u r x ?_)
  by_contra hc
  exact hx (row_bot A B u kv g r x hc)

/-- The reference's output at a row and a lane, by block, key head, query head and lane within the head. -/
theorem refOut_at (r : Fin 128) (d : Fin 64) :
    refOut A s (ix3 B ⟨u * 128 + r, by omega⟩ ⟨(kv * 8 + g) * 64 + d, by omega⟩) =
      Cert.Softmax.sinkAttend (s (ix1 ⟨kv * 8 + g, by omega⟩)) (row A B u r kv g) (fun x => vBlocks A (ix5 B u x kv d)) := by
  have e1 : (⟨(u * 128 + r) / 128, by omega⟩ : Fin 32) = u := Fin.ext (by simp only []; omega)
  have e2 : (⟨(u * 128 + r) % 128, by omega⟩ : Fin 128) = r := Fin.ext (by simp only []; omega)
  have e3 : (⟨((kv * 8 + g) * 64 + d) / 512, by omega⟩ : Fin 2) = kv := Fin.ext (by simp only []; omega)
  have e4 : (⟨((kv * 8 + g) * 64 + d) / 64 % 8, by omega⟩ : Fin 8) = g := Fin.ext (by simp only []; omega)
  have e5 : (⟨((kv * 8 + g) * 64 + d) % 64, by omega⟩ : Fin 64) = d := Fin.ext (by simp only []; omega)
  have e6 : (⟨((kv * 8 + g) * 64 + d) / 512 * 8 + ((kv * 8 + g) * 64 + d) / 64 % 8, by omega⟩ : Fin 16) = ⟨kv * 8 + g, by omega⟩ :=
    Fin.ext (by simp only []; omega)
  rw [Cert.WindowReference.out_at]
  simp only [e1, e2, e3, e4, e5, e6]

/-! ### One pair of heads -/

section pair

variable (p : Fin 8)

/-- The key head of a pair. -/
abbrev keyHead (p : Fin 8) : Fin 2 := ⟨p / 4, by omega⟩

/-- A pair's heads among the eight query heads of their key head. -/
abbrev member (p : Fin 8) (t : Fin 2) : Fin 8 := ⟨2 * (p % 4) + t, by omega⟩

/-- A pair's heads among all sixteen. -/
abbrev head (p : Fin 8) (t : Fin 2) : Fin 16 := ⟨keyHead p * 8 + member p t, by simp only []; omega⟩

/-- `x` holds 128 columns of `A` from column `col` on, of 128 rows from row `row` of batch `B` on. -/
def Reads (x : Vec Ideal S1x128x128 .f32) (row col : Nat) : Prop :=
  ∀ (r l : Fin 128) (i : S8x4096x6656.Idx), (i 0 : ℕ) = B → (i 1 : ℕ) = row + r → (i 2 : ℕ) = col + l → x (ix3 0 r l) = A i

variable (hA : Finite A) (hs : ∀ h, s (ix1 h) ≠ (⊤ : EReal)) (hf : f.val = if u.val = 0 then 1 else 0)
  (hq : Reads A B q (u * 128) (5120 + 128 * p)) (hk : Reads A B k (u * 128) 6144) (hkp : Reads A B kp ((u - 1) * 128) 6144)
  (hv : Reads A B v (u * 128) 6272) (hvp : Reads A B vp ((u - 1) * 128) 6272)
  (hK : ∀ (x : Fin 256) (t : Fin 2) (d : Fin 64), K (ix2 x (lane t d)) = k0_pay4 kp k (ix2 x (lane (keyHead p) d)))
  (hV : ∀ (x : Fin 256) (t : Fin 2) (d : Fin 64), V (ix2 x (lane t d)) = k0_pay4 vp v (ix2 x (lane (keyHead p) d)))
  (hb : ∀ (r : Fin 128) (x : Fin 256), b (ix4 0 0 r x) = biasTable (ix4 f (head p t) r x))
  (hb0 : ∀ (r : Fin 128) (x : Fin 256), b0 (ix4 0 0 r x) = biasTable (ix4 f (head p 0) r x))
  (hb1 : ∀ (r : Fin 128) (x : Fin 256), b1 (ix4 0 0 r x) = biasTable (ix4 f (head p 1) r x))
  (hσ0 : σ0 = s (ix1 (head p 0))) (hσ1 : σ1 = s (ix1 (head p 1)))

include hq in
/-- The pair's queries are the reference's. -/
theorem query_at (r : Fin 128) (d : Fin 64) :
    q (ix3 0 r ⟨64 * t + d, by omega⟩) = qBlocks A (ix6 B u r (keyHead p) (member p t) d) := by
  rw [Cert.WindowReference.qBlocks_at]
  exact hq r _ _ rfl rfl (by
    show 5120 + ((p.val / 4 * 8 + (2 * (p.val % 4) + t.val)) * 64 + d.val) = 5120 + 128 * p.val + (64 * t.val + d.val); omega)

include hk hkp hK in
/-- The pair's keys, the previous block's and the block's own, are the reference's where there is a previous block. -/
theorem key_at (x : Fin 256) (d : Fin 64) (hx : u.val ≠ 0 ∨ 128 ≤ x.val) :
    K (ix2 x ⟨64 * t + d, by omega⟩) = kBlocks A (ix5 B u x (keyHead p) d) := by
  refine (hK x t d).trans ?_
  rw [both_at, Cert.WindowReference.kBlocks_at, dif_pos (show 128 ≤ u.val * 128 + x.val by omega)]
  split
  · exact hkp _ _ _ rfl (by show u.val * 128 + x.val - 128 = (u.val - 1) * 128 + x.val; omega)
      (by show 6144 + (p.val / 4 * 64 + d.val) = 6144 + (64 * (p.val / 4) + d.val); omega)
  · exact hk _ _ _ rfl (by show u.val * 128 + x.val - 128 = u.val * 128 + (x.val - 128); omega)
      (by show 6144 + (p.val / 4 * 64 + d.val) = 6144 + (64 * (p.val / 4) + d.val); omega)

include hv hvp hV in
/-- The pair's values likewise. -/
theorem value_at (x : Fin 256) (d : Fin 64) (hx : u.val ≠ 0 ∨ 128 ≤ x.val) :
    V (ix2 x ⟨64 * t + d, by omega⟩) = vBlocks A (ix5 B u x (keyHead p) d) := by
  refine (hV x t d).trans ?_
  rw [both_at, Cert.WindowReference.vBlocks_at, dif_pos (show 128 ≤ u.val * 128 + x.val by omega)]
  split
  · exact hvp _ _ _ rfl (by show u.val * 128 + x.val - 128 = (u.val - 1) * 128 + x.val; omega)
      (by show 6272 + (p.val / 4 * 64 + d.val) = 6272 + (64 * (p.val / 4) + d.val); omega)
  · exact hv _ _ _ rfl (by show u.val * 128 + x.val - 128 = u.val * 128 + (x.val - 128); omega)
      (by show 6272 + (p.val / 4 * 64 + d.val) = 6272 + (64 * (p.val / 4) + d.val); omega)

include hf hq hk hkp hK hb in
/-- Either head's score row is the reference's. -/
theorem head_row (r : Fin 128) : headRow K q b t r = row A B u r (keyHead p) (member p t) :=
  row_eq A B u f _ _ t K q b hf (query_at A B u f t q p hq) (key_at A B u f t K kp k p hk hkp hK) hb r

include hA hs hf hq hk hkp hv hvp hK hV hb0 hb1 hσ0 hσ1 in
/-- What a step stores for pair `p` is the reference's output at the pair's lanes. -/
theorem pair_out (r l : Fin 128) (i : S8x4096x1024.Idx) (h0 : (i 0 : ℕ) = B) (h1 : (i 1 : ℕ) = u * 128 + r) (h2 : (i 2 : ℕ) = 128 * p + l) :
    outPair K V q b0 b1 σ0 σ1 (ix3 0 r l) = refOut A s i := by
  by_cases hl : l.val < 64
  · have el : l = ⟨64 * (0 : Fin 2) + (⟨l, hl⟩ : Fin 64), by omega⟩ := Fin.ext (by simp)
    have ei : i = ix3 B ⟨u * 128 + r, by omega⟩ ⟨(keyHead p * 8 + member p 0) * 64 + (⟨l, hl⟩ : Fin 64), by simp only []; omega⟩ := by
      funext a; apply Fin.ext
      match a with
      | ⟨0, _⟩ => exact h0
      | ⟨1, _⟩ => exact h1
      | ⟨2, _⟩ => exact h2.trans (by show 128 * p.val + l.val = (p.val / 4 * 8 + (2 * (p.val % 4) + 0)) * 64 + l.val; omega)
    rw [out_even _ _ _ _ _ _ _ _ _ hl, head_row A B u f 0 K q kp k b0 p hf hq hk hkp hK hb0, ei, refOut_at, hσ0]
    refine Eq.trans ?_ (attend_point A B u _ _ 0 V _ hA (hs _) ⟨l, hl⟩ (fun x hx => value_at A B u f 0 V vp v p hv hvp hV x ⟨l, hl⟩ hx) r)
    rw [← el]
  · have el : l = ⟨64 * (1 : Fin 2) + (⟨l - 64, by omega⟩ : Fin 64), by simp only []; omega⟩ := Fin.ext (by simp; omega)
    have ei : i = ix3 B ⟨u * 128 + r, by omega⟩ ⟨(keyHead p * 8 + member p 1) * 64 + (⟨l - 64, by omega⟩ : Fin 64), by simp only []; omega⟩ := by
      funext a; apply Fin.ext
      match a with
      | ⟨0, _⟩ => exact h0
      | ⟨1, _⟩ => exact h1
      | ⟨2, _⟩ => exact h2.trans (by show 128 * p.val + l.val = (p.val / 4 * 8 + (2 * (p.val % 4) + 1)) * 64 + (l.val - 64); omega)
    rw [out_odd _ _ _ _ _ _ _ _ _ hl, head_row A B u f 1 K q kp k b1 p hf hq hk hkp hK hb1, ei, refOut_at, hσ1]
    refine Eq.trans ?_ (attend_point A B u _ _ 1 V _ hA (hs _) ⟨l - 64, by omega⟩
      (fun x hx => value_at A B u f 1 V vp v p hv hvp hV x ⟨l - 64, by omega⟩ hx) r)
    rw [← el]

end pair

end Cert.Window

end
-- ==== Proof.Window.lean ====
module

public import proofs.«01_k».proof.Proof.WindowPoint
public import proofs.«01_k».proof.Proof.Attention
public import Idealize.ShloMosaic.Lib.Claim
public import Idealize.ShloMosaic.Lib.Pipeline.ValueKit

@[expose] public section

set_option maxRecDepth 16384

noncomputable section

namespace Cert.Window

open Cert.Kernel8Ideal Cert.Kernel8Ideal.Gen Idealize.ShloMosaic Idealize.ShloMosaic.TcCoe Idealize.SL.Sem
open Idealize.ShloMosaic.Pipeline (Dat)
open Cert.Attention (biasTable tile_eq)

variable (m : (ℓ : Loc nD τ sig) → Buf (Elt Ideal) ℓ)

/-- The block of every window at every step: the step's batch and block of rows, the queries', keys' and values' columns,
and for the previous block the row block before, the first one standing in for its own predecessor. -/
theorem idx : ∀ t : Fin cfg0.N, win0_0.index t = ![t.val / 32, t.val % 32, 5] ∧ win0_1.index t = ![t.val / 32, t.val % 32, 48]
    ∧ win0_2.index t = ![t.val / 32, t.val % 32, 49] ∧ win0_3.index t = ![t.val / 32, t.val % 32 - 1, 48]
    ∧ win0_4.index t = ![t.val / 32, t.val % 32 - 1, 49] ∧ win0_5.index t = ![0, 0, 0, 0]
    ∧ win0_6.index t = ![0] ∧ win0_7.index t = ![t.val / 32, t.val % 32, 0] :=
  (by decide +kernel : ∀ t : Fin grid0.N, _)

/-- The queries of a step are rows and columns of the projection. -/
theorem block0 (c : Dev nD) (t : Fin cfg0.N) (r : Fin 128) (l : Fin 1024) (i : S8x4096x6656.Idx)
    (h0 : (i 0 : ℕ) = t.val / 32) (h1 : (i 1 : ℕ) = t.val % 32 * 128 + r) (h2 : (i 2 : ℕ) = 5120 + l) :
    X0_0 m c t (ix3 0 r l) = m ((c : Thread nD τ).loc main_arg0) i := by
  unfold X0_0 Pipeline.Window.fill
  rw [dif_pos (moved0_0 t _)]
  blk_simp [iblk]
  entry_read
  pointwise
  blk_ext [idx t]

/-- The keys of a step are rows and columns of the projection. -/
theorem block1 (c : Dev nD) (t : Fin cfg0.N) (r l : Fin 128) (i : S8x4096x6656.Idx)
    (h0 : (i 0 : ℕ) = t.val / 32) (h1 : (i 1 : ℕ) = t.val % 32 * 128 + r) (h2 : (i 2 : ℕ) = 6144 + l) :
    iblk m c 1 t (ix3 0 r l) = m ((c : Thread nD τ).loc main_arg0) i := by
  blk_simp [iblk]
  entry_read
  pointwise
  blk_ext [idx t]

/-- The values of a step are rows and columns of the projection. -/
theorem block2 (c : Dev nD) (t : Fin cfg0.N) (r l : Fin 128) (i : S8x4096x6656.Idx)
    (h0 : (i 0 : ℕ) = t.val / 32) (h1 : (i 1 : ℕ) = t.val % 32 * 128 + r) (h2 : (i 2 : ℕ) = 6272 + l) :
    iblk m c 2 t (ix3 0 r l) = m ((c : Thread nD τ).loc main_arg0) i := by
  blk_simp [iblk]
  entry_read
  pointwise
  blk_ext [idx t]

/-- The previous block's keys of a step are rows and columns of the projection. -/
theorem block3 (c : Dev nD) (t : Fin cfg0.N) (r l : Fin 128) (i : S8x4096x6656.Idx)
    (h0 : (i 0 : ℕ) = t.val / 32) (h1 : (i 1 : ℕ) = (t.val % 32 - 1) * 128 + r) (h2 : (i 2 : ℕ) = 6144 + l) :
    iblk m c 3 t (ix3 0 r l) = m ((c : Thread nD τ).loc main_arg0) i := by
  blk_simp [iblk]
  entry_read
  pointwise
  blk_ext [idx t]

/-- The previous block's values of a step are rows and columns of the projection. -/
theorem block4 (c : Dev nD) (t : Fin cfg0.N) (r l : Fin 128) (i : S8x4096x6656.Idx)
    (h0 : (i 0 : ℕ) = t.val / 32) (h1 : (i 1 : ℕ) = (t.val % 32 - 1) * 128 + r) (h2 : (i 2 : ℕ) = 6272 + l) :
    iblk m c 4 t (ix3 0 r l) = m ((c : Thread nD τ).loc main_arg0) i := by
  blk_simp [iblk]
  entry_read
  pointwise
  blk_ext [idx t]

/-- The host's bias table. -/
theorem bias_entry (c : Dev nD) : V m c main_v34 = biasTable := by
  simp only [V, hostOps0, hostOps0_1, List.flatten_cons, List.flatten_nil, List.cons_append, List.nil_append, List.append_nil]
  simp only [StableHlo.TRef.unary, StableHlo.TRef.ternary]
  after_results_simp
  rfl

/-- Every step reads the whole bias table. -/
theorem block5 (c : Dev nD) (t : Fin cfg0.N) (f : Fin 2) (h : Fin 16) (r : Fin 128) (x : Fin 256) :
    iblk m c 5 t (ix4 f h r x) = biasTable (ix4 f h r x) := by
  have e : iblk m c 5 t (ix4 f h r x) = V m c main_v34 (ix4 f h r x) := by
    blk_simp [iblk]
    blk_ext [idx t]
  rw [e, bias_entry]

/-- Every step reads all sinks. -/
theorem block6 (c : Dev nD) (t : Fin cfg0.N) (h : Fin 16) :
    iblk m c 6 t (ix1 h) = m ((c : Thread nD τ).loc main_arg1) (ix1 h) := by
  blk_simp [iblk]
  entry_read
  pointwise
  blk_ext [idx t]

/-! ### A step's reads, pair by pair -/

/-- A step's batch. -/
def batch (t : Fin cfg0.N) : Fin 8 := ⟨t.val / 32, Nat.div_lt_of_lt_mul (lt_of_lt_of_eq t.isLt (by decide +kernel))⟩

/-- A step's block of rows. -/
def unit (t : Fin cfg0.N) : Fin 32 := ⟨t.val % 32, Nat.mod_lt _ (by decide)⟩

/-- The half of the bias table a step reads: the second for the first block of rows, which has no previous block. -/
def half (t : Fin cfg0.N) : Fin 2 := if t.val % 32 = 0 then 1 else 0

/-- That half, by the block of rows. -/
theorem half_val (t : Fin cfg0.N) : (half t).val = if (unit t).val = 0 then 1 else 0 := by
  unfold half unit
  split <;> rfl

/-- 128 lanes of a block of 1024 lanes, from lane `off` on. -/
theorem lanes (X : Vec Ideal S1x128x1024 .f32) (off : Nat) (inb) (r l : Fin 128) (hl : off + l < 1024) :
    View.ld X (Rect.unit ![0, 0, off] ![1, 128, 128] inb) (ix3 0 r l) = X (ix3 0 r ⟨off + l, hl⟩) :=
  congrArg X (funext fun a => Fin.ext (by
    match a with
    | ⟨0, _⟩ => rfl
    | ⟨1, _⟩ => show 0 + 1 * r.val = r.val; omega
    | ⟨2, _⟩ => show off + 1 * l.val = off + l.val; omega))

/-- The queries of one pair. -/
theorem reads0 (c : Dev nD) (t : Fin cfg0.N) (p : Fin 8) (off : Nat) (ho : off = 128 * p.val) (inb) :
    Reads (m ((c : Thread nD τ).loc main_arg0)) (batch t) (View.ld (X0_0 m c t) (Rect.unit ![0, 0, off] ![1, 128, 128] inb)) ((unit t).val * 128)
      (5120 + 128 * p) :=
  fun r l i h0 h1 h2 => (lanes _ off inb r l (by omega)).trans
    (block0 m c t r ⟨off + l, by omega⟩ i h0 h1 (by show (i 2).val = 5120 + (off + l.val); omega))

/-- The keys of both key heads. -/
theorem reads1 (c : Dev nD) (t : Fin cfg0.N) :
    Reads (m ((c : Thread nD τ).loc main_arg0)) (batch t) (iblk m c 1 t) ((unit t).val * 128) 6144 :=
  fun r l i h0 h1 h2 => block1 m c t r l i h0 h1 h2

/-- The values of both key heads. -/
theorem reads2 (c : Dev nD) (t : Fin cfg0.N) :
    Reads (m ((c : Thread nD τ).loc main_arg0)) (batch t) (iblk m c 2 t) ((unit t).val * 128) 6272 :=
  fun r l i h0 h1 h2 => block2 m c t r l i h0 h1 h2

/-- The previous block's keys of both key heads. -/
theorem reads3 (c : Dev nD) (t : Fin cfg0.N) :
    Reads (m ((c : Thread nD τ).loc main_arg0)) (batch t) (iblk m c 3 t) (((unit t).val - 1) * 128) 6144 :=
  fun r l i h0 h1 h2 => block3 m c t r l i h0 h1 h2

/-- The previous block's values of both key heads. -/
theorem reads4 (c : Dev nD) (t : Fin cfg0.N) :
    Reads (m ((c : Thread nD τ).loc main_arg0)) (batch t) (iblk m c 4 t) (((unit t).val - 1) * 128) 6272 :=
  fun r l i h0 h1 h2 => block4 m c t r l i h0 h1 h2

/-- The row of the bias table a step reads for a head. -/
theorem bias_off : ∀ (t : Fin cfg0.N) (p : Fin 8) (e : Fin 2), k0_off1 (grid0.coords t) (BitVec.ofNat 32 (2 * p.val)) (BitVec.ofNat 32 e.val)
    = ![(if t.val % 32 = 0 then 1 else 0), (head p e).val, 0, 0] :=
  (by decide +kernel : ∀ (t : Fin grid0.N) (p : Fin 8) (e : Fin 2), _)

/-- The sink a step reads for a head. -/
theorem sink_off : ∀ (t : Fin cfg0.N) (p : Fin 8) (e : Fin 2), k0_off2 (grid0.coords t) (BitVec.ofNat 32 (2 * p.val)) (BitVec.ofNat 32 e.val)
    = ![(head p e).val] :=
  (by decide +kernel : ∀ (t : Fin grid0.N) (p : Fin 8) (e : Fin 2), _)

/-- One head's bias rows. -/
theorem bias_rows (c : Dev nD) (t : Fin cfg0.N) (p : Fin 8) (e : Fin 2) (off : Fin 4 → Nat)
    (ho : off = ![(if t.val % 32 = 0 then 1 else 0), (head p e).val, 0, 0]) (inb) (r : Fin 128) (x : Fin 256) :
    View.ld (iblk m c 5 t) (Rect.unit off ![1, 1, 128, 256] inb) (ix4 0 0 r x) = biasTable (ix4 (half t) (head p e) r x) := by
  subst ho
  refine Eq.trans ?_ (block5 m c t (half t) (head p e) r x)
  refine congrArg (iblk m c 5 t) (funext fun a => Fin.ext ?_)
  match a with
  | ⟨0, _⟩ =>
    show (if t.val % 32 = 0 then 1 else 0) + 1 * 0 = (half t).val
    rw [half_val]; rfl
  | ⟨1, _⟩ => show (head p e).val + 1 * 0 = (head p e).val; omega
  | ⟨2, _⟩ => show 0 + 1 * r.val = r.val; omega
  | ⟨3, _⟩ => show 0 + 1 * x.val = x.val; omega

/-- One head's sink. -/
theorem sink_read (c : Dev nD) (t : Fin cfg0.N) (p : Fin 8) (e : Fin 2) (off : Fin 1 → Nat) (ho : off = ![(head p e).val]) (inb) (hn) :
    View.ld (iblk m c 6 t) (Rect.unit off ![1] inb) (Shape.Idx.first hn) = m ((c : Thread nD τ).loc main_arg1) (ix1 (head p e)) := by
  subst ho
  refine Eq.trans ?_ (block6 m c t (head p e))
  refine congrArg (iblk m c 6 t) (funext fun a => Fin.ext ?_)
  match a with
  | ⟨0, _⟩ => show (head p e).val + 1 * 0 = (head p e).val; omega

/-- What a step stores for one pair of heads, of its reads, is the reference's output. -/
theorem step_out (c : Dev nD) (hA : Finite (m ((c : Thread nD τ).loc main_arg0)))
    (hs : ∀ h, m ((c : Thread nD τ).loc main_arg1) (ix1 h) ≠ (⊤ : EReal)) (t : Fin cfg0.N) (p : Fin 8) (K V : FVec Ideal S256x128 .f32)
    (hK : ∀ (x : Fin 256) (e : Fin 2) (d : Fin 64), K (ix2 x (lane e d)) =
      k0_pay4 (iblk m c 3 t) (iblk m c 1 t) (ix2 x (lane (keyHead p) d)))
    (hV : ∀ (x : Fin 256) (e : Fin 2) (d : Fin 64), V (ix2 x (lane e d)) =
      k0_pay4 (iblk m c 4 t) (iblk m c 2 t) (ix2 x (lane (keyHead p) d)))
    (off : Nat) (ho : off = 128 * p.val) (inb) (off0 off1 : Fin 4 → Nat)
    (ho0 : off0 = ![(if t.val % 32 = 0 then 1 else 0), (head p 0).val, 0, 0])
    (ho1 : off1 = ![(if t.val % 32 = 0 then 1 else 0), (head p 1).val, 0, 0]) (inb0 inb1)
    (so0 so1 : Fin 1 → Nat) (hso0 : so0 = ![(head p 0).val]) (hso1 : so1 = ![(head p 1).val]) (sinb0 sinb1) (hn) (r l : Fin 128)
    (i : S8x4096x1024.Idx) (h0 : (i 0 : ℕ) = t.val / 32) (h1 : (i 1 : ℕ) = t.val % 32 * 128 + r) (h2 : (i 2 : ℕ) = 128 * p + l) :
    outPair K V (View.ld (X0_0 m c t) (Rect.unit ![0, 0, off] ![1, 128, 128] inb)) (View.ld (iblk m c 5 t) (Rect.unit off0 ![1, 1, 128, 256] inb0))
      (View.ld (iblk m c 5 t) (Rect.unit off1 ![1, 1, 128, 256] inb1)) (View.ld (iblk m c 6 t) (Rect.unit so0 ![1] sinb0) (Shape.Idx.first hn))
      (View.ld (iblk m c 6 t) (Rect.unit so1 ![1] sinb1) (Shape.Idx.first hn)) (ix3 0 r l)
    = Cert.WindowReference.refOut (m ((c : Thread nD τ).loc main_arg0)) (m ((c : Thread nD τ).loc main_arg1)) i :=
  pair_out _ _ (batch t) (unit t) (half t) K V _ (iblk m c 3 t) (iblk m c 1 t) (iblk m c 4 t) (iblk m c 2 t) _ _ _ _ p hA hs (half_val t)
    (reads0 m c t p off ho inb) (reads1 m c t) (reads3 m c t) (reads2 m c t) (reads4 m c t) hK hV
    (bias_rows m c t p 0 off0 ho0 inb0) (bias_rows m c t p 1 off1 ho1 inb1) (sink_read m c t p 0 so0 hso0 sinb0 hn) (sink_read m c t p 1 so1 hso1 sinb1 hn)
    r l i h0 h1 h2

set_option maxHeartbeats 2000000 in
/-- The call's output array is the reference's. -/
theorem final7 (c : Dev nD) (hA : Finite (m ((c : Thread nD τ).loc main_arg0)))
    (hs : ∀ h, m ((c : Thread nD τ).loc main_arg1) (ix1 h) ≠ (⊤ : EReal)) :
    (dats m 0 c).arrAt 7 cfg0.N = Cert.WindowReference.refOut (m ((c : Thread nD τ).loc main_arg0)) (m ((c : Thread nD τ).loc main_arg1)) := by
  refine (dats m 0 c).arrAt_eq_of_covers 7 _ (by decide +kernel) fun t _ y => ?_
  blk_simp
  rw [after0_7]
  unfold Gen.outsAt0
  frame_out
  canon_tiles x h
  · refine (congrFun (out7 _ _ _ _ _ _ _) x).trans ?_
    rw [tile_eq x]
    refine step_out m c hA hs t 7 _ _ (second_at _ _) (second_at _ _) 896 rfl _ _ _ (bias_off t 7 0) (bias_off t 7 1) _ _ _ _
      (sink_off t 7 0) (sink_off t 7 1) _ _ _ (x 1) (x 2) _ ?_ ?_ ?_ <;>
      (blk_simp [idx t] <;> omega)
  · refine (congrFun (out6 _ _ _ _ _ _ _) x).trans ?_
    rw [tile_eq x]
    refine step_out m c hA hs t 6 _ _ (second_at _ _) (second_at _ _) 768 rfl _ _ _ (bias_off t 6 0) (bias_off t 6 1) _ _ _ _
      (sink_off t 6 0) (sink_off t 6 1) _ _ _ (x 1) (x 2) _ ?_ ?_ ?_ <;>
      (blk_simp [idx t] <;> omega)
  · refine (congrFun (out5 _ _ _ _ _ _ _) x).trans ?_
    rw [tile_eq x]
    refine step_out m c hA hs t 5 _ _ (second_at _ _) (second_at _ _) 640 rfl _ _ _ (bias_off t 5 0) (bias_off t 5 1) _ _ _ _
      (sink_off t 5 0) (sink_off t 5 1) _ _ _ (x 1) (x 2) _ ?_ ?_ ?_ <;>
      (blk_simp [idx t] <;> omega)
  · refine (congrFun (out4 _ _ _ _ _ _ _) x).trans ?_
    rw [tile_eq x]
    refine step_out m c hA hs t 4 _ _ (second_at _ _) (second_at _ _) 512 rfl _ _ _ (bias_off t 4 0) (bias_off t 4 1) _ _ _ _
      (sink_off t 4 0) (sink_off t 4 1) _ _ _ (x 1) (x 2) _ ?_ ?_ ?_ <;>
      (blk_simp [idx t] <;> omega)
  · refine (congrFun (out3 _ _ _ _ _ _ _) x).trans ?_
    rw [tile_eq x]
    refine step_out m c hA hs t 3 _ _ (first_at _ _) (first_at _ _) 384 rfl _ _ _ (bias_off t 3 0) (bias_off t 3 1) _ _ _ _
      (sink_off t 3 0) (sink_off t 3 1) _ _ _ (x 1) (x 2) _ ?_ ?_ ?_ <;>
      (blk_simp [idx t] <;> omega)
  · refine (congrFun (out2 _ _ _ _ _ _ _) x).trans ?_
    rw [tile_eq x]
    refine step_out m c hA hs t 2 _ _ (first_at _ _) (first_at _ _) 256 rfl _ _ _ (bias_off t 2 0) (bias_off t 2 1) _ _ _ _
      (sink_off t 2 0) (sink_off t 2 1) _ _ _ (x 1) (x 2) _ ?_ ?_ ?_ <;>
      (blk_simp [idx t] <;> omega)
  · refine (congrFun (out1 _ _ _ _ _ _ _) x).trans ?_
    rw [tile_eq x]
    refine step_out m c hA hs t 1 _ _ (first_at _ _) (first_at _ _) 128 rfl _ _ _ (bias_off t 1 0) (bias_off t 1 1) _ _ _ _
      (sink_off t 1 0) (sink_off t 1 1) _ _ _ (x 1) (x 2) _ ?_ ?_ ?_ <;>
      (blk_simp [idx t] <;> omega)
  · rw [tile_eq x]
    refine step_out m c hA hs t 0 _ _ (first_at _ _) (first_at _ _) 0 rfl _ _ _ (bias_off t 0 0) (bias_off t 0 1) _ _ _ _
      (sink_off t 0 0) (sink_off t 0 1) _ _ _ (x 1) (x 2) _ ?_ ?_ ?_ <;>
      (blk_simp [idx t] <;> omega)

end Cert.Window

end
-- ==== Proof.WindowClaim.lean ====
module

public import proofs.«01_k».proof.Defs
public import proofs.«01_k».proof.Proof.Window
public import proofs.«01_k».proof.Proof.AttentionClaim
public import proofs.«01_k».proof.Proof.Gen.Kernel8Ideal.Value
public import proofs.«01_k».proof.Proof.Gen.Reference8Ideal.Run
public import Idealize.ShloMosaic.Lib.Claim

@[expose] public section

set_option maxRecDepth 16384

open Idealize.ShloMosaic Idealize.ShloMosaic.TcCoe Idealize.SL.Sem

noncomputable section

namespace Cert.Window

/-- The shape relations of the precondition's own operations hold. -/
theorem preFacts : Cert.Pre_finite_queries_keys_sinks_below_infinity.Facts :=
  ⟨by decide, by decide, by decide, by decide, by decide⟩

instance : Cert.Pre_finite_queries_keys_sinks_below_infinity.Facts := preFacts

/-- A number below infinity is not infinity. -/
theorem ne_top_of_lt (x : EReal) (h : BitVec.ofBool (decide (x < Ideal.ofBits FTy.f32 2139095040#32)) = 1#1) : x ≠ ⊤ := by
  have ht : Ideal.ofBits FTy.f32 2139095040#32 = (⊤ : EReal) := by simp [Ideal.ofBits, Ideal.ieee]
  rw [ht] at h
  rintro rfl
  rw [show decide ((⊤ : EReal) < (⊤ : EReal)) = false from decide_eq_false (lt_irrefl _)] at h
  exact absurd h (by decide)

/-- Under the precondition every query and key entry is a real number. -/
theorem finite_of_pre (A : FVec Ideal Cert.Kernel8Ideal.S8x4096x6656 .f32) (s : FVec Ideal Cert.Kernel8Ideal.S16 .f32)
    (hq : (Cert.Pre_finite_queries_keys_sinks_below_infinity.fn A s).1 = (fun _ => 1#1))
    (hk : (Cert.Pre_finite_queries_keys_sinks_below_infinity.fn A s).2.1 = (fun _ => 1#1)) : Finite A := by
  constructor
  · intro b n l h0 h1
    have e := congrFun hq (ix3 b n ⟨l - 5120, by omega⟩)
    simp only [Cert.Pre_finite_queries_keys_sinks_below_infinity.fn] at e
    pointwise at e
    have hx : (⟨5120 + (l.val - 5120), by omega⟩ : Fin 6656) = l := Fin.ext (by show 5120 + (l.val - 5120) = l.val; omega)
    rw [← hx]
    exact Cert.Attention.isReal_of_lt _ e
  · intro b n l h0 h1
    have e := congrFun hk (ix3 b n ⟨l - 6144, by omega⟩)
    simp only [Cert.Pre_finite_queries_keys_sinks_below_infinity.fn] at e
    pointwise at e
    have hx : (⟨6144 + (l.val - 6144), by omega⟩ : Fin 6656) = l := Fin.ext (by show 6144 + (l.val - 6144) = l.val; omega)
    rw [← hx]
    exact Cert.Attention.isReal_of_lt _ e

/-- Under the precondition no sink is `+∞`. -/
theorem sinks_of_pre (A : FVec Ideal Cert.Kernel8Ideal.S8x4096x6656 .f32) (s : FVec Ideal Cert.Kernel8Ideal.S16 .f32)
    (hs : (Cert.Pre_finite_queries_keys_sinks_below_infinity.fn A s).2.2 = (fun _ => 1#1)) (h : Fin 16) : s (ix1 h) ≠ (⊤ : EReal) := by
  have e := congrFun hs (ix1 h)
  simp only [Cert.Pre_finite_queries_keys_sinks_below_infinity.fn] at e
  pointwise at e
  exact ne_top_of_lt _ e

/-- The sliding-window attention with sinks computes its reference where the queries and keys are real numbers and the
    sinks are below infinity. -/
theorem window : algebraic_Kernel8Ideal_Reference8Ideal_pre_finite_queries_keys_sinks_below_infinity := fun m g m' g' hpre hagree =>
  ⟨fun c => Cert.WindowReference.refOut (m ((c.tc : Thread _ Cert.Kernel8Ideal.τ).loc Cert.Kernel8Ideal.main_arg0))
      (m ((c.tc : Thread _ Cert.Kernel8Ideal.τ).loc Cert.Kernel8Ideal.main_arg1)),
    (θ_run _ _ _).mono (fun r h c => ⟨(h c).1.trans (final7 m c (finite_of_pre _ _ (hpre c).1 (hpre c).2.1) (sinks_of_pre _ _ (hpre c).2.2)), (h c).2⟩)
      (Cert.Kernel8Ideal.Value.run_blocks m g),
    (θ_run _ _ _).mono (fun r h c => ⟨(h c).1.trans ((Cert.WindowReference.out_eq m' c).trans
        (congrArg₂ Cert.WindowReference.refOut (hagree c).1 (hagree c).2)), (h c).2⟩)
      (Cert.Reference8Ideal.Value.run m' g')⟩

end Cert.Window

end
-- ==== Proof.Mlp.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Mlp

open Cert.Kernel3Ideal Cert.Kernel3Ideal.Gen Idealize.ShloMosaic Idealize.ShloMosaic.TcCoe Idealize.SL.Sem
open Idealize.ShloMosaic.Pipeline (Dat)

/-- A sum over 4096 hidden units, taken in eight chunks of 512 added from the left. -/
theorem sum_chunks {M : Type} [AddCommMonoid M] (f : Fin 4096 → M) :
    ∑ i, f i = (∑ i : Fin 512, f ⟨i, by omega⟩) + (∑ i : Fin 512, f ⟨512 + i, by omega⟩) + (∑ i : Fin 512, f ⟨1024 + i, by omega⟩)
      + (∑ i : Fin 512, f ⟨1536 + i, by omega⟩) + (∑ i : Fin 512, f ⟨2048 + i, by omega⟩) + (∑ i : Fin 512, f ⟨2560 + i, by omega⟩)
      + (∑ i : Fin 512, f ⟨3072 + i, by omega⟩) + (∑ i : Fin 512, f ⟨3584 + i, by omega⟩) := by
  have h := (finProdFinEquiv (m := 8) (n := 512)).sum_comp f
  rw [← h, Fintype.sum_prod_type, Fin.sum_univ_eight]
  refine congrArg₂ _ (congrArg₂ _ (congrArg₂ _ (congrArg₂ _ (congrArg₂ _ (congrArg₂ _ (congrArg₂ _ ?_ ?_) ?_) ?_) ?_) ?_) ?_) ?_ <;>
    exact Finset.sum_congr rfl fun i _ => congrArg f (Fin.ext (by simp [finProdFinEquiv]; try omega))

/-- The squared rectified value of a hidden unit. -/
def act (z : EReal) : EReal := max z 0 * max z 0

/-- What a step stores, at an index. -/
theorem body_at (x0 : Vec Ideal S1024x1024 .f32) (x1 : Vec Ideal S1x1024 .f32) (x2 : Vec Ideal S1024x4096 .bf16)
    (x3 : Vec Ideal S4096x1024 .bf16) (x4 : Vec Ideal S1x1024 .f32) (y : S1024x1024.Idx) :
    out0_5 x0 x1 x2 x3 x4 y = (show EReal from x0 y)
      + ∑ f : Fin 4096, act (∑ k : Fin 1024, (show FVec Ideal S1024x1024 .bf16 from k0_pay3 x0 x1) (ix2 (y 0) k) * (show FVec Ideal S1024x4096 .bf16 from x2) (ix2 k f))
          * (show FVec Ideal S4096x1024 .bf16 from x3) (ix2 f (y 1)) := by
  rw [sum_chunks]
  canon_tiles x h
  obtain rfl : y = x := by blk_ext
  open_payloads
  pointwise [act]
  simp only [add_assoc]

/-- The normalised row `x k * rsqrt(mean x² + ε) * g k` at an index of the staged block. -/
theorem norm_at (x0 : Vec Ideal S1024x1024 .f32) (x1 : Vec Ideal S1x1024 .f32) (a k : Fin 1024) :
    k0_pay3 x0 x1 (ix2 a k) = (show FVec Ideal S1024x1024 .f32 from x0) (ix2 a k)
        * Ideal.rsqrt (Ideal.div (∑ i : Fin 1024, (show FVec Ideal S1024x1024 .f32 from x0) (ix2 a i) * (show FVec Ideal S1024x1024 .f32 from x0) (ix2 a i))
            (Ideal.ofBits FTy.f32 1149239296#32) + Ideal.ofBits FTy.f32 925353388#32)
        * (show FVec Ideal S1x1024 .f32 from x1) (ix2 0 k) := by
  pointwise [k0_pay3, k0_pay2]

/-- The reference's `rmsnorm(z, g)`: `z * rsqrt(mean z² + ε) * g` along the last axis. -/
def norm (z : FVec Ideal S8x4096x1024 .f32) (g : FVec Ideal S1024 .f32) : FVec Ideal S8x4096x1024 .f32 :=
  mulf (mulf z (broadcastInDim Cert.Reference3Ideal.S8x4096x1024 ![0, 1, 2] Cert.Reference3Ideal.Gen.bcast_S8x4096x1_S8x4096x1024_0_1_2
      (Host.rsqrt (addf (Host.divf (broadcastInDim Cert.Reference3Ideal.S8x4096x1 ![0, 1] Cert.Reference3Ideal.Gen.bcast_S8x4096_S8x4096x1_0_1
          (Host.reduceAdd (mulf z z) (constant Cert.Reference3Ideal.S_ .f32 0x00000000#32) Cert.Reference3Ideal.Gen.reducesTo_S8x4096x1024_S8x4096_d2 Cert.Reference3Ideal.Gen.h_S_))
        (broadcastInDim Cert.Reference3Ideal.S8x4096x1 ![] Cert.Reference3Ideal.Gen.bcast_S_S8x4096x1 (constant Cert.Reference3Ideal.S_ .f32 0x44800000#32)))
        (broadcastInDim Cert.Reference3Ideal.S8x4096x1 ![] Cert.Reference3Ideal.Gen.bcast_S_S8x4096x1 (constant Cert.Reference3Ideal.S_ .f32 0x3727C5AC#32))))))
    (broadcastInDim Cert.Reference3Ideal.S8x4096x1024 ![0, 1, 2] Cert.Reference3Ideal.Gen.bcast_S1x1x1024_S8x4096x1024_0_1_2
      (broadcastInDim Cert.Reference3Ideal.S1x1x1024 ![2] Cert.Reference3Ideal.Gen.bcast_S1024_S1x1x1024_2 g))

/-- The reference's hidden layer, `max(rmsnorm(x, g) @ w_up, 0)`. -/
def hidden (x : FVec Ideal S8x4096x1024 .f32) (g : FVec Ideal S1024 .f32) (wu : FVec Ideal S1024x4096 .f32) :
    FVec Ideal Cert.Reference3Ideal.S8x4096x4096 .f32 :=
  maximumf (Host.dotGeneral Cert.Reference3Ideal.dot_S8x4096x1024_S1024x4096_S8x4096x4096_2_0_01_1_n_n none (norm x g) wu)
    (broadcastInDim Cert.Reference3Ideal.S8x4096x4096 ![] Cert.Reference3Ideal.Gen.bcast_S_S8x4096x4096 (constant Cert.Reference3Ideal.S_ .f32 0x00000000#32))

/-- The reference's residual after the layer, `x + max(rmsnorm(x, g) @ w_up, 0)² @ w_down`. -/
def residual (x : FVec Ideal S8x4096x1024 .f32) (g : FVec Ideal S1024 .f32) (wu : FVec Ideal S1024x4096 .f32)
    (wd : FVec Ideal S4096x1024 .f32) : FVec Ideal S8x4096x1024 .f32 :=
  addf x (Host.dotGeneral Cert.Reference3Ideal.dot_S8x4096x4096_S4096x1024_S8x4096x1024_2_0_01_1_n_n none
    (mulf (hidden x g wu) (hidden x g wu)) wd)

/-- The reference's result: the residual with the two leading axes merged. -/
def ref (x : FVec Ideal S8x4096x1024 .f32) (g : FVec Ideal S1024 .f32) (wu : FVec Ideal S1024x4096 .f32)
    (wd : FVec Ideal S4096x1024 .f32) : FVec Ideal S32768x1024 .f32 :=
  shapeCast _ (residual x g wu wd) Cert.Reference3Ideal.Gen.shapeCasts_S8x4096x1024_S32768x1024

variable (m : (ℓ : Loc nD τ sig) → Buf (Elt Ideal) ℓ)

/-- The windows' block indices at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- Row `a` of point `t`'s block of the residual is row `1024 t + a` of the flattened residual. -/
theorem block0 (c : Dev nD) (t : Fin cfg0.N) (a k : Fin 1024) (j : S8x4096x1024.Idx)
    (h0 : (j 0 : ℕ) = (t.val * 1024 + a) / 4096) (h1 : (j 1 : ℕ) = (t.val * 1024 + a) % 4096) (h2 : (j 2 : ℕ) = k) :
    iblk m c 0 t (ix2 a k) = m ((c : Thread nD τ).loc main_arg0) j := by
  blk_simp [iblk]
  entry_read
  pointwise
  blk_ext [idx t]

/-- The scale block is the norm's scale. -/
theorem block1 (c : Dev nD) (t : Fin cfg0.N) (k : Fin 1024) :
    iblk m c 1 t (ix2 0 k) = m ((c : Thread nD τ).loc main_arg1) (ix1 k) := by
  blk_simp [iblk]
  entry_read
  pointwise
  blk_ext [idx t]

/-- The first weight block is the whole first weight. -/
theorem block2 (c : Dev nD) (t : Fin cfg0.N) (k : Fin 1024) (f : Fin 4096) :
    iblk m c 2 t (ix2 k f) = m ((c : Thread nD τ).loc main_arg2) (ix2 k f) := by
  blk_simp [iblk]
  entry_read
  pointwise
  blk_ext [idx t]

/-- The second weight block is the whole second weight. -/
theorem block3 (c : Dev nD) (t : Fin cfg0.N) (f : Fin 4096) (n : Fin 1024) :
    iblk m c 3 t (ix2 f n) = m ((c : Thread nD τ).loc main_arg3) (ix2 f n) := by
  blk_simp [iblk]
  entry_read
  pointwise
  blk_ext [idx t]

/-- What the body leaves at block index `y` of point `t` is the reference's entry at the array index `y` sits at. -/
theorem point (c : Dev nD) (t : Fin cfg0.N) (a n : Fin 1024) (j : S32768x1024.Idx)
    (h0 : (j 0 : ℕ) = t.val * 1024 + a) (h1 : (j 1 : ℕ) = n) :
    out0_5 (iblk m c 0 t) (iblk m c 1 t) (iblk m c 2 t) (iblk m c 3 t) (iblk m c 4 t) (ix2 a n)
      = ref (m ((c : Thread nD τ).loc main_arg0)) (m ((c : Thread nD τ).loc main_arg1)) (m ((c : Thread nD τ).loc main_arg2))
          (m ((c : Thread nD τ).loc main_arg3)) j := by
  have hx (k : Fin 1024) := block0 m c t a k (ix3 ⟨(j 0 : ℕ) / 4096, by idx_bounds; omega⟩ ⟨(j 0 : ℕ) % 4096, by omega⟩ k)
    (by simp [h0]) (by simp [h0]) (by simp)
  have hn : j 1 = n := Fin.ext h1
  rw [body_at]
  pointwise [act]
  simp only [norm_at, hx, block1, block2, block3]
  pointwise [ref, residual, hidden, norm]
  simp only [hn]

/-- The array after the run is the reference's result. -/
theorem final (c : Dev nD) : (dats m 0 c).arrAt 5 cfg0.N
    = ref (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]
  have hy : y = ix2 (y 0) (y 1) := by blk_ext
  refine Eq.trans (congrArg _ hy) (point m c t (y 0) (y 1) _ (by blk_simp [idx t]) (by blk_simp [idx t]))

end Cert.Mlp

end
-- ==== Proof.MlpFinalNorm.lean ====
module

public import proofs.«01_k».proof.Proof.Gen.Kernel2Ideal.Value
public import proofs.«01_k».proof.Proof.Gen.Reference2Ideal.Run
public import proofs.«01_k».proof.Proof.Mlp
public import Idealize.ShloMosaic.Lib.Pipeline.ValueKit
public import Idealize.ShloMosaic.Lib.Pointwise

@[expose] public section

set_option maxRecDepth 16384

noncomputable section

namespace Cert.MlpFinalNorm

open Cert.Kernel2Ideal Cert.Kernel2Ideal.Gen Idealize.ShloMosaic Idealize.ShloMosaic.TcCoe Idealize.SL.Sem
open Idealize.ShloMosaic.Pipeline (Dat)
open Cert.Mlp (act sum_chunks)

/-- The residual the body computes, before its final normalisation. -/
abbrev resid (x0 : Vec Ideal S1024x1024 .f32) (x1 : Vec Ideal S1x1024 .f32) (x2 : Vec Ideal S1024x4096 .bf16)
    (x3 : Vec Ideal S4096x1024 .bf16) (x4 : Vec Ideal S1x1024 .f32) : FVec Ideal S1024x1024 .f32 :=
  k0_pay8 (k0_pay11 x0 x1 x2 x3 x4) (k0_pay13 x0 x1 x2 x3 x4) (k0_pay14 x0 x1 x2 x3 x4) (k0_pay12 x0 x1 x2 x3 x4)
    (View.ld x3 r0_13) (View.ld x2 r0_14) (View.ld x3 r0_15) (View.ld x2 r0_16) (View.ld x3 r0_17)

/-- The residual at an index: the input plus one sum over the 4096 hidden units. -/
theorem resid_at (x0 : Vec Ideal S1024x1024 .f32) (x1 : Vec Ideal S1x1024 .f32) (x2 : Vec Ideal S1024x4096 .bf16)
    (x3 : Vec Ideal S4096x1024 .bf16) (x4 : Vec Ideal S1x1024 .f32) (a n : Fin 1024) :
    resid x0 x1 x2 x3 x4 (ix2 a n) = (show FVec Ideal S1024x1024 .f32 from x0) (ix2 a n)
      + ∑ f : Fin 4096, act (∑ k : Fin 1024, (show FVec Ideal S1024x1024 .bf16 from k0_pay3 x0 x1) (ix2 a k) * (show FVec Ideal S1024x4096 .bf16 from x2) (ix2 k f))
          * (show FVec Ideal S4096x1024 .bf16 from x3) (ix2 f n) := by
  have e0 : View.ld x0 r0_0 = x0 := View.ld_unit_lit _ x0 (by decide)
  have e1 : View.ld x1 r0_1 = x1 := View.ld_unit_lit _ x1 (by decide)
  rw [sum_chunks, resid, k0_pay11, k0_pay13, k0_pay11, e0, e1]
  pointwise [act, k0_pay8, k0_pay14, k0_pay12, k0_pay6, k0_pay4, k0_pay5, k0_pay7, k0_pay2]
  simp only [add_assoc]

/-- What the body stores: the residual `r`, normalised, `r * rsqrt(mean r² + ε) * g`. -/
theorem body_at (x0 : Vec Ideal S1024x1024 .f32) (x1 : Vec Ideal S1x1024 .f32) (x2 : Vec Ideal S1024x4096 .bf16)
    (x3 : Vec Ideal S4096x1024 .bf16) (x4 : Vec Ideal S1x1024 .f32) (y : S1024x1024.Idx) :
    out0_5 x0 x1 x2 x3 x4 y = resid x0 x1 x2 x3 x4 (ix2 (y 0) (y 1))
        * Ideal.rsqrt (Ideal.div (∑ i : Fin 1024, resid x0 x1 x2 x3 x4 (ix2 (y 0) i) * resid x0 x1 x2 x3 x4 (ix2 (y 0) i))
            (Ideal.ofBits FTy.f32 1149239296#32) + Ideal.ofBits FTy.f32 925353388#32)
        * (show FVec Ideal S1x1024 .f32 from x4) (ix2 0 (y 1)) := by
  canon_tiles x h
  obtain rfl : y = x := by blk_ext
  pointwise [k0_pay1, k0_pay9, k0_pay10]

/-- The normalised row `x k * rsqrt(mean x² + ε) * g k` at an index of the staged block. -/
theorem norm_at (x0 : Vec Ideal S1024x1024 .f32) (x1 : Vec Ideal S1x1024 .f32) (a k : Fin 1024) :
    k0_pay3 x0 x1 (ix2 a k) = (show FVec Ideal S1024x1024 .f32 from x0) (ix2 a k)
        * Ideal.rsqrt (Ideal.div (∑ i : Fin 1024, (show FVec Ideal S1024x1024 .f32 from x0) (ix2 a i) * (show FVec Ideal S1024x1024 .f32 from x0) (ix2 a i))
            (Ideal.ofBits FTy.f32 1149239296#32) + Ideal.ofBits FTy.f32 925353388#32)
        * (show FVec Ideal S1x1024 .f32 from x1) (ix2 0 k) := by
  pointwise [k0_pay3, k0_pay2]

/-- The reference's result: the residual after the layer, normalised with the final scale, its two leading axes merged. -/
def ref (x : FVec Ideal S8x4096x1024 .f32) (g : FVec Ideal S1024 .f32) (wu : FVec Ideal S1024x4096 .f32)
    (wd : FVec Ideal S4096x1024 .f32) (gf : FVec Ideal S1024 .f32) : FVec Ideal S32768x1024 .f32 :=
  shapeCast _ (Cert.Mlp.norm (Cert.Mlp.residual x g wu wd) gf) Cert.Reference2Ideal.Gen.shapeCasts_S8x4096x1024_S32768x1024

/-- The reference's residual at an index. -/
theorem residual_at (x : FVec Ideal S8x4096x1024 .f32) (g : FVec Ideal S1024 .f32) (wu : FVec Ideal S1024x4096 .f32)
    (wd : FVec Ideal S4096x1024 .f32) (b : Fin 8) (s : Fin 4096) (n : Fin 1024) :
    Cert.Mlp.residual x g wu wd (ix3 b s n) = x (ix3 b s n)
      + ∑ f : Fin 4096, act (∑ k : Fin 1024, Cert.Mlp.norm x g (ix3 b s k) * wu (ix2 k f)) * wd (ix2 f n) := by
  pointwise [Cert.Mlp.residual, Cert.Mlp.hidden, act]

variable (m : (ℓ : Loc nD τ sig) → Buf (Elt Ideal) ℓ)

/-- The windows' block indices at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- Row `a` of point `t`'s block of the residual is row `1024 t + a` of the flattened residual. -/
theorem block0 (c : Dev nD) (t : Fin cfg0.N) (a k : Fin 1024) (j : S8x4096x1024.Idx)
    (h0 : (j 0 : ℕ) = (t.val * 1024 + a) / 4096) (h1 : (j 1 : ℕ) = (t.val * 1024 + a) % 4096) (h2 : (j 2 : ℕ) = k) :
    iblk m c 0 t (ix2 a k) = m ((c : Thread nD τ).loc main_arg0) j := by
  blk_simp [iblk]
  entry_read
  pointwise
  blk_ext [idx t]

/-- The scale block is the norm's scale. -/
theorem block1 (c : Dev nD) (t : Fin cfg0.N) (k : Fin 1024) :
    iblk m c 1 t (ix2 0 k) = m ((c : Thread nD τ).loc main_arg1) (ix1 k) := by
  blk_simp [iblk]
  entry_read
  pointwise
  blk_ext [idx t]

/-- The first weight block is the whole first weight. -/
theorem block2 (c : Dev nD) (t : Fin cfg0.N) (k : Fin 1024) (f : Fin 4096) :
    iblk m c 2 t (ix2 k f) = m ((c : Thread nD τ).loc main_arg2) (ix2 k f) := by
  blk_simp [iblk]
  entry_read
  pointwise
  blk_ext [idx t]

/-- The second weight block is the whole second weight. -/
theorem block3 (c : Dev nD) (t : Fin cfg0.N) (f : Fin 4096) (n : Fin 1024) :
    iblk m c 3 t (ix2 f n) = m ((c : Thread nD τ).loc main_arg3) (ix2 f n) := by
  blk_simp [iblk]
  entry_read
  pointwise
  blk_ext [idx t]

/-- The final scale's block is the final scale. -/
theorem block4 (c : Dev nD) (t : Fin cfg0.N) (n : Fin 1024) :
    iblk m c 4 t (ix2 0 n) = m ((c : Thread nD τ).loc main_arg4) (ix1 n) := by
  blk_simp [iblk]
  entry_read
  pointwise
  blk_ext [idx t]

/-- The residual the body computes in row `a` of point `t` is the reference's in the row `(b, s)` that sits there. -/
theorem resid_eq (c : Dev nD) (t : Fin cfg0.N) (a n : Fin 1024) (b : Fin 8) (s : Fin 4096)
    (hb : (b : ℕ) = (t.val * 1024 + a) / 4096) (hs : (s : ℕ) = (t.val * 1024 + a) % 4096) :
    resid (iblk m c 0 t) (iblk m c 1 t) (iblk m c 2 t) (iblk m c 3 t) (iblk m c 4 t) (ix2 a n)
      = Cert.Mlp.residual (m ((c : Thread nD τ).loc main_arg0)) (m ((c : Thread nD τ).loc main_arg1)) (m ((c : Thread nD τ).loc main_arg2))
          (m ((c : Thread nD τ).loc main_arg3)) (ix3 b s n) := by
  have hx (k : Fin 1024) := block0 m c t a k (ix3 b s k) hb hs rfl
  rw [resid_at, residual_at]
  pointwise [act]
  simp only [norm_at, hx, block1, block2, block3]
  pointwise [Cert.Mlp.norm]

/-- What the body leaves at block index `y` of point `t` is the reference's entry at the array index `y` sits at. -/
theorem point (c : Dev nD) (t : Fin cfg0.N) (a n : Fin 1024) (j : S32768x1024.Idx)
    (h0 : (j 0 : ℕ) = t.val * 1024 + a) (h1 : (j 1 : ℕ) = n) :
    out0_5 (iblk m c 0 t) (iblk m c 1 t) (iblk m c 2 t) (iblk m c 3 t) (iblk m c 4 t) (ix2 a n)
      = ref (m ((c : Thread nD τ).loc main_arg0)) (m ((c : Thread nD τ).loc main_arg1)) (m ((c : Thread nD τ).loc main_arg2))
          (m ((c : Thread nD τ).loc main_arg3)) (m ((c : Thread nD τ).loc main_arg4)) j := by
  have hr (k : Fin 1024) := resid_eq m c t a k ⟨(j 0 : ℕ) / 4096, by idx_bounds; omega⟩ ⟨(j 0 : ℕ) % 4096, by omega⟩
    (by simp [h0]) (by simp [h0])
  have hn : j 1 = n := Fin.ext h1
  rw [body_at]
  pointwise
  simp only [hr, block4]
  pointwise [ref, Cert.Mlp.norm]
  simp only [hn]

/-- The array after the run is the reference's result. -/
theorem final (c : Dev nD) : (dats m 0 c).arrAt 5 cfg0.N
    = ref (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  have hy : y = ix2 (y 0) (y 1) := by blk_ext
  refine Eq.trans (congrArg _ hy) (point m c t (y 0) (y 1) _ (by blk_simp [idx t]) (by blk_simp [idx t]))

end Cert.MlpFinalNorm

end
-- ==== Proof.NormMatmul.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.OddProjection

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The reference's result, `rmsnorm(x, g) @ w` with the two leading axes of the residual merged. -/
def ref (x : FVec Ideal S8x4096x1024 .f32) (g : FVec Ideal S1024 .f32) (w : FVec Ideal S1024x9216 .f32) :
    FVec Ideal S32768x9216 .f32 :=
  shapeCast _ (Host.dotGeneral Cert.Reference4Ideal.dot_S8x4096x1024_S1024x9216_S8x4096x9216_2_0_01_1_n_n none (mulf (mulf x (broadcastInDim Cert.Reference4Ideal.S8x4096x1024 ![0, 1, 2] Cert.Reference4Ideal.Gen.bcast_S8x4096x1_S8x4096x1024_0_1_2 (Host.rsqrt (addf (Host.divf (broadcastInDim Cert.Reference4Ideal.S8x4096x1 ![0, 1] Cert.Reference4Ideal.Gen.bcast_S8x4096_S8x4096x1_0_1 (Host.reduceAdd (mulf x x) (constant Cert.Reference4Ideal.S_ .f32 0x00000000#32) Cert.Reference4Ideal.Gen.reducesTo_S8x4096x1024_S8x4096_d2 Cert.Reference4Ideal.Gen.h_S_)) (broadcastInDim Cert.Reference4Ideal.S8x4096x1 ![] Cert.Reference4Ideal.Gen.bcast_S_S8x4096x1 (constant Cert.Reference4Ideal.S_ .f32 0x44800000#32))) (broadcastInDim Cert.Reference4Ideal.S8x4096x1 ![] Cert.Reference4Ideal.Gen.bcast_S_S8x4096x1 (constant Cert.Reference4Ideal.S_ .f32 0x3727C5AC#32)))))) (broadcastInDim Cert.Reference4Ideal.S8x4096x1024 ![0, 1, 2] Cert.Reference4Ideal.Gen.bcast_S1x1x1024_S8x4096x1024_0_1_2 (broadcastInDim Cert.Reference4Ideal.S1x1x1024 ![2] Cert.Reference4Ideal.Gen.bcast_S1024_S1x1x1024_2 g))) w) Cert.Reference4Ideal.Gen.shapeCasts_S8x4096x9216_S32768x9216

/-- The block of every window at every step: step `t`'s rows, and all of the scale and the weight. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- A step's rows are those of the residual stream. -/
theorem block0 (c : Dev nD) (t : Fin cfg0.N) (a : Fin 256) (k : Fin 1024) (j : S8x4096x1024.Idx)
    (h0 : (j 0 : ℕ) = (t.val * 256 + a) / 4096) (h1 : (j 1 : ℕ) = (t.val * 256 + a) % 4096) (h2 : (j 2 : ℕ) = k) :
    iblk m c 0 t (ix2 a k) = m ((c : Thread nD τ).loc main_arg0) j := by
  blk_simp [iblk]
  entry_read
  pointwise
  blk_ext [idx t]

/-- Every step reads the whole norm scale. -/
theorem block1 (c : Dev nD) (t : Fin cfg0.N) (k : Fin 1024) :
    iblk m c 1 t (ix2 0 k) = m ((c : Thread nD τ).loc main_arg1) (ix1 k) := by
  blk_simp [iblk]
  entry_read
  pointwise
  blk_ext [idx t]

/-- Every step reads the whole weight. -/
theorem block2 (c : Dev nD) (t : Fin cfg0.N) (k : Fin 1024) (n : Fin 9216) :
    iblk m c 2 t (ix2 k n) = m ((c : Thread nD τ).loc main_arg2) (ix2 k n) := by
  blk_simp [iblk]
  entry_read
  pointwise
  blk_ext [idx t]

/-- A row of the product over the staged blocks, `∑ k, x k * rsqrt(mean x² + ε) * g k * w k n`, is the reference's
entry at the array index `j` that row and column sit at. -/
theorem core (c : Dev nD) (t : Fin cfg0.N) (a : Fin 256) (n : Fin 9216) (j : S32768x9216.Idx)
    (h0 : (j 0 : ℕ) = t.val * 256 + a) (h1 : (j 1 : ℕ) = n) :
    (∑ k : Fin 1024, (show FVec Ideal S256x1024 .f32 from iblk m c 0 t) (ix2 a k)
        * Ideal.rsqrt (Ideal.div (∑ i : Fin 1024, (show FVec Ideal S256x1024 .f32 from iblk m c 0 t) (ix2 a i) * (show FVec Ideal S256x1024 .f32 from iblk m c 0 t) (ix2 a i))
            (Ideal.ofBits FTy.f32 1149239296#32) + Ideal.ofBits FTy.f32 925353388#32)
        * (show FVec Ideal S1x1024 .f32 from iblk m c 1 t) (ix2 0 k) * (show FVec Ideal S1024x9216 .bf16 from iblk m c 2 t) (ix2 k n))
      = ref (m ((c : Thread nD τ).loc main_arg0)) (m ((c : Thread nD τ).loc main_arg1)) (m ((c : Thread nD τ).loc main_arg2)) j := by
  have hx (k : Fin 1024) := block0 m c t a k (ix3 ⟨(j 0 : ℕ) / 4096, by idx_bounds; omega⟩ ⟨(j 0 : ℕ) % 4096, by omega⟩ k)
    (by simp [h0]) (by simp [h0]) (by simp)
  have hn : j 1 = n := Fin.ext h1
  simp only [hx, block1, block2]
  pointwise [ref]
  simp only [hn]

/-- What a step stores at an index is the reference's result there. -/
theorem point (c : Dev nD) (t : Fin cfg0.N) (y) : out0_3 (iblk m c 0 t) (iblk m c 1 t) (iblk m c 2 t) y
    = ref (m ((c : Thread nD τ).loc main_arg0)) (m ((c : Thread nD τ).loc main_arg1)) (m ((c : Thread nD τ).loc main_arg2))
      (((cfg0.win 3).blk t).view.emb y) := by
  rw [← core m c t (y 0) (y 1) _ (by blk_simp [idx t]) (by blk_simp [idx t])]
  canon_tiles x h
  all_goals
    open_payloads
    pointwise
    blk_point []

/-- The array after the run is the reference's result. -/
theorem final (c : Dev nD) : (dats m 0 c).arrAt 3 cfg0.N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.OddProjection

end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.AttentionClaim
public import proofs.«01_k».proof.Proof.Gen.Kernel5.Frame
public import proofs.«01_k».proof.Proof.EvenProjection
public import proofs.«01_k».proof.Proof.Gen.Kernel6.Frame
public import proofs.«01_k».proof.Proof.EvenOut
public import proofs.«01_k».proof.Proof.Gen.Kernel7.Frame
public import proofs.«01_k».proof.Proof.OddOut
public import proofs.«01_k».proof.Proof.Gen.Kernel8.Frame
public import proofs.«01_k».proof.Proof.WindowClaim
public import proofs.«01_k».proof.Proof.Mlp
public import proofs.«01_k».proof.Proof.MlpFinalNorm
public import proofs.«01_k».proof.Proof.NormMatmul
public import Idealize.ShloMosaic.Lib.Claim

@[expose] public section

set_option maxRecDepth 16384

open Idealize.ShloMosaic Idealize.ShloMosaic.TcCoe Idealize.SL.Sem

noncomputable section

namespace Cert.Proof

/-- Layer 1's MLP with the final normalisation computes its reference. -/
theorem mlpFinalNorm : algebraic_Kernel2Ideal_Reference2Ideal := by
  pair_intro
  · run_from Cert.Kernel2Ideal.Gen.run_main m g
  · run_from Cert.Reference2Ideal.Value.run m' g'
    obtain ⟨h0, h1, h2, h3, h4⟩ := hagree c
    refine Eq.trans ?_ (Cert.MlpFinalNorm.final m c).symm
    unfold Cert.Reference2Ideal.Value.res_main_v31
    rw [h0, h1, h2, h3, h4]
    rfl

/-- Layer 0's MLP computes its reference. -/
theorem mlp : algebraic_Kernel3Ideal_Reference3Ideal := by
  pair_intro
  · run_from Cert.Kernel3Ideal.Gen.run_main m g
  · run_from Cert.Reference3Ideal.Value.run m' g'
    exact (Cert.Mlp.final m c).symm

/-- The odd layer's normalisation and input projection computes its reference. -/
theorem oddProjection : algebraic_Kernel4Ideal_Reference4Ideal := by
  pair_intro
  · run_from Cert.Kernel4Ideal.Gen.run_main m g
  · run_from Cert.Reference4Ideal.Value.run m' g'
    exact (Cert.OddProjection.final m c).symm

/-- The attention's reference terminates, leaves its argument unchanged and every counter at zero. -/
theorem frameReference : quiescent_ReferenceIdeal := fun m g _ =>
  (θ_run _ _ _).mono (fun r h => ⟨fun c => (h c).2.2, sem_eq_zero_of_no_sems (by decide) r.2⟩)
    (Cert.ReferenceIdeal.Value.run m g)

/-- Layer 1's MLP's reference terminates, leaves its arguments unchanged and every counter at zero. -/
theorem frameReference2 : quiescent_Reference2Ideal := fun m g _ =>
  (θ_run _ _ _).mono (fun r h => ⟨fun c => (h c).2, sem_eq_zero_of_no_sems (by decide) r.2⟩)
    (Cert.Reference2Ideal.Value.run m g)

/-- Layer 0's MLP's reference terminates, leaves its arguments unchanged and every counter at zero. -/
theorem frameReference3 : quiescent_Reference3Ideal := fun m g _ =>
  (θ_run _ _ _).mono (fun r h => ⟨fun c => (h c).2, sem_eq_zero_of_no_sems (by decide) r.2⟩)
    (Cert.Reference3Ideal.Value.run m g)

/-- The odd projection's reference terminates, leaves its arguments unchanged and every counter at zero. -/
theorem frameReference4 : quiescent_Reference4Ideal := fun m g _ =>
  (θ_run _ _ _).mono (fun r h => ⟨fun c => (h c).2, sem_eq_zero_of_no_sems (by decide) r.2⟩)
    (Cert.Reference4Ideal.Value.run m g)

/-- The even layer's output projection computes its reference. -/
theorem evenOut : algebraic_Kernel6Ideal_Reference6Ideal := by
  pair_intro
  · run_from Cert.Kernel6Ideal.Gen.run_main m g
  · run_from Cert.Reference6Ideal.Value.run m' g'
    obtain ⟨h0, h1, h2, h3⟩ := hagree c
    refine Eq.trans ?_ (Cert.EvenOut.final m c).symm
    rw [← h0, ← h1, ← h2, ← h3]
    rfl

/-- The odd layer's merge of its head groups and output projection computes its reference. -/
theorem oddOut : algebraic_Kernel7Ideal_Reference7Ideal := by
  pair_intro
  · run_from Cert.Kernel7Ideal.Gen.run_main m g
  · run_from Cert.Reference7Ideal.Value.run m' g'
    obtain ⟨h0, h1, h2, h3, h4, h5, h6, h7⟩ := hagree c
    refine Eq.trans ?_ (Cert.OddOut.final m c).symm
    rw [Cert.OddOut.ref_eq, h0, h1, h2, h3, h4, h5, h6, h7]

/-- The even layer's projection's reference terminates, leaves its arguments unchanged and every counter at zero. -/
theorem frameReference5 : quiescent_Reference5Ideal := fun m g _ =>
  (θ_run _ _ _).mono (fun r h => ⟨fun c => (h c).2.2, sem_eq_zero_of_no_sems (by decide) r.2⟩)
    (Cert.Reference5Ideal.Value.run m g)

/-- The even layer's output projection's reference terminates, leaves its arguments unchanged and every counter at zero. -/
theorem frameReference6 : quiescent_Reference6Ideal := fun m g _ =>
  (θ_run _ _ _).mono (fun r h => ⟨fun c => (h c).2, sem_eq_zero_of_no_sems (by decide) r.2⟩)
    (Cert.Reference6Ideal.Value.run m g)

/-- The odd layer's output projection's reference terminates, leaves its arguments unchanged and every counter at zero. -/
theorem frameReference7 : quiescent_Reference7Ideal := fun m g _ =>
  (θ_run _ _ _).mono (fun r h => ⟨fun c => (h c).2, sem_eq_zero_of_no_sems (by decide) r.2⟩)
    (Cert.Reference7Ideal.Value.run m g)

/-- The sliding-window attention's reference terminates, leaves its arguments unchanged and every counter at zero. -/
theorem frameReference8 : quiescent_Reference8Ideal := fun m g _ =>
  (θ_run _ _ _).mono (fun r h => ⟨fun c => (h c).2, sem_eq_zero_of_no_sems (by decide) r.2⟩)
    (Cert.Reference8Ideal.Value.run m g)

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Attention.preFacts, Cert.Window.preFacts,
    fun m g _ => Cert.Kernel.Gen.frame m g, fun m g _ => Cert.KernelIdeal.Gen.frame m g,
    fun m g _ => Cert.KernelIdeal.Gen.frame m g, frameReference, fun m g _ => frameReference m g trivial,
    fun m g _ => Cert.Kernel2.Gen.frame m g, fun m g _ => Cert.Kernel2Ideal.Gen.frame m g, frameReference2,
    fun m g _ => Cert.Kernel3.Gen.frame m g, fun m g _ => Cert.Kernel3Ideal.Gen.frame m g, frameReference3,
    fun m g _ => Cert.Kernel4.Gen.frame m g, fun m g _ => Cert.Kernel4Ideal.Gen.frame m g, frameReference4,
    fun m g _ => Cert.Kernel5.Gen.frame m g, fun m g _ => Cert.Kernel5Ideal.Gen.frame m g, frameReference5,
    fun m g _ => Cert.Kernel6.Gen.frame m g, fun m g _ => Cert.Kernel6Ideal.Gen.frame m g, frameReference6,
    fun m g _ => Cert.Kernel7.Gen.frame m g, fun m g _ => Cert.Kernel7Ideal.Gen.frame m g, frameReference7,
    fun m g _ => Cert.Kernel8.Gen.frame m g, fun m g _ => Cert.Kernel8Ideal.Gen.frame m g,
    fun m g _ => Cert.Kernel8Ideal.Gen.frame m g, frameReference8, fun m g _ => frameReference8 m g trivial,
    trivial, Cert.Attention.attention, trivial, mlpFinalNorm, trivial, mlp, trivial, oddProjection,
    trivial, Cert.EvenProjection.evenProjection, trivial, evenOut, trivial, oddOut, trivial, Cert.Window.window⟩

end Cert.Proof

end
